-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)) (v5 : (c : Dev Cert.Kernel5Ideal.nD) → Buf (Elt Ideal) ((c.tc : Thread Cert.Kernel5Ideal.nD Cert.Kernel5Ideal.τ).loc Cert.Kernel5Ideal.main_v8_5)) (v6 : (c : Dev Cert.Kernel5Ideal.nD) → Buf (Elt Ideal) ((c.tc : Thread Cert.Kernel5Ideal.nD Cert.Kernel5Ideal.τ).loc Cert.Kernel5Ideal.main_v8_6)) (v7 : (c : Dev Cert.Kernel5Ideal.nD) → Buf (Elt Ideal) ((c.tc : Thread Cert.Kernel5Ideal.nD Cert.Kernel5Ideal.τ).loc Cert.Kernel5Ideal.main_v8_7)) (v8 : (c : Dev Cert.Kernel5Ideal.nD) → Buf (Elt Ideal) ((c.tc : Thread Cert.Kernel5Ideal.nD Cert.Kernel5Ideal.τ).loc Cert.Kernel5Ideal.main_v8_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_v8_5) = v5 c
          ∧ r.2.mem ((c.tc : Thread Cert.Kernel5Ideal.nD Cert.Kernel5Ideal.τ).loc Cert.Kernel5Ideal.main_v8_6) = v6 c
          ∧ r.2.mem ((c.tc : Thread Cert.Kernel5Ideal.nD Cert.Kernel5Ideal.τ).loc Cert.Kernel5Ideal.main_v8_7) = v7 c
          ∧ r.2.mem ((c.tc : Thread Cert.Kernel5Ideal.nD Cert.Kernel5Ideal.τ).loc Cert.Kernel5Ideal.main_v8_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_v78) = v2 c
          ∧ r.2.mem ((c.tc : Thread Cert.Reference5Ideal.nD Cert.Reference5Ideal.τ).loc Cert.Reference5Ideal.main_v79) = v3 c
          ∧ r.2.mem ((c.tc : Thread Cert.Reference5Ideal.nD Cert.Reference5Ideal.τ).loc Cert.Reference5Ideal.main_v80) = v4 c
          ∧ r.2.mem ((c.tc : Thread Cert.Reference5Ideal.nD Cert.Reference5Ideal.τ).loc Cert.Reference5Ideal.main_v83) = v5 c
          ∧ r.2.mem ((c.tc : Thread Cert.Reference5Ideal.nD Cert.Reference5Ideal.τ).loc Cert.Reference5Ideal.main_v86) = v6 c
          ∧ r.2.mem ((c.tc : Thread Cert.Reference5Ideal.nD Cert.Reference5Ideal.τ).loc Cert.Reference5Ideal.main_v89) = v7 c
          ∧ r.2.mem ((c.tc : Thread Cert.Reference5Ideal.nD Cert.Reference5Ideal.τ).loc Cert.Reference5Ideal.main_v91) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x8192x512 : Shape := ⟨3, ![2, 8192, 512]⟩
abbrev S2x32x64 : Shape := ⟨3, ![2, 32, 64]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S8x8 : Shape := ⟨2, ![8, 8]⟩
abbrev S_ : Shape := ⟨0, ![]⟩
abbrev S1x2048 : Shape := ⟨2, ![1, 2048]⟩
abbrev S512x64 : Shape := ⟨2, ![512, 64]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S2x1x2048 : Shape := ⟨3, ![2, 1, 2048]⟩
abbrev S1x256x512 : Shape := ⟨3, ![1, 256, 512]⟩
abbrev S1x1x2048 : Shape := ⟨3, ![1, 1, 2048]⟩
abbrev S256x2048 : Shape := ⟨2, ![256, 2048]⟩
abbrev S8x2048 : Shape := ⟨2, ![8, 2048]⟩
abbrev S256x512 : Shape := ⟨2, ![256, 512]⟩
abbrev S256x128 : Shape := ⟨2, ![256, 128]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩

abbrev nBuf : Space → Nat
  | .hbm => 81
  | .vmem => 24
  | .smem => 0
  | _ => 0

abbrev bufTy : (tb : Table) → Fin (tcTables nBuf tb) → BufTy
  | .hbm, ⟨0, _⟩ => ⟨S2x8192x512, .f32⟩
  | .hbm, ⟨1, _⟩ => ⟨S2x32x64, .f32⟩
  | .hbm, ⟨2, _⟩ => ⟨S2x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S32x16, .f32⟩
  | .hbm, ⟨10, _⟩ => ⟨S512x512, .f32⟩
  | .hbm, ⟨11, _⟩ => ⟨S512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S1x2048, .f32⟩
  | .hbm, ⟨20, _⟩ => ⟨S1x2048, .f32⟩
  | .hbm, ⟨21, _⟩ => ⟨S32x16x64, .f32⟩
  | .hbm, ⟨22, _⟩ => ⟨S512x64, .f32⟩
  | .hbm, ⟨23, _⟩ => ⟨S4x8x16x64, .f32⟩
  | .hbm, ⟨24, _⟩ => ⟨S4x8x16x1x64, .f32⟩
  | .hbm, ⟨25, _⟩ => ⟨S1x8x1x8x1, .f32⟩
  | .hbm, ⟨26, _⟩ => ⟨S4x8x16x8x64, .f32⟩
  | .hbm, ⟨27, _⟩ => ⟨S4x8x16x8x64, .f32⟩
  | .hbm, ⟨28, _⟩ => ⟨S4x8x16x8x64, .f32⟩
  | .hbm, ⟨29, _⟩ => ⟨S4x128x512, .f32⟩
  | .hbm, ⟨30, _⟩ => ⟨S4x128x512, .bf16⟩
  | .hbm, ⟨31, _⟩ => ⟨S32x16x64, .f32⟩
  | .hbm, ⟨32, _⟩ => ⟨S512x64, .f32⟩
  | .hbm, ⟨33, _⟩ => ⟨S4x8x16x64, .f32⟩
  | .hbm, ⟨34, _⟩ => ⟨S4x8x16x1x64, .f32⟩
  | .hbm, ⟨35, _⟩ => ⟨S1x8x1x8x1, .f32⟩
  | .hbm, ⟨36, _⟩ => ⟨S4x8x16x8x64, .f32⟩
  | .hbm, ⟨37, _⟩ => ⟨S4x8x16x8x64, .f32⟩
  | .hbm, ⟨38, _⟩ => ⟨S4x8x16x8x64, .f32⟩
  | .hbm, ⟨39, _⟩ => ⟨S4x128x512, .f32⟩
  | .hbm, ⟨40, _⟩ => ⟨S4x128x512, .bf16⟩
  | .hbm, ⟨41, _⟩ => ⟨S8x8, .i32⟩
  | .hbm, ⟨42, _⟩ => ⟨S8x8, .i32⟩
  | .hbm, ⟨43, _⟩ => ⟨S_, .i32⟩
  | .hbm, ⟨44, _⟩ => ⟨S8x8, .i32⟩
  | .hbm, ⟨45, _⟩ => ⟨S8x8, .i32⟩
  | .hbm, ⟨46, _⟩ => ⟨S8x8, .i1⟩
  | .hbm, ⟨47, _⟩ => ⟨S8x8, .f32⟩
  | .hbm, ⟨48, _⟩ => ⟨S4x8x16x64, .f32⟩
  | .hbm, ⟨49, _⟩ => ⟨S4x8x64x16, .f32⟩
  | .hbm, ⟨50, _⟩ => ⟨S4x8x64x1x16, .f32⟩
  | .hbm, ⟨51, _⟩ => ⟨S1x8x1x8x1, .f32⟩
  | .hbm, ⟨52, _⟩ => ⟨S4x8x64x8x16, .f32⟩
  | .hbm, ⟨53, _⟩ => ⟨S4x8x64x8x16, .f32⟩
  | .hbm, ⟨54, _⟩ => ⟨S4x8x64x8x16, .f32⟩
  | .hbm, ⟨55, _⟩ => ⟨S4x512x128, .f32⟩
  | .hbm, ⟨56, _⟩ => ⟨S4x512x128, .bf16⟩
  | .hbm, ⟨57, _⟩ => ⟨S8x8, .i32⟩
  | .hbm, ⟨58, _⟩ => ⟨S8x8, .i32⟩
  | .hbm, ⟨59, _⟩ => ⟨S_, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S8x8, .f32⟩
  | .hbm, ⟨64, _⟩ => ⟨S4x8x16x64, .f32⟩
  | .hbm, ⟨65, _⟩ => ⟨S4x8x64x16, .f32⟩
  | .hbm, ⟨66, _⟩ => ⟨S4x8x64x1x16, .f32⟩
  | .hbm, ⟨67, _⟩ => ⟨S1x8x1x8x1, .f32⟩
  | .hbm, ⟨68, _⟩ => ⟨S4x8x64x8x16, .f32⟩
  | .hbm, ⟨69, _⟩ => ⟨S4x8x64x8x16, .f32⟩
  | .hbm, ⟨70, _⟩ => ⟨S4x8x64x8x16, .f32⟩
  | .hbm, ⟨71, _⟩ => ⟨S4x512x128, .f32⟩
  | .hbm, ⟨72, _⟩ => ⟨S4x512x128, .bf16⟩
  | .hbm, ⟨73, _⟩ => ⟨S1x512, .f32⟩
  | .hbm, ⟨74, _⟩ => ⟨S512x512, .bf16⟩
  | .hbm, ⟨75, _⟩ => ⟨S1x512, .f32⟩
  | .hbm, ⟨76, _⟩ => ⟨S2x1x2048, .f32⟩
  | .hbm, ⟨77, _⟩ => ⟨S2x1x2048, .f32⟩
  | .hbm, ⟨78, _⟩ => ⟨S2x8192x512, .f32⟩
  | .hbm, ⟨79, _⟩ => ⟨S2x1x2048, .f32⟩
  | .hbm, ⟨80, _⟩ => ⟨S2x1x2048, .f32⟩
  | .local _ .vmem, ⟨0, _⟩ => ⟨S1x256x512, .f32⟩
  | .local _ .vmem, ⟨1, _⟩ => ⟨S1x256x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S4x128x512, .bf16⟩
  | .local _ .vmem, ⟨9, _⟩ => ⟨S4x128x512, .bf16⟩
  | .local _ .vmem, ⟨10, _⟩ => ⟨S4x512x128, .bf16⟩
  | .local _ .vmem, ⟨11, _⟩ => ⟨S4x512x128, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S1x256x512, .f32⟩
  | .local _ .vmem, ⟨16, _⟩ => ⟨S1x256x512, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S256x2048, .f32⟩
  | .local _ .vmem, ⟨22, _⟩ => ⟨S256x2048, .f32⟩
  | .local _ .vmem, ⟨23, _⟩ => ⟨S8x2048, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_52 : BitVec 32 := 0#32
  let c256_i32 : BitVec 32 := 256#32
  let v64 : BitVec 32 := Scalar.addi c0_i32_52 c256_i32
  let c1_i32 : BitVec 32 := 1#32
  ⟨c0_i32_52, v64, c1_i32⟩
def k0_off1 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let v157 : Index := Scalar.indexCast arg20
  let c0_126 : Index := 0#32
  ![v157.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S2x8192x512 : Shape := ⟨3, ![2, 8192, 512]⟩
abbrev S2x32x64 : Shape := ⟨3, ![2, 32, 64]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S2x8192x32x16 : Shape := ⟨4, ![2, 8192, 32, 16]⟩
abbrev S32x64x2x8192 : Shape := ⟨4, ![32, 64, 2, 8192]⟩
abbrev S8192x2x32x64 : Shape := ⟨4, ![8192, 2, 32, 64]⟩
abbrev S_ : Shape := ⟨0, ![]⟩
abbrev S1x2x32x64 : Shape := ⟨4, ![1, 2, 32, 64]⟩
abbrev S1x32x64 : Shape := ⟨3, ![1, 32, 64]⟩
abbrev S32x16x8192x2 : Shape := ⟨4, ![32, 16, 8192, 2]⟩
abbrev S1x1x32x16 : Shape := ⟨4, ![1, 1, 32, 16]⟩
abbrev S1x1x512 : Shape := ⟨3, ![1, 1, 512]⟩
abbrev S2x1x2048 : Shape := ⟨3, ![2, 1, 2048]⟩

abbrev nBuf : Space → Nat
  | .hbm => 114
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x32x64, .f32⟩
  | .hbm, ⟨2, _⟩ => ⟨S2x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S32x16, .f32⟩
  | .hbm, ⟨10, _⟩ => ⟨S512x512, .f32⟩
  | .hbm, ⟨11, _⟩ => ⟨S512, .f32⟩
  | .hbm, ⟨12, _⟩ => ⟨S2x8192x32x16, .f32⟩
  | .hbm, ⟨13, _⟩ => ⟨S32x64x2x8192, .f32⟩
  | .hbm, ⟨14, _⟩ => ⟨S8192x2x32x64, .f32⟩
  | .hbm, ⟨15, _⟩ => ⟨S32x64x2x8192, .f32⟩
  | .hbm, ⟨16, _⟩ => ⟨S8192x2x32x64, .f32⟩
  | .hbm, ⟨17, _⟩ => ⟨S_, .f32⟩
  | .hbm, ⟨18, _⟩ => ⟨S8192x2x32x64, .f32⟩
  | .hbm, ⟨19, _⟩ => ⟨S_, .f32⟩
  | .hbm, ⟨20, _⟩ => ⟨S8192x2x32x64, .f32⟩
  | .hbm, ⟨21, _⟩ => ⟨S_, .i32⟩
  | .hbm, ⟨22, _⟩ => ⟨S8192x2x32x64, .f32⟩
  | .hbm, ⟨23, _⟩ => ⟨S8192x2x32x64, .f32⟩
  | .hbm, ⟨24, _⟩ => ⟨S32x64, .f32⟩
  | .hbm, ⟨25, _⟩ => ⟨S32x64, .f32⟩
  | .hbm, ⟨26, _⟩ => ⟨S_, .i32⟩
  | .hbm, ⟨27, _⟩ => ⟨S2x32x64, .f32⟩
  | .hbm, ⟨28, _⟩ => ⟨S2x32x64, .f32⟩
  | .hbm, ⟨29, _⟩ => ⟨S8192x2x32x64, .f32⟩
  | .hbm, ⟨30, _⟩ => ⟨S8192x2x32x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x2x32x64, .f32⟩
  | .hbm, ⟨37, _⟩ => ⟨S2x32x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x2x32x64, .f32⟩
  | .hbm, ⟨42, _⟩ => ⟨S2x32x64, .f32⟩
  | .hbm, ⟨43, _⟩ => ⟨S1x32x64, .f32⟩
  | .hbm, ⟨44, _⟩ => ⟨S2x32x64, .f32⟩
  | .hbm, ⟨45, _⟩ => ⟨S2x32x64, .f32⟩
  | .hbm, ⟨46, _⟩ => ⟨S1x32x64, .f32⟩
  | .hbm, ⟨47, _⟩ => ⟨S2x32x64, .f32⟩
  | .hbm, ⟨48, _⟩ => ⟨S2x32x64, .f32⟩
  | .hbm, ⟨49, _⟩ => ⟨S2x32x64, .f32⟩
  | .hbm, ⟨50, _⟩ => ⟨S2x32x64, .f32⟩
  | .hbm, ⟨51, _⟩ => ⟨S1x32x64, .f32⟩
  | .hbm, ⟨52, _⟩ => ⟨S2x32x64, .f32⟩
  | .hbm, ⟨53, _⟩ => ⟨S2x32x64, .f32⟩
  | .hbm, ⟨54, _⟩ => ⟨S1x32x64, .f32⟩
  | .hbm, ⟨55, _⟩ => ⟨S2x32x64, .f32⟩
  | .hbm, ⟨56, _⟩ => ⟨S2x32x64, .f32⟩
  | .hbm, ⟨57, _⟩ => ⟨S2x32x64, .f32⟩
  | .hbm, ⟨58, _⟩ => ⟨S2x32x64, .f32⟩
  | .hbm, ⟨59, _⟩ => ⟨S1x2x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8192x2x32x64, .f32⟩
  | .hbm, ⟨64, _⟩ => ⟨S1x2x32x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S8192x2x32x64, .f32⟩
  | .hbm, ⟨69, _⟩ => ⟨S_, .i32⟩
  | .hbm, ⟨70, _⟩ => ⟨S_, .i32⟩
  | .hbm, ⟨71, _⟩ => ⟨S32x16x8192x2, .f32⟩
  | .hbm, ⟨72, _⟩ => ⟨S2x8192x32x16, .f32⟩
  | .hbm, ⟨73, _⟩ => ⟨S32x16x8192x2, .f32⟩
  | .hbm, ⟨74, _⟩ => ⟨S2x8192x32x16, .f32⟩
  | .hbm, ⟨75, _⟩ => ⟨S2x8192x32x16, .f32⟩
  | .hbm, ⟨76, _⟩ => ⟨S2x8192x32x16, .f32⟩
  | .hbm, ⟨77, _⟩ => ⟨S1x1x32x16, .f32⟩
  | .hbm, ⟨78, _⟩ => ⟨S2x8192x32x16, .f32⟩
  | .hbm, ⟨79, _⟩ => ⟨S2x8192x32x16, .f32⟩
  | .hbm, ⟨80, _⟩ => ⟨S2x8192x32x16, .f32⟩
  | .hbm, ⟨81, _⟩ => ⟨S2x8192x512, .f32⟩
  | .hbm, ⟨82, _⟩ => ⟨S2x8192x512, .f32⟩
  | .hbm, ⟨83, _⟩ => ⟨S2x8192x512, .f32⟩
  | .hbm, ⟨84, _⟩ => ⟨S_, .f32⟩
  | .hbm, ⟨85, _⟩ => ⟨S2x8192x512, .f32⟩
  | .hbm, ⟨86, _⟩ => ⟨S2x8192x512, .f32⟩
  | .hbm, ⟨87, _⟩ => ⟨S2x8192x512, .f32⟩
  | .hbm, ⟨88, _⟩ => ⟨S_, .f32⟩
  | .hbm, ⟨89, _⟩ => ⟨S2x8192x512, .f32⟩
  | .hbm, ⟨90, _⟩ => ⟨S2x8192x512, .f32⟩
  | .hbm, ⟨91, _⟩ => ⟨S2x8192x512, .f32⟩
  | .hbm, ⟨92, _⟩ => ⟨S_, .f32⟩
  | .hbm, ⟨93, _⟩ => ⟨S2x8192x512, .f32⟩
  | .hbm, ⟨94, _⟩ => ⟨S2x8192x512, .f32⟩
  | .hbm, ⟨95, _⟩ => ⟨S_, .f32⟩
  | .hbm, ⟨96, _⟩ => ⟨S2x8192x512, .f32⟩
  | .hbm, ⟨97, _⟩ => ⟨S2x8192x512, .f32⟩
  | .hbm, ⟨98, _⟩ => ⟨S2x8192x512, .f32⟩
  | .hbm, ⟨99, _⟩ => ⟨S2x8192x512, .f32⟩
  | .hbm, ⟨100, _⟩ => ⟨S1x1x512, .f32⟩
  | .hbm, ⟨101, _⟩ => ⟨S2x8192x512, .f32⟩
  | .hbm, ⟨102, _⟩ => ⟨S2x8192x512, .f32⟩
  | .hbm, ⟨103, _⟩ => ⟨S2x8192x512, .f32⟩
  | .hbm, ⟨104, _⟩ => ⟨S2x8192x512, .f32⟩
  | .hbm, ⟨105, _⟩ => ⟨S_, .f32⟩
  | .hbm, ⟨106, _⟩ => ⟨S2x8192x512, .f32⟩
  | .hbm, ⟨107, _⟩ => ⟨S2x8192x512, .f32⟩
  | .hbm, ⟨108, _⟩ => ⟨S_, .f32⟩
  | .hbm, ⟨109, _⟩ => ⟨S2x8192x512, .f32⟩
  | .hbm, ⟨110, _⟩ => ⟨S2x8192x512, .f32⟩
  | .hbm, ⟨111, _⟩ => ⟨S2x8192x512, .f32⟩
  | .hbm, ⟨112, _⟩ => ⟨S2x1x2048, .f32⟩
  | .hbm, ⟨113, _⟩ => ⟨S2x1x2048, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_c : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_v7_7 : Ref sig .tc := ⟨.hbm, 29, rfl⟩
abbrev main_v7_8 : Ref sig .tc := ⟨.hbm, 30, rfl⟩
abbrev main_while0c_c_15 : Ref sig .tc := ⟨.hbm, 31, rfl⟩
abbrev main_while0c_v45 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v45 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v46 : Ref sig .tc := ⟨.hbm, 42, rfl⟩
abbrev main_while0b_v47 : Ref sig .tc := ⟨.hbm, 43, rfl⟩
abbrev main_while0b_v48 : Ref sig .tc := ⟨.hbm, 44, rfl⟩
abbrev main_while0b_v49 : Ref sig .tc := ⟨.hbm, 45, rfl⟩
abbrev main_while0b_v50 : Ref sig .tc := ⟨.hbm, 46, rfl⟩
abbrev main_while0b_v51 : Ref sig .tc := ⟨.hbm, 47, rfl⟩
abbrev main_while0b_v52 : Ref sig .tc := ⟨.hbm, 48, rfl⟩
abbrev main_while0b_v53 : Ref sig .tc := ⟨.hbm, 49, rfl⟩
abbrev main_while0b_v54 : Ref sig .tc := ⟨.hbm, 50, rfl⟩
abbrev main_while0b_v55 : Ref sig .tc := ⟨.hbm, 51, rfl⟩
abbrev main_while0b_v56 : Ref sig .tc := ⟨.hbm, 52, rfl⟩
abbrev main_while0b_v57 : Ref sig .tc := ⟨.hbm, 53, rfl⟩
abbrev main_while0b_v58 : Ref sig .tc := ⟨.hbm, 54, rfl⟩
abbrev main_while0b_v59 : Ref sig .tc := ⟨.hbm, 55, rfl⟩
abbrev main_while0b_v60 : Ref sig .tc := ⟨.hbm, 56, rfl⟩
abbrev main_while0b_v61 : Ref sig .tc := ⟨.hbm, 57, rfl⟩
abbrev main_while0b_v62 : Ref sig .tc := ⟨.hbm, 58, rfl⟩
abbrev main_while0b_call2_v0 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_v63 : Ref sig .tc := ⟨.hbm, 63, rfl⟩
abbrev main_while0b_call3_v0 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_v64 : Ref sig .tc := ⟨.hbm, 68, rfl⟩
abbrev main_while0b_c_15 : Ref sig .tc := ⟨.hbm, 69, rfl⟩
abbrev main_while0b_v65 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_cst_1 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_cst_2 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_3 : Ref sig .tc := ⟨.hbm, 92, rfl⟩
abbrev main_v27 : Ref sig .tc := ⟨.hbm, 93, rfl⟩
abbrev main_v28 : Ref sig .tc := ⟨.hbm, 94, rfl⟩
abbrev main_cst_4 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_5 : Ref sig .tc := ⟨.hbm, 105, rfl⟩
abbrev main_v38 : Ref sig .tc := ⟨.hbm, 106, rfl⟩
abbrev main_v39 : Ref sig .tc := ⟨.hbm, 107, rfl⟩
abbrev main_cst_6 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x1024 : Shape := ⟨3, ![2, 8192, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x8192x1024 : Shape := ⟨3, ![2, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x4096, .f32⟩
  | .hbm, ⟨22, _⟩ => ⟨S_, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x8192x1536 : Shape := ⟨3, ![2, 8192, 1536]⟩
abbrev S1536x1024 : Shape := ⟨2, ![1536, 1024]⟩
abbrev S16384x1024 : Shape := ⟨2, ![16384, 1024]⟩
abbrev S16384x512 : Shape := ⟨2, ![16384, 512]⟩
abbrev S16384x1536 : Shape := ⟨2, ![16384, 1536]⟩
abbrev S512x1024 : Shape := ⟨2, ![512, 1024]⟩
abbrev S512x512 : Shape := ⟨2, ![512, 512]⟩
abbrev S512x1536 : Shape := ⟨2, ![512, 1536]⟩

abbrev nBuf : Space → Nat
  | .hbm => 13
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x1536, .f32⟩
  | .hbm, ⟨5, _⟩ => ⟨S1536x1024, .f32⟩
  | .hbm, ⟨6, _⟩ => ⟨S16384x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x1536, .f32⟩
  | .hbm, ⟨11, _⟩ => ⟨S1536x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S1536x1024, .bf16⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S2x8192x512 : Shape := ⟨3, ![2, 8192, 512]⟩
abbrev S2x8192x1536 : Shape := ⟨3, ![2, 8192, 1536]⟩
abbrev S1536x1024 : Shape := ⟨2, ![1536, 1024]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x1536, .f32⟩
  | .hbm, ⟨5, _⟩ => ⟨S1536x1024, .f32⟩
  | .hbm, ⟨6, _⟩ => ⟨S2x8192x1536, .f32⟩
  | .hbm, ⟨7, _⟩ => ⟨S2x8192x1536, .f32⟩
  | .hbm, ⟨8, _⟩ => ⟨S2x8192x1024, .f32⟩
  | .hbm, ⟨9, _⟩ => ⟨S2x8192x1024, .f32⟩
  | .hbm, ⟨10, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S512x1024, .f32⟩
  | .hbm, ⟨4, _⟩ => ⟨S1024x1024, .bf16⟩
  | .hbm, ⟨5, _⟩ => ⟨S1x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x256x1024 : Shape := ⟨3, ![2, 256, 1024]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x3864 : Shape := ⟨2, ![1024, 3864]⟩
abbrev S16384x1024 : Shape := ⟨2, ![16384, 1024]⟩
abbrev S1024x24 : Shape := ⟨2, ![1024, 24]⟩
abbrev S_ : Shape := ⟨0, ![]⟩
abbrev S1024x128 : Shape := ⟨2, ![1024, 128]⟩
abbrev S1024x1280 : Shape := ⟨2, ![1024, 1280]⟩
abbrev S1024x2560 : Shape := ⟨2, ![1024, 2560]⟩
abbrev S1024x3968 : Shape := ⟨2, ![1024, 3968]⟩
abbrev S1x1024 : Shape := ⟨2, ![1, 1024]⟩
abbrev S16384x256 : Shape := ⟨2, ![16384, 256]⟩
abbrev S16384x512 : Shape := ⟨2, ![16384, 512]⟩
abbrev S16384x1536 : Shape := ⟨2, ![16384, 1536]⟩
abbrev S16384x128 : Shape := ⟨2, ![16384, 128]⟩
abbrev S2x256x8192 : Shape := ⟨3, ![2, 256, 8192]⟩
abbrev S8x16384x128 : Shape := ⟨3, ![8, 16384, 128]⟩
abbrev S2x16384x256 : Shape := ⟨3, ![2, 16384, 256]⟩
abbrev S512x1024 : Shape := ⟨2, ![512, 1024]⟩
abbrev S512x256 : Shape := ⟨2, ![512, 256]⟩
abbrev S512x512 : Shape := ⟨2, ![512, 512]⟩
abbrev S512x1536 : Shape := ⟨2, ![512, 1536]⟩
abbrev S512x128 : Shape := ⟨2, ![512, 128]⟩
abbrev S1x256x512 : Shape := ⟨3, ![1, 256, 512]⟩
abbrev S8x512x128 : Shape := ⟨3, ![8, 512, 128]⟩
abbrev S2x512x256 : Shape := ⟨3, ![2, 512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1024x1536 : Shape := ⟨2, ![1024, 1536]⟩
abbrev S256x512 : Shape := ⟨2, ![256, 512]⟩
abbrev S1x64 : Shape := ⟨2, ![1, 64]⟩
abbrev S512x64 : Shape := ⟨2, ![512, 64]⟩
abbrev S1x128 : Shape := ⟨2, ![1, 128]⟩
abbrev S1x512x256 : Shape := ⟨3, ![1, 512, 256]⟩
abbrev S1x512x128 : Shape := ⟨3, ![1, 512, 128]⟩

abbrev nBuf : Space → Nat
  | .hbm => 24
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3864, .f32⟩
  | .hbm, ⟨3, _⟩ => ⟨S16384x1024, .f32⟩
  | .hbm, ⟨4, _⟩ => ⟨S1024x24, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1280, .f32⟩
  | .hbm, ⟨9, _⟩ => ⟨S1024x2560, .f32⟩
  | .hbm, ⟨10, _⟩ => ⟨S1024x3968, .f32⟩
  | .hbm, ⟨11, _⟩ => ⟨S1024x3968, .bf16⟩
  | .hbm, ⟨12, _⟩ => ⟨S1x1024, .f32⟩
  | .hbm, ⟨13, _⟩ => ⟨S16384x256, .f32⟩
  | .hbm, ⟨14, _⟩ => ⟨S16384x512, .f32⟩
  | .hbm, ⟨15, _⟩ => ⟨S16384x512, .f32⟩
  | .hbm, ⟨16, _⟩ => ⟨S16384x1536, .f32⟩
  | .hbm, ⟨17, _⟩ => ⟨S16384x128, .f32⟩
  | .hbm, ⟨18, _⟩ => ⟨S2x256x8192, .f32⟩
  | .hbm, ⟨19, _⟩ => ⟨S2x256x8192, .f32⟩
  | .hbm, ⟨20, _⟩ => ⟨S2x256x8192, .f32⟩
  | .hbm, ⟨21, _⟩ => ⟨S8x16384x128, .bf16⟩
  | .hbm, ⟨22, _⟩ => ⟨S2x16384x256, .bf16⟩
  | .hbm, ⟨23, _⟩ => ⟨S2x16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3968, .bf16⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1536, .f32⟩
  | .local _ .vmem, ⟨11, _⟩ => ⟨S512x1536, .f32⟩
  | .local _ .vmem, ⟨12, _⟩ => ⟨S512x128, .f32⟩
  | .local _ .vmem, ⟨13, _⟩ => ⟨S512x128, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S8x512x128, .bf16⟩
  | .local _ .vmem, ⟨21, _⟩ => ⟨S8x512x128, .bf16⟩
  | .local _ .vmem, ⟨22, _⟩ => ⟨S2x512x256, .bf16⟩
  | .local _ .vmem, ⟨23, _⟩ => ⟨S2x512x256, .bf16⟩
  | .local _ .vmem, ⟨24, _⟩ => ⟨S2x512x256, .bf16⟩
  | .local _ .vmem, ⟨25, _⟩ => ⟨S2x512x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev main_v8_8 : Ref sig .tc := ⟨.hbm, 21, rfl⟩
abbrev main_v8_9 : Ref sig .tc := ⟨.hbm, 22, rfl⟩
abbrev main_v8_10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S2x8192x1024 : Shape := ⟨3, ![2, 8192, 1024]⟩
abbrev S1024 : Shape := ⟨1, ![1024]⟩
abbrev S1024x3864 : Shape := ⟨2, ![1024, 3864]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3864 : Shape := ⟨3, ![2, 8192, 3864]⟩
abbrev S2x8192x768 : Shape := ⟨3, ![2, 8192, 768]⟩
abbrev S2x8192x3x256 : Shape := ⟨4, ![2, 8192, 3, 256]⟩
abbrev S2x8192x512 : Shape := ⟨3, ![2, 8192, 512]⟩
abbrev S2x8192x1536 : Shape := ⟨3, ![2, 8192, 1536]⟩
abbrev S2x8192x24 : Shape := ⟨3, ![2, 8192, 24]⟩
abbrev S2x8192x128 : Shape := ⟨3, ![2, 8192, 128]⟩
abbrev S16384x8x64 : Shape := ⟨3, ![16384, 8, 64]⟩
abbrev S8x16384x64 : Shape := ⟨3, ![8, 16384, 64]⟩
abbrev S8x1x1 : Shape := ⟨3, ![8, 1, 1]⟩
abbrev S64 : Shape := ⟨1, ![64]⟩
abbrev S1x1x64 : Shape := ⟨3, ![1, 1, 64]⟩
abbrev S2x128x1 : Shape := ⟨3, ![2, 128, 1]⟩
abbrev S2x128x64 : Shape := ⟨3, ![2, 128, 64]⟩
abbrev S128 : Shape := ⟨1, ![128]⟩
abbrev S1x128x1 : Shape := ⟨3, ![1, 128, 1]⟩
abbrev S2x1x64 : Shape := ⟨3, ![2, 1, 64]⟩
abbrev S1x16384x1 : Shape := ⟨3, ![1, 16384, 1]⟩
abbrev S8x16384x1 : Shape := ⟨3, ![8, 16384, 1]⟩
abbrev S2x8192x1x256 : Shape := ⟨4, ![2, 8192, 1, 256]⟩
abbrev S2x8192x256 : Shape := ⟨3, ![2, 8192, 256]⟩
abbrev S16384x256 : Shape := ⟨2, ![16384, 256]⟩
abbrev S16384x512 : Shape := ⟨2, ![16384, 512]⟩
abbrev S16384x1536 : Shape := ⟨2, ![16384, 1536]⟩
abbrev S16384x128 : Shape := ⟨2, ![16384, 128]⟩
abbrev S2x256x8192 : Shape := ⟨3, ![2, 256, 8192]⟩
abbrev S8x16384x128 : Shape := ⟨3, ![8, 16384, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3864, .f32⟩
  | .hbm, ⟨3, _⟩ => ⟨S8, .f32⟩
  | .hbm, ⟨4, _⟩ => ⟨S8, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x3864, .f32⟩
  | .hbm, ⟨22, _⟩ => ⟨S2x8192x768, .f32⟩
  | .hbm, ⟨23, _⟩ => ⟨S2x8192x3x256, .f32⟩
  | .hbm, ⟨24, _⟩ => ⟨S2x8192x512, .f32⟩
  | .hbm, ⟨25, _⟩ => ⟨S2x8192x512, .f32⟩
  | .hbm, ⟨26, _⟩ => ⟨S2x8192x1536, .f32⟩
  | .hbm, ⟨27, _⟩ => ⟨S2x8192x1536, .f32⟩
  | .hbm, ⟨28, _⟩ => ⟨S2x8192x1536, .f32⟩
  | .hbm, ⟨29, _⟩ => ⟨S_, .f32⟩
  | .hbm, ⟨30, _⟩ => ⟨S2x8192x1536, .f32⟩
  | .hbm, ⟨31, _⟩ => ⟨S2x8192x1536, .f32⟩
  | .hbm, ⟨32, _⟩ => ⟨S_, .f32⟩
  | .hbm, ⟨33, _⟩ => ⟨S2x8192x1536, .f32⟩
  | .hbm, ⟨34, _⟩ => ⟨S2x8192x1536, .f32⟩
  | .hbm, ⟨35, _⟩ => ⟨S2x8192x24, .f32⟩
  | .hbm, ⟨36, _⟩ => ⟨S_, .i32⟩
  | .hbm, ⟨37, _⟩ => ⟨S_, .f32⟩
  | .hbm, ⟨38, _⟩ => ⟨S2x8192x128, .f32⟩
  | .hbm, ⟨39, _⟩ => ⟨S2x8192x128, .f32⟩
  | .hbm, ⟨40, _⟩ => ⟨S2x8192x128, .f32⟩
  | .hbm, ⟨41, _⟩ => ⟨S_, .f32⟩
  | .hbm, ⟨42, _⟩ => ⟨S2x8192x128, .f32⟩
  | .hbm, ⟨43, _⟩ => ⟨S2x8192x128, .f32⟩
  | .hbm, ⟨44, _⟩ => ⟨S_, .f32⟩
  | .hbm, ⟨45, _⟩ => ⟨S2x8192x128, .f32⟩
  | .hbm, ⟨46, _⟩ => ⟨S2x8192x128, .f32⟩
  | .hbm, ⟨47, _⟩ => ⟨S2x8192x512, .f32⟩
  | .hbm, ⟨48, _⟩ => ⟨S16384x8x64, .f32⟩
  | .hbm, ⟨49, _⟩ => ⟨S8x16384x64, .f32⟩
  | .hbm, ⟨50, _⟩ => ⟨S_, .f32⟩
  | .hbm, ⟨51, _⟩ => ⟨S8x16384x64, .f32⟩
  | .hbm, ⟨52, _⟩ => ⟨S8x16384x64, .f32⟩
  | .hbm, ⟨53, _⟩ => ⟨S8x1x1, .f32⟩
  | .hbm, ⟨54, _⟩ => ⟨S8x1x1, .f32⟩
  | .hbm, ⟨55, _⟩ => ⟨S64, .i32⟩
  | .hbm, ⟨56, _⟩ => ⟨S1x1x64, .i32⟩
  | .hbm, ⟨57, _⟩ => ⟨S_, .i32⟩
  | .hbm, ⟨58, _⟩ => ⟨S2x128x1, .i32⟩
  | .hbm, ⟨59, _⟩ => ⟨S2x128x64, .i32⟩
  | .hbm, ⟨60, _⟩ => ⟨S2x128x64, .i32⟩
  | .hbm, ⟨61, _⟩ => ⟨S2x128x64, .i32⟩
  | .hbm, ⟨62, _⟩ => ⟨S128, .i32⟩
  | .hbm, ⟨63, _⟩ => ⟨S1x128x1, .i32⟩
  | .hbm, ⟨64, _⟩ => ⟨S_, .i32⟩
  | .hbm, ⟨65, _⟩ => ⟨S1x128x1, .i32⟩
  | .hbm, ⟨66, _⟩ => ⟨S1x128x1, .i32⟩
  | .hbm, ⟨67, _⟩ => ⟨S_, .i32⟩
  | .hbm, ⟨68, _⟩ => ⟨S2x1x64, .i32⟩
  | .hbm, ⟨69, _⟩ => ⟨S2x128x64, .i32⟩
  | .hbm, ⟨70, _⟩ => ⟨S2x128x64, .i32⟩
  | .hbm, ⟨71, _⟩ => ⟨S2x128x64, .i32⟩
  | .hbm, ⟨72, _⟩ => ⟨S1x16384x1, .i32⟩
  | .hbm, ⟨73, _⟩ => ⟨S1x16384x1, .f32⟩
  | .hbm, ⟨74, _⟩ => ⟨S1x16384x1, .i32⟩
  | .hbm, ⟨75, _⟩ => ⟨S1x16384x1, .f32⟩
  | .hbm, ⟨76, _⟩ => ⟨S64, .i32⟩
  | .hbm, ⟨77, _⟩ => ⟨S_, .i32⟩
  | .hbm, ⟨78, _⟩ => ⟨S64, .i32⟩
  | .hbm, ⟨79, _⟩ => ⟨S64, .i1⟩
  | .hbm, ⟨80, _⟩ => ⟨S_, .i32⟩
  | .hbm, ⟨81, _⟩ => ⟨S64, .i32⟩
  | .hbm, ⟨82, _⟩ => ⟨S64, .i1⟩
  | .hbm, ⟨83, _⟩ => ⟨S8x16384x1, .f32⟩
  | .hbm, ⟨84, _⟩ => ⟨S8x16384x1, .f32⟩
  | .hbm, ⟨85, _⟩ => ⟨S8x16384x1, .f32⟩
  | .hbm, ⟨86, _⟩ => ⟨S_, .i32⟩
  | .hbm, ⟨87, _⟩ => ⟨S64, .i32⟩
  | .hbm, ⟨88, _⟩ => ⟨S64, .i1⟩
  | .hbm, ⟨89, _⟩ => ⟨S8x16384x1, .f32⟩
  | .hbm, ⟨90, _⟩ => ⟨S8x16384x1, .f32⟩
  | .hbm, ⟨91, _⟩ => ⟨S8x16384x1, .f32⟩
  | .hbm, ⟨92, _⟩ => ⟨S_, .f32⟩
  | .hbm, ⟨93, _⟩ => ⟨S_, .f32⟩
  | .hbm, ⟨94, _⟩ => ⟨S8x16384x64, .i1⟩
  | .hbm, ⟨95, _⟩ => ⟨S8x16384x64, .f32⟩
  | .hbm, ⟨96, _⟩ => ⟨S8x16384x64, .f32⟩
  | .hbm, ⟨97, _⟩ => ⟨S8x16384x64, .f32⟩
  | .hbm, ⟨98, _⟩ => ⟨S8x16384x64, .i1⟩
  | .hbm, ⟨99, _⟩ => ⟨S8x16384x64, .f32⟩
  | .hbm, ⟨100, _⟩ => ⟨S8x16384x64, .f32⟩
  | .hbm, ⟨101, _⟩ => ⟨S8x16384x64, .i1⟩
  | .hbm, ⟨102, _⟩ => ⟨S8x16384x64, .f32⟩
  | .hbm, ⟨103, _⟩ => ⟨S8x16384x64, .f32⟩
  | .hbm, ⟨104, _⟩ => ⟨S2x8192x1x256, .f32⟩
  | .hbm, ⟨105, _⟩ => ⟨S2x8192x256, .f32⟩
  | .hbm, ⟨106, _⟩ => ⟨S16384x256, .f32⟩
  | .hbm, ⟨107, _⟩ => ⟨S16384x512, .f32⟩
  | .hbm, ⟨108, _⟩ => ⟨S16384x512, .f32⟩
  | .hbm, ⟨109, _⟩ => ⟨S16384x1536, .f32⟩
  | .hbm, ⟨110, _⟩ => ⟨S16384x128, .f32⟩
  | .hbm, ⟨111, _⟩ => ⟨S2x8192x1x256, .f32⟩
  | .hbm, ⟨112, _⟩ => ⟨S2x8192x256, .f32⟩
  | .hbm, ⟨113, _⟩ => ⟨S2x256x8192, .f32⟩
  | .hbm, ⟨114, _⟩ => ⟨S2x8192x1x256, .f32⟩
  | .hbm, ⟨115, _⟩ => ⟨S2x8192x256, .f32⟩
  | .hbm, ⟨116, _⟩ => ⟨S2x256x8192, .f32⟩
  | .hbm, ⟨117, _⟩ => ⟨S2x8192x1x256, .f32⟩
  | .hbm, ⟨118, _⟩ => ⟨S2x8192x256, .f32⟩
  | .hbm, ⟨119, _⟩ => ⟨S2x256x8192, .f32⟩
  | .hbm, ⟨120, _⟩ => ⟨S8x16384x128, .f32⟩
  | .hbm, ⟨121, _⟩ => ⟨S8x16384x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_12 : Ref sig .tc := ⟨.hbm, 77, rfl⟩
abbrev main_v59 : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_v71 : Ref sig .tc := ⟨.hbm, 97, rfl⟩
abbrev main_call2_v0 : Ref sig .tc := ⟨.hbm, 98, rfl⟩
abbrev main_call2_v1 : Ref sig .tc := ⟨.hbm, 99, rfl⟩
abbrev main_v72 : Ref sig .tc := ⟨.hbm, 100, rfl⟩
abbrev main_call3_v0 : Ref sig .tc := ⟨.hbm, 101, rfl⟩
abbrev main_call3_v1 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Kernel6.lean ====
abbrev S2x8192x4x128 : Shape := ⟨4, ![2, 8192, 4, 128]⟩
abbrev S2x256x2x4x128 : Shape := ⟨5, ![2, 256, 2, 4, 128]⟩
abbrev S2x8192x512 : Shape := ⟨3, ![2, 8192, 512]⟩
abbrev S2x256x1024 : Shape := ⟨3, ![2, 256, 1024]⟩
abbrev S1x512x512 : Shape := ⟨3, ![1, 512, 512]⟩
abbrev S1x256x1024 : Shape := ⟨3, ![1, 256, 1024]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x4x128, .f32⟩
  | .hbm, ⟨1, _⟩ => ⟨S2x256x2x4x128, .f32⟩
  | .hbm, ⟨2, _⟩ => ⟨S2x8192x512, .f32⟩
  | .hbm, ⟨3, _⟩ => ⟨S2x256x1024, .f32⟩
  | .hbm, ⟨4, _⟩ => ⟨S2x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x512x512, .f32⟩
  | .local _ .vmem, ⟨5, _⟩ => ⟨S1x512x512, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x4x128 : Shape := ⟨4, ![2, 8192, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x8192x128 : Shape := ⟨4, ![2, 4, 8192, 128]⟩
abbrev S2x4x256x128 : Shape := ⟨4, ![2, 4, 256, 128]⟩
abbrev S2x4x128x256 : Shape := ⟨4, ![2, 4, 128, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x8192x512 : Shape := ⟨3, ![2, 8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x256x2x4x128, .f32⟩
  | .hbm, ⟨2, _⟩ => ⟨S2x256x1x4x128, .f32⟩
  | .hbm, ⟨3, _⟩ => ⟨S2x256x4x128, .f32⟩
  | .hbm, ⟨4, _⟩ => ⟨S2x256x1x4x128, .f32⟩
  | .hbm, ⟨5, _⟩ => ⟨S2x256x4x128, .f32⟩
  | .hbm, ⟨6, _⟩ => ⟨S2x4x8192x128, .f32⟩
  | .hbm, ⟨7, _⟩ => ⟨S2x4x256x128, .f32⟩
  | .hbm, ⟨8, _⟩ => ⟨S2x4x256x128, .f32⟩
  | .hbm, ⟨9, _⟩ => ⟨S2x4x128x256, .f32⟩
  | .hbm, ⟨10, _⟩ => ⟨S2x4x8192x256, .f32⟩
  | .hbm, ⟨11, _⟩ => ⟨S_, .f32⟩
  | .hbm, ⟨12, _⟩ => ⟨S2x4x8192x256, .f32⟩
  | .hbm, ⟨13, _⟩ => ⟨S2x4x8192x256, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S2x4x8192x1, .f32⟩
  | .hbm, ⟨20, _⟩ => ⟨S2x4x8192x256, .f32⟩
  | .hbm, ⟨21, _⟩ => ⟨S2x4x8192x256, .f32⟩
  | .hbm, ⟨22, _⟩ => ⟨S2x4x8192x256, .f32⟩
  | .hbm, ⟨23, _⟩ => ⟨S_, .f32⟩
  | .hbm, ⟨24, _⟩ => ⟨S2x4x8192, .f32⟩
  | .hbm, ⟨25, _⟩ => ⟨S2x4x8192x1, .f32⟩
  | .hbm, ⟨26, _⟩ => ⟨S2x4x8192x256, .f32⟩
  | .hbm, ⟨27, _⟩ => ⟨S2x4x8192x256, .f32⟩
  | .hbm, ⟨28, _⟩ => ⟨S2x4x8192x128, .f32⟩
  | .hbm, ⟨29, _⟩ => ⟨S2x8192x4x128, .f32⟩
  | .hbm, ⟨30, _⟩ => ⟨S2x8192x512, .f32⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.SsmLoop.lean ====
module

public import proofs.«01_k».proof.Proof.Gen.KernelIdeal.Loops
public import Idealize.ShloMosaic.Lib.Pipeline.FrameBody
public import Idealize.ShloMosaic.Lib.WritesUnit
public import Idealize.ShloMosaic.Lib.ValueIdx
public import Idealize.ShloMosaic.Lib.Pipeline.ValueKit.Basic
public import Idealize.ShloMosaic.Lib.Pipeline.ValueKit.Tiles

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Row `t` of a buffer of 256 rows. -/
def rowOf (B : Vec F S256x2048 .f32) (t : ℕ) : Vec F S1x2048 .f32 := fun x => B (ix2 (Fin.ofNat 256 t) (x (1 : Fin 2)))

/-- The recurrence over the rows of two buffers: one step takes the carried rows `h`, `g` and the rows of
the buffers to `ar h - ai g + b`, `ar g + ai h + b'`. -/
def hist (ar ai : Vec F S1x2048 .f32) (B B' : Vec F S256x2048 .f32) (s : Vec F S1x2048 .f32 × Vec F S1x2048 .f32) :
    ℕ → Vec F S1x2048 .f32 × Vec F S1x2048 .f32
  | 0 => s
  | t + 1 => (k0_pay22 ar ai (hist ar ai B B' s t).1 (hist ar ai B B' s t).2 (rowOf B t),
      k0_pay23 ar ai (hist ar ai B B' s t).1 (hist ar ai B B' s t).2 (rowOf B' t))

/-- A buffer whose first `k` rows are `h 1, …, h k` and whose others are those of `B`. -/
def filled (k : ℕ) (h : ℕ → Vec F S1x2048 .f32) (B : Vec F S256x2048 .f32) : Vec F S256x2048 .f32 :=
  fun y => if (y (0 : Fin 2)).val < k then h ((y (0 : Fin 2)).val + 1) (ix2 0 (y (1 : Fin 2))) else B y

theorem trips_eq : k0_t1_loop.trips = 256 := by decide +kernel

theorem pay24_eq (a b c d e : Vec F S1x2048 .f32) : k0_pay24 a b c d e = k0_pay22 a b c d e :=
  shapeCast_self _ _

theorem pay25_eq (a b c d e : Vec F S1x2048 .f32) : k0_pay25 a b c d e = k0_pay23 a b c d e :=
  shapeCast_self _ _

theorem rowOf_filled (k : ℕ) (h : ℕ → Vec F S1x2048 .f32) (B : Vec F S256x2048 .f32) (hk : k < 256) :
    rowOf (filled k h B) k = rowOf B k := by
  funext x
  have e : (Fin.ofNat 256 k).val = k := Nat.mod_eq_of_lt hk
  exact if_neg (by show ¬ (Fin.ofNat 256 k).val < k; omega)

theorem filled_step (k : ℕ) (hk : k < 256) (h : ℕ → Vec F S1x2048 .f32) (B : Vec F S256x2048 .f32) :
    (fun y : S256x2048.Idx => if (y (0 : Fin 2)).val = k then h (k + 1) (ix2 0 (y (1 : Fin 2))) else filled k h B y) = filled (k + 1) h B := by
  funext y
  unfold filled
  by_cases h1 : (y (0 : Fin 2)).val = k
  · rw [if_pos h1, if_pos (by omega), h1]
  · rw [if_neg h1]
    by_cases h2 : (y (0 : Fin 2)).val < k
    · rw [if_pos h2, if_pos (by omega)]
    · rw [if_neg h2, if_neg (by omega)]

theorem read_row (a : Memref sig .tc .vmem S256x2048 .f32) (f : BufTy.Contents (Elt F) a.view.ty) (k : Fin k0_t1_loop.trips) :
    a.view.readAt (Elt F) (Rect.unit (s := S256x2048) (k0_off1 k) S1x2048.size (k0_off1_inb k)).toLoadRect f
      = rowOf (a.view.read (Elt F) f) k.val := by
  rw [View.readAt_eq_ld]
  funext x
  refine congrArg (a.view.read (Elt F) f) ?_
  have e : (Fin.ofNat 256 k.val).val = k.val := Nat.mod_eq_of_lt (Nat.lt_of_lt_of_eq k.isLt trips_eq)
  funext b
  refine Fin.ext ?_
  have o0 : k0_off1 k (0 : Fin 2) = k.val := congrFun (k0_off1_eq k) (0 : Fin 2)
  have o1 : k0_off1 k (1 : Fin 2) = 0 := congrFun (k0_off1_eq k) (1 : Fin 2)
  match b with
  | ⟨0, _⟩ =>
    have hx : (x (0 : Fin 2)).val < 1 := (x (0 : Fin 2)).isLt
    have g : k0_off1 k (0 : Fin 2) + 1 * (x (0 : Fin 2)).val = (Fin.ofNat 256 k.val).val := by omega
    exact g
  | ⟨1, _⟩ =>
    have g : k0_off1 k (1 : Fin 2) + 1 * (x (1 : Fin 2)).val = (x (1 : Fin 2)).val := by omega
    exact g

theorem read_row_cons (a : Memref sig .tc .vmem S256x2048 .f32) (f : BufTy.Contents (Elt F) a.view.ty)
    (L : List (View.Piece (Elt F) S256x2048 .f32)) (k : Fin k0_t1_loop.trips) (w : Vec F S1x2048 .f32) :
    a.view.read (Elt F) (a.view.writes (Elt F) f (⟨Rect.unit (s := S256x2048) (k0_off1 k) S1x2048.size (k0_off1_inb k), w⟩ :: L))
      = fun y : S256x2048.Idx => if (y (0 : Fin 2)).val = k.val then w (ix2 0 (y (1 : Fin 2))) else a.view.read (Elt F) (a.view.writes (Elt F) f L) y := by
  funext y
  by_cases h : (y (0 : Fin 2)).val = k.val
  · rw [if_pos h]
    exact View.read_writes_cons_rows_of_mem (o := k.val) (size := S1x2048.size) a.view f (k0_off1_inb k) w L y (ix2 0 (y (1 : Fin 2))) (k0_off1_eq k) (by simpa using h) rfl
  · rw [if_neg h]
    exact View.read_writes_cons_rows_of_not_mem (o := k.val) (W := 1) (size := S1x2048.size) a.view f (k0_off1_inb k) w L y (k0_off1_eq k) rfl (by omega)

section
variable (𝒱 : Variants) (c : Dev nD) (bd : Option 𝒱.V) (i : grid0.Coords) (arg2 : Memref sig .tc .vmem S1x256x512 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x512x128 .bf16) (harg9 : arg9.IsWhole) (arg10 : Memref sig .tc .vmem S4x512x128 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1x1x2048 .f32) (harg15 : arg15.IsWhole) (arg16 : Memref sig .tc .vmem S1x1x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S8x2048 .f32) (harg19 : arg19.IsWhole)
  (v54 : FVec F S256x512 .f32) (v58 : Vec F S1x2048 .f32) (v60 : Vec F S1x2048 .f32)

theorem trip_value (k : Fin k0_t1_loop.trips) (acc : Vec F S1x2048 .f32 × Vec F S1x2048 .f32)
    (f17 : BufTy.Contents (Elt F) arg17.view.ty) (f18 : BufTy.Contents (Elt F) arg18.view.ty) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 k acc f17 f18
      = (k0_pay22 v58 v60 acc.1 acc.2 (arg17.view.readAt (Elt F) (Rect.unit (s := S256x2048) (k0_off1 k) S1x2048.size (k0_off1_inb k)).toLoadRect f17),
         k0_pay23 v58 v60 acc.1 acc.2 (arg18.view.readAt (Elt F) (Rect.unit (s := S256x2048) (k0_off1 k) S1x2048.size (k0_off1_inb k)).toLoadRect f18)) := by
  unfold tripR_k0_t1 trip_k0_t1
  rfl

theorem trip_pieces17 (k : Fin k0_t1_loop.trips) (acc : Vec F S1x2048 .f32 × Vec F S1x2048 .f32)
    (f17 : BufTy.Contents (Elt F) arg17.view.ty) (f18 : BufTy.Contents (Elt F) arg18.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 k).2.1 acc f17 f18
      = [⟨Rect.unit (s := S256x2048) (k0_off1 k) S1x2048.size (k0_off1_inb k), k0_pay24 v58 v60 acc.1 acc.2 (arg17.view.readAt (Elt F) (Rect.unit (s := S256x2048) (k0_off1 k) S1x2048.size (k0_off1_inb k)).toLoadRect f17)⟩] := by
  unfold trip_k0_t1
  rfl

theorem trip_pieces18 (k : Fin k0_t1_loop.trips) (acc : Vec F S1x2048 .f32 × Vec F S1x2048 .f32)
    (f17 : BufTy.Contents (Elt F) arg17.view.ty) (f18 : BufTy.Contents (Elt F) arg18.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 k).2.2.1 acc f17 f18
      = [⟨Rect.unit (s := S256x2048) (k0_off1 k) S1x2048.size (k0_off1_inb k), k0_pay25 v58 v60 acc.1 acc.2 (arg18.view.readAt (Elt F) (Rect.unit (s := S256x2048) (k0_off1 k) S1x2048.size (k0_off1_inb k)).toLoadRect f18)⟩] := by
  unfold trip_k0_t1
  rfl

variable (G17 : BufTy.Contents (Elt F) arg17.view.ty) (G18 : BufTy.Contents (Elt F) arg18.view.ty) (init : Vec F S1x2048 .f32 × Vec F S1x2048 .f32)

/-- What the loop has carried and stored before trip `k`: the carried rows are the first `k` steps of the
recurrence over the rows the two buffers held at entry, and row `t` of each buffer is the state after step
`t` for `t < k` and what it was at entry from row `k` on. -/
theorem st_value (k : ℕ) (hk : k ≤ 256) :
    let s := st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 G17 G18 init k
    let h := hist v58 v60 (arg17.view.read (Elt F) G17) (arg18.view.read (Elt F) G18) init
    s.1 = h k
      ∧ arg17.view.read (Elt F) (arg17.view.writes (Elt F) G17 s.2.1) = filled k (fun t => (h t).1) (arg17.view.read (Elt F) G17)
      ∧ arg18.view.read (Elt F) (arg18.view.writes (Elt F) G18 s.2.2) = filled k (fun t => (h t).2) (arg18.view.read (Elt F) G18) := by
  intro s h
  induction k with
  | zero =>
    refine ⟨st_k0_t1_zero .., ?_, ?_⟩
    · funext y; show _ = if _ then _ else _; rw [if_neg (by omega)]; rfl
    · funext y; show _ = if _ then _ else _; rw [if_neg (by omega)]; rfl
  | succ k ih =>
    obtain ⟨ih1, ih2, ih3⟩ := ih (by omega)
    have htr : k < k0_t1_loop.trips := by rw [trips_eq]; omega
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 G17 G18 init ⟨k, htr⟩
    have r17 := read_row arg17 (arg17.view.writes (Elt F) G17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 G17 G18 init k).2.1) ⟨k, htr⟩
    have r18 := read_row arg18 (arg18.view.writes (Elt F) G18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v54 v58 v60 G17 G18 init k).2.2) ⟨k, htr⟩
    rw [ih2, rowOf_filled _ _ _ (by omega)] at r17
    rw [ih3, rowOf_filled _ _ _ (by omega)] at r18
    simp only [trip_value, trip_pieces17, trip_pieces18, ih1, r17, r18] at e
    simp only [s, e]
    refine ⟨rfl, ?_, ?_⟩
    · rw [List.singleton_append, pay24_eq]
      exact (read_row_cons arg17 G17 _ ⟨k, htr⟩ _).trans (by rw [ih2]; exact filled_step k (by omega) _ _)
    · rw [List.singleton_append, pay25_eq]
      exact (read_row_cons arg18 G18 _ ⟨k, htr⟩ _).trans (by rw [ih3]; exact filled_step k (by omega) _ _)
end
end Cert.Ssm
end
-- ==== Proof.SsmVals.lean ====
module

public import proofs.«01_k».proof.Proof.Gen.KernelIdeal.Frame
public import proofs.«01_k».proof.Proof.SsmLoop

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point begins a sequence: it starts from the state it is given. -/
abbrev begins (i : grid0.Coords) : Prop := (Scalar.cmpi .ne (Scalar.extui (Scalar.cmpi .eq (BitVec.ofNat 32 (i 1).val) 0#32)) 0#32) = 1#1

/-- Slab `j` of the input map's blocks. -/
def inSlab (x : Vec F S4x128x512 .bf16) (j : Fin 4) : Vec F S1x128x512 .bf16 :=
  fun y => x (ix3 j (y (1 : Fin 3)) (y (2 : Fin 3)))

/-- Slab `j` of the output map's blocks. -/
def outSlab (x : Vec F S4x512x128 .bf16) (j : Fin 4) : Vec F S1x512x128 .bf16 :=
  fun y => x (ix3 j (y (1 : Fin 3)) (y (2 : Fin 3)))

/-- Columns `512 j … 512 j + 511` of a buffer of rows. -/
def cols (B : Vec F S256x2048 .f32) (j : Fin 4) : Vec F S256x512 .f32 :=
  fun y => B (ix2 (y (0 : Fin 2)) ⟨512 * j.val + (y (1 : Fin 2)).val, by
    have h : (y (1 : Fin 2)).val < 512 := (y (1 : Fin 2)).isLt
    have := j.isLt; omega⟩)

/-- A buffer of rows from its four blocks of columns. -/
def joinCols (p : Fin 4 → Vec F S256x512 .f32) : Vec F S256x2048 .f32 :=
  fun y => p ⟨(y (1 : Fin 2)).val / 512, by
      have h : (y (1 : Fin 2)).val < 2048 := (y (1 : Fin 2)).isLt
      omega⟩
    (ix2 (y (0 : Fin 2)) ⟨(y (1 : Fin 2)).val % 512, Nat.mod_lt _ (by omega)⟩)

/-- The rows the real parts of the inputs fill the first buffer with. -/
def fillRe (x2 : Vec F S1x256x512 .f32) (x7 : Vec F S4x128x512 .bf16) : Vec F S256x2048 .f32 :=
  joinCols ![k0_pay7 x2 (inSlab x7 0), k0_pay10 x2 (inSlab x7 1), k0_pay14 (k0_pay5 x2) (inSlab x7 2), k0_pay17 (k0_pay5 x2) (inSlab x7 3)]

/-- The rows the imaginary parts of the inputs fill the second buffer with. -/
def fillIm (x2 : Vec F S1x256x512 .f32) (x8 : Vec F S4x128x512 .bf16) : Vec F S256x2048 .f32 :=
  joinCols ![k0_pay8 x2 (inSlab x8 0), k0_pay12 (k0_pay9 x2) (k0_pay11 (inSlab x8 1)), k0_pay15 (k0_pay5 x2) (inSlab x8 2), k0_pay19 (k0_pay18 (k0_pay5 x2) (inSlab x8 3))]

/-- The states of a block: the recurrence over its rows from the state `s` it starts from. -/
def states (x2 : Vec F S1x256x512 .f32) (x5 x6 : Vec F S1x2048 .f32) (x7 x8 : Vec F S4x128x512 .bf16)
    (s : Vec F S1x2048 .f32 × Vec F S1x2048 .f32) : ℕ → Vec F S1x2048 .f32 × Vec F S1x2048 .f32 :=
  hist x5 x6 (fillRe x2 x7) (fillIm x2 x8) s

/-- Row `t` is the state after step `t + 1` of the block, its real part. -/
def rowsRe (x2 : Vec F S1x256x512 .f32) (x5 x6 : Vec F S1x2048 .f32) (x7 x8 : Vec F S4x128x512 .bf16)
    (s : Vec F S1x2048 .f32 × Vec F S1x2048 .f32) : Vec F S256x2048 .f32 :=
  filled 256 (fun t => (states x2 x5 x6 x7 x8 s t).1) (fillRe x2 x7)

/-- Row `t` is the state after step `t + 1` of the block, its imaginary part. -/
def rowsIm (x2 : Vec F S1x256x512 .f32) (x5 x6 : Vec F S1x2048 .f32) (x7 x8 : Vec F S4x128x512 .bf16)
    (s : Vec F S1x2048 .f32 × Vec F S1x2048 .f32) : Vec F S256x2048 .f32 :=
  filled 256 (fun t => (states x2 x5 x6 x7 x8 s t).2) (fillIm x2 x8)

/-- What a block's rows of output are computed from: the block's input, the rows of its states and the weights. -/
def outOf (x2 : Vec F S1x256x512 .f32) (x9 x10 : Vec F S4x512x128 .bf16) (x11 : Vec F S1x512 .f32)
    (x12 : Vec F S512x512 .bf16) (x13 : Vec F S1x512 .f32) (R I : Vec F S256x2048 .f32) : Vec F S1x256x512 .f32 :=
  k0_pay1 (k0_pay35 (k0_pay4 x2)
    (k0_pay32 (k0_pay30 (cols R 0)) (k0_pay31 (cols I 0)) (outSlab x9 0) (outSlab x10 0))
    (k0_pay33 (cols R 1) (cols I 1) (outSlab x9 1) (outSlab x10 1))
    (k0_pay34 (cols R 2) (cols I 2) (outSlab x9 2) (outSlab x10 2))
    (cols R 3) (cols I 3) (outSlab x9 3) (outSlab x10 3) x11 x12 x13)

/-- A block's rows of output. -/
def outVal (x2 : Vec F S1x256x512 .f32) (x5 x6 : Vec F S1x2048 .f32) (x7 x8 : Vec F S4x128x512 .bf16)
    (x9 x10 : Vec F S4x512x128 .bf16) (x11 : Vec F S1x512 .f32) (x12 : Vec F S512x512 .bf16) (x13 : Vec F S1x512 .f32)
    (s : Vec F S1x2048 .f32 × Vec F S1x2048 .f32) : Vec F S1x256x512 .f32 :=
  outOf x2 x9 x10 x11 x12 x13 (rowsRe x2 x5 x6 x7 x8 s) (rowsIm x2 x5 x6 x7 x8 s)

/-- The first two rows of the buffer that hands the state from a block to the next. -/
def kept (d : Vec F S8x2048 .f32) : Vec F S1x2048 .f32 × Vec F S1x2048 .f32 :=
  (fun x => d (ix2 0 (x (1 : Fin 2))), fun x => d (ix2 1 (x (1 : Fin 2))))

theorem ld_inSlab (X : Vec F S4x128x512 .bf16) (j : Fin 4) (inb : ∀ a, (![j.val, 0, 0] : Fin 3 → ℕ) a + S1x128x512.size a ≤ S4x128x512.size a) :
    View.ld X (Rect.unit (s := S4x128x512) ![j.val, 0, 0] S1x128x512.size inb) = inSlab X j := by
  funext y
  refine congrArg X (funext fun b => Fin.ext ?_)
  match b with
  | ⟨0, _⟩ =>
    have hx : (y (0 : Fin 3)).val < 1 := (y (0 : Fin 3)).isLt
    have g : j.val + 1 * (y (0 : Fin 3)).val = j.val := by omega
    exact g
  | ⟨1, _⟩ => exact (by omega : 0 + 1 * (y (1 : Fin 3)).val = (y (1 : Fin 3)).val)
  | ⟨2, _⟩ => exact (by omega : 0 + 1 * (y (2 : Fin 3)).val = (y (2 : Fin 3)).val)

theorem ld_outSlab (X : Vec F S4x512x128 .bf16) (j : Fin 4) (inb : ∀ a, (![j.val, 0, 0] : Fin 3 → ℕ) a + S1x512x128.size a ≤ S4x512x128.size a) :
    View.ld X (Rect.unit (s := S4x512x128) ![j.val, 0, 0] S1x512x128.size inb) = outSlab X j := by
  funext y
  refine congrArg X (funext fun b => Fin.ext ?_)
  match b with
  | ⟨0, _⟩ =>
    have hx : (y (0 : Fin 3)).val < 1 := (y (0 : Fin 3)).isLt
    have g : j.val + 1 * (y (0 : Fin 3)).val = j.val := by omega
    exact g
  | ⟨1, _⟩ => exact (by omega : 0 + 1 * (y (1 : Fin 3)).val = (y (1 : Fin 3)).val)
  | ⟨2, _⟩ => exact (by omega : 0 + 1 * (y (2 : Fin 3)).val = (y (2 : Fin 3)).val)

theorem ld_cols (X : Vec F S256x2048 .f32) (j : Fin 4) (inb : ∀ a, (![0, 512 * j.val] : Fin 2 → ℕ) a + S256x512.size a ≤ S256x2048.size a) :
    View.ld X (Rect.unit (s := S256x2048) ![0, 512 * j.val] S256x512.size inb) = cols X j := by
  funext y
  refine congrArg X (funext fun b => Fin.ext ?_)
  match b with
  | ⟨0, _⟩ => exact (by omega : 0 + 1 * (y (0 : Fin 2)).val = (y (0 : Fin 2)).val)
  | ⟨1, _⟩ => exact (by omega : 512 * j.val + 1 * (y (1 : Fin 2)).val = 512 * j.val + (y (1 : Fin 2)).val)

theorem ld_row0 (X : Vec F S8x2048 .f32) (inb : ∀ a, (![0, 0] : Fin 2 → ℕ) a + S1x2048.size a ≤ S8x2048.size a) :
    View.ld X (Rect.unit (s := S8x2048) ![0, 0] S1x2048.size inb) = (kept X).1 := by
  funext y
  refine congrArg X (funext fun b => Fin.ext ?_)
  match b with
  | ⟨0, _⟩ =>
    have hx : (y (0 : Fin 2)).val < 1 := (y (0 : Fin 2)).isLt
    exact (by omega : 0 + 1 * (y (0 : Fin 2)).val = 0)
  | ⟨1, _⟩ => exact (by omega : 0 + 1 * (y (1 : Fin 2)).val = (y (1 : Fin 2)).val)

theorem ld_row1 (X : Vec F S8x2048 .f32) (inb : ∀ a, (![1, 0] : Fin 2 → ℕ) a + S1x2048.size a ≤ S8x2048.size a) :
    View.ld X (Rect.unit (s := S8x2048) ![1, 0] S1x2048.size inb) = (kept X).2 := by
  funext y
  refine congrArg X (funext fun b => Fin.ext ?_)
  match b with
  | ⟨0, _⟩ =>
    have hx : (y (0 : Fin 2)).val < 1 := (y (0 : Fin 2)).isLt
    exact (by omega : 1 + 1 * (y (0 : Fin 2)).val = 1)
  | ⟨1, _⟩ => exact (by omega : 0 + 1 * (y (1 : Fin 2)).val = (y (1 : Fin 2)).val)

theorem ld_inSlab_0 (X : Vec F S4x128x512 .bf16) (inb : ∀ a, (![0, 0, 0] : Fin 3 → ℕ) a + S1x128x512.size a ≤ S4x128x512.size a) :
    View.ld X (Rect.unit (s := S4x128x512) ![0, 0, 0] S1x128x512.size inb) = inSlab X 0 := ld_inSlab X 0 inb

theorem ld_inSlab_1 (X : Vec F S4x128x512 .bf16) (inb : ∀ a, (![1, 0, 0] : Fin 3 → ℕ) a + S1x128x512.size a ≤ S4x128x512.size a) :
    View.ld X (Rect.unit (s := S4x128x512) ![1, 0, 0] S1x128x512.size inb) = inSlab X 1 := ld_inSlab X 1 inb

theorem ld_inSlab_2 (X : Vec F S4x128x512 .bf16) (inb : ∀ a, (![2, 0, 0] : Fin 3 → ℕ) a + S1x128x512.size a ≤ S4x128x512.size a) :
    View.ld X (Rect.unit (s := S4x128x512) ![2, 0, 0] S1x128x512.size inb) = inSlab X 2 := ld_inSlab X 2 inb

theorem ld_inSlab_3 (X : Vec F S4x128x512 .bf16) (inb : ∀ a, (![3, 0, 0] : Fin 3 → ℕ) a + S1x128x512.size a ≤ S4x128x512.size a) :
    View.ld X (Rect.unit (s := S4x128x512) ![3, 0, 0] S1x128x512.size inb) = inSlab X 3 := ld_inSlab X 3 inb

theorem ld_outSlab_0 (X : Vec F S4x512x128 .bf16) (inb : ∀ a, (![0, 0, 0] : Fin 3 → ℕ) a + S1x512x128.size a ≤ S4x512x128.size a) :
    View.ld X (Rect.unit (s := S4x512x128) ![0, 0, 0] S1x512x128.size inb) = outSlab X 0 := ld_outSlab X 0 inb

theorem ld_outSlab_1 (X : Vec F S4x512x128 .bf16) (inb : ∀ a, (![1, 0, 0] : Fin 3 → ℕ) a + S1x512x128.size a ≤ S4x512x128.size a) :
    View.ld X (Rect.unit (s := S4x512x128) ![1, 0, 0] S1x512x128.size inb) = outSlab X 1 := ld_outSlab X 1 inb

theorem ld_outSlab_2 (X : Vec F S4x512x128 .bf16) (inb : ∀ a, (![2, 0, 0] : Fin 3 → ℕ) a + S1x512x128.size a ≤ S4x512x128.size a) :
    View.ld X (Rect.unit (s := S4x512x128) ![2, 0, 0] S1x512x128.size inb) = outSlab X 2 := ld_outSlab X 2 inb

theorem ld_outSlab_3 (X : Vec F S4x512x128 .bf16) (inb : ∀ a, (![3, 0, 0] : Fin 3 → ℕ) a + S1x512x128.size a ≤ S4x512x128.size a) :
    View.ld X (Rect.unit (s := S4x512x128) ![3, 0, 0] S1x512x128.size inb) = outSlab X 3 := ld_outSlab X 3 inb

theorem ld_cols_0 (X : Vec F S256x2048 .f32) (inb : ∀ a, (![0, 0] : Fin 2 → ℕ) a + S256x512.size a ≤ S256x2048.size a) :
    View.ld X (Rect.unit (s := S256x2048) ![0, 0] S256x512.size inb) = cols X 0 := ld_cols X 0 inb

theorem ld_cols_1 (X : Vec F S256x2048 .f32) (inb : ∀ a, (![0, 512] : Fin 2 → ℕ) a + S256x512.size a ≤ S256x2048.size a) :
    View.ld X (Rect.unit (s := S256x2048) ![0, 512] S256x512.size inb) = cols X 1 := ld_cols X 1 inb

theorem ld_cols_2 (X : Vec F S256x2048 .f32) (inb : ∀ a, (![0, 1024] : Fin 2 → ℕ) a + S256x512.size a ≤ S256x2048.size a) :
    View.ld X (Rect.unit (s := S256x2048) ![0, 1024] S256x512.size inb) = cols X 2 := ld_cols X 2 inb

theorem ld_cols_3 (X : Vec F S256x2048 .f32) (inb : ∀ a, (![0, 1536] : Fin 2 → ℕ) a + S256x512.size a ≤ S256x2048.size a) :
    View.ld X (Rect.unit (s := S256x2048) ![0, 1536] S256x512.size inb) = cols X 3 := ld_cols X 3 inb

/-- A buffer written in its four blocks of columns reads as the four blocks joined, whatever it held. -/
theorem read_joinCols (a : Memref sig .tc .vmem S256x2048 .f32) (f : BufTy.Contents (Elt F) a.view.ty)
    (p0 p1 p2 p3 : Vec F S256x512 .f32) :
    a.view.read (Elt F) (a.view.writes (Elt F) f
      [⟨Rect.unit (s := S256x2048) ![0, 1536] S256x512.size inb_S256x2048_S256x512_0_1536, p3⟩,
       ⟨Rect.unit (s := S256x2048) ![0, 1024] S256x512.size inb_S256x2048_S256x512_0_1024, p2⟩,
       ⟨Rect.unit (s := S256x2048) ![0, 512] S256x512.size inb_S256x2048_S256x512_0_512, p1⟩,
       ⟨Rect.unit (s := S256x2048) ![0, 0] S256x512.size inb_S256x2048_S256x512_0_0, p0⟩])
      = joinCols ![p0, p1, p2, p3] := by
  funext y
  have h0 : (y (0 : Fin 2)).val < 256 := (y (0 : Fin 2)).isLt
  have h1 : (y (1 : Fin 2)).val < 2048 := (y (1 : Fin 2)).isLt
  have out : ∀ (o : ℕ) (inb) (w : Vec F S256x512 .f32) (L : List (View.Piece (Elt F) S256x2048 .f32)),
      (y (1 : Fin 2)).val / 512 ≠ o →
      a.view.read (Elt F) (a.view.writes (Elt F) f (⟨Rect.unit (s := S256x2048) ![0, 512 * o] S256x512.size inb, w⟩ :: L)) y
        = a.view.read (Elt F) (a.view.writes (Elt F) f L) y := fun o inb w L ho =>
    View.read_writes_cons_unit_of_not_mem (off' := ![0, 512 * o]) a.view f inb w L y rfl (1 : Fin 2)
      (by show (y (1 : Fin 2)).val < 512 * o ∨ 512 * o + 512 ≤ (y (1 : Fin 2)).val; omega)
  have inn : ∀ (o : ℕ) (inb) (w : Vec F S256x512 .f32) (L : List (View.Piece (Elt F) S256x2048 .f32)),
      (y (1 : Fin 2)).val / 512 = o →
      a.view.read (Elt F) (a.view.writes (Elt F) f (⟨Rect.unit (s := S256x2048) ![0, 512 * o] S256x512.size inb, w⟩ :: L)) y
        = w (ix2 (y (0 : Fin 2)) ⟨(y (1 : Fin 2)).val % 512, Nat.mod_lt _ (by omega)⟩) := fun o inb w L ho =>
    View.read_writes_cons_unit_of_mem (off' := ![0, 512 * o]) a.view f inb w L y _ rfl (by
      intro b
      match b with
      | ⟨0, _⟩ => exact (by omega : (y (0 : Fin 2)).val = 0 + (y (0 : Fin 2)).val)
      | ⟨1, _⟩ => exact (by omega : (y (1 : Fin 2)).val = 512 * o + (y (1 : Fin 2)).val % 512))
  have key : ∀ o : Fin 4, (y (1 : Fin 2)).val / 512 = o.val →
      joinCols ![p0, p1, p2, p3] y = ((![p0, p1, p2, p3] : Fin 4 → Vec F S256x512 .f32) o) (ix2 (y (0 : Fin 2)) ⟨(y (1 : Fin 2)).val % 512, Nat.mod_lt _ (by omega)⟩) := fun o ho => by
    unfold joinCols
    rw [show (⟨(y (1 : Fin 2)).val / 512, by omega⟩ : Fin 4) = o from Fin.ext ho]
  have cases : (y (1 : Fin 2)).val / 512 = 0 ∨ (y (1 : Fin 2)).val / 512 = 1 ∨ (y (1 : Fin 2)).val / 512 = 2 ∨ (y (1 : Fin 2)).val / 512 = 3 := by omega
  rcases cases with h | h | h | h
  · exact ((out 3 _ p3 _ (by omega)).trans ((out 2 _ p2 _ (by omega)).trans ((out 1 _ p1 _ (by omega)).trans (inn 0 _ p0 _ h)))).trans (key 0 h).symm
  · exact ((out 3 _ p3 _ (by omega)).trans ((out 2 _ p2 _ (by omega)).trans (inn 1 _ p1 _ h))).trans (key 1 h).symm
  · exact ((out 3 _ p3 _ (by omega)).trans (inn 2 _ p2 _ h)).trans (key 2 h).symm
  · exact (inn 3 _ p3 _ h).trans (key 3 h).symm

theorem pay26_eq (a : Vec F S1x2048 .f32) : k0_pay26 a = a := shapeCast_self _ _

theorem pay27_eq (a : Vec F S1x2048 .f32) : k0_pay27 a = a := shapeCast_self _ _

theorem ld_S1x256x512 (X : Vec F S1x256x512 .f32) (inb : ∀ a, (![0, 0, 0] : Fin 3 → ℕ) a + S1x256x512.size a ≤ S1x256x512.size a) :
    View.ld X (Rect.unit (s := S1x256x512) ![0, 0, 0] S1x256x512.size inb) = X := View.ld_unit_lit inb X (by decide)

theorem ld_S1x1x2048 (X : Vec F S1x1x2048 .f32) (inb : ∀ a, (![0, 0, 0] : Fin 3 → ℕ) a + S1x1x2048.size a ≤ S1x1x2048.size a) :
    View.ld X (Rect.unit (s := S1x1x2048) ![0, 0, 0] S1x1x2048.size inb) = X := View.ld_unit_lit inb X (by decide)

theorem ld_S1x2048 (X : Vec F S1x2048 .f32) (inb : ∀ a, (![0, 0] : Fin 2 → ℕ) a + S1x2048.size a ≤ S1x2048.size a) :
    View.ld X (Rect.unit (s := S1x2048) ![0, 0] S1x2048.size inb) = X := View.ld_unit_lit inb X (by decide)

theorem ld_S1x512 (X : Vec F S1x512 .f32) (inb : ∀ a, (![0, 0] : Fin 2 → ℕ) a + S1x512.size a ≤ S1x512.size a) :
    View.ld X (Rect.unit (s := S1x512) ![0, 0] S1x512.size inb) = X := View.ld_unit_lit inb X (by decide)

theorem ld_S512x512 (X : Vec F S512x512 .bf16) (inb : ∀ a, (![0, 0] : Fin 2 → ℕ) a + S512x512.size a ≤ S512x512.size a) :
    View.ld X (Rect.unit (s := S512x512) ![0, 0] S512x512.size inb) = X := View.ld_unit_lit inb X (by decide)

/-- A buffer stored whole reads as what was stored. -/
theorem read_whole {s : Shape} {e : EltTy} (a : Memref sig .tc .vmem s e) (f : BufTy.Contents (Elt F) a.view.ty)
    (off : Fin s.rank → ℕ) (inb : ∀ b, off b + s.size b ≤ s.size b) (h : ∀ b, off b = 0) (w : s.Idx → Elt F e) :
    a.view.read (Elt F) (a.view.writes (Elt F) f [⟨Rect.unit (s := s) off s.size inb, w⟩]) = w := by
  funext y
  exact View.read_writes_cons_unit_of_mem (off' := off) a.view f inb w [] y y rfl fun b => by rw [h b, Nat.zero_add]

theorem readCov_cols (a : Memref sig .tc .vmem S256x2048 .f32) (L M : List (View.Piece (Elt F) S256x2048 .f32)) (R : Vec F S256x2048 .f32)
    (h : a.view.read (Elt F) (a.view.writes (Elt F) (a.view.writes (Elt F) a.view.junk M) L) = R) (j : Fin 4)
    (inb : ∀ b, (![0, 512 * j.val] : Fin 2 → ℕ) b + S256x512.size b ≤ S256x2048.size b) :
    a.view.readCov (L ++ M) (Rect.unit (s := S256x2048) ![0, 512 * j.val] S256x512.size inb).toLoadRect = cols R j := by
  unfold View.readCov
  rw [View.writes_append, View.readAt_eq_ld, h]
  exact ld_cols R j inb

theorem readCov_cols_0 (a : Memref sig .tc .vmem S256x2048 .f32) (L M : List (View.Piece (Elt F) S256x2048 .f32)) (R : Vec F S256x2048 .f32)
    (h : a.view.read (Elt F) (a.view.writes (Elt F) (a.view.writes (Elt F) a.view.junk M) L) = R)
    (inb : ∀ b, (![0, 0] : Fin 2 → ℕ) b + S256x512.size b ≤ S256x2048.size b) :
    a.view.readCov (L ++ M) (Rect.unit (s := S256x2048) ![0, 0] S256x512.size inb).toLoadRect = cols R 0 :=
  readCov_cols a L M R h 0 inb

theorem readAt_outSlab_0 (a : Memref sig .tc .vmem S4x512x128 .bf16) (h : a.IsWhole) (x : Vec F S4x512x128 .bf16)
    (inb : ∀ b, (![0, 0, 0] : Fin 3 → ℕ) b + S1x512x128.size b ≤ S4x512x128.size b) :
    View.readAt (Elt F) a.view (Rect.unit (s := S4x512x128) ![0, 0, 0] S1x512x128.size inb).toLoadRect (h.unread x) = outSlab x 0 := by
  rw [View.readAt_eq_ld, h.read_unread]
  exact ld_outSlab x 0 inb

theorem readCov_cols_1 (a : Memref sig .tc .vmem S256x2048 .f32) (L M : List (View.Piece (Elt F) S256x2048 .f32)) (R : Vec F S256x2048 .f32)
    (h : a.view.read (Elt F) (a.view.writes (Elt F) (a.view.writes (Elt F) a.view.junk M) L) = R)
    (inb : ∀ b, (![0, 512] : Fin 2 → ℕ) b + S256x512.size b ≤ S256x2048.size b) :
    a.view.readCov (L ++ M) (Rect.unit (s := S256x2048) ![0, 512] S256x512.size inb).toLoadRect = cols R 1 :=
  readCov_cols a L M R h 1 inb

theorem readAt_outSlab_1 (a : Memref sig .tc .vmem S4x512x128 .bf16) (h : a.IsWhole) (x : Vec F S4x512x128 .bf16)
    (inb : ∀ b, (![1, 0, 0] : Fin 3 → ℕ) b + S1x512x128.size b ≤ S4x512x128.size b) :
    View.readAt (Elt F) a.view (Rect.unit (s := S4x512x128) ![1, 0, 0] S1x512x128.size inb).toLoadRect (h.unread x) = outSlab x 1 := by
  rw [View.readAt_eq_ld, h.read_unread]
  exact ld_outSlab x 1 inb

theorem readCov_cols_2 (a : Memref sig .tc .vmem S256x2048 .f32) (L M : List (View.Piece (Elt F) S256x2048 .f32)) (R : Vec F S256x2048 .f32)
    (h : a.view.read (Elt F) (a.view.writes (Elt F) (a.view.writes (Elt F) a.view.junk M) L) = R)
    (inb : ∀ b, (![0, 1024] : Fin 2 → ℕ) b + S256x512.size b ≤ S256x2048.size b) :
    a.view.readCov (L ++ M) (Rect.unit (s := S256x2048) ![0, 1024] S256x512.size inb).toLoadRect = cols R 2 :=
  readCov_cols a L M R h 2 inb

theorem readAt_outSlab_2 (a : Memref sig .tc .vmem S4x512x128 .bf16) (h : a.IsWhole) (x : Vec F S4x512x128 .bf16)
    (inb : ∀ b, (![2, 0, 0] : Fin 3 → ℕ) b + S1x512x128.size b ≤ S4x512x128.size b) :
    View.readAt (Elt F) a.view (Rect.unit (s := S4x512x128) ![2, 0, 0] S1x512x128.size inb).toLoadRect (h.unread x) = outSlab x 2 := by
  rw [View.readAt_eq_ld, h.read_unread]
  exact ld_outSlab x 2 inb

theorem readCov_cols_3 (a : Memref sig .tc .vmem S256x2048 .f32) (L M : List (View.Piece (Elt F) S256x2048 .f32)) (R : Vec F S256x2048 .f32)
    (h : a.view.read (Elt F) (a.view.writes (Elt F) (a.view.writes (Elt F) a.view.junk M) L) = R)
    (inb : ∀ b, (![0, 1536] : Fin 2 → ℕ) b + S256x512.size b ≤ S256x2048.size b) :
    a.view.readCov (L ++ M) (Rect.unit (s := S256x2048) ![0, 1536] S256x512.size inb).toLoadRect = cols R 3 :=
  readCov_cols a L M R h 3 inb

theorem readAt_outSlab_3 (a : Memref sig .tc .vmem S4x512x128 .bf16) (h : a.IsWhole) (x : Vec F S4x512x128 .bf16)
    (inb : ∀ b, (![3, 0, 0] : Fin 3 → ℕ) b + S1x512x128.size b ≤ S4x512x128.size b) :
    View.readAt (Elt F) a.view (Rect.unit (s := S4x512x128) ![3, 0, 0] S1x512x128.size inb).toLoadRect (h.unread x) = outSlab x 3 := by
  rw [View.readAt_eq_ld, h.read_unread]
  exact ld_outSlab x 3 inb

theorem readAt_whole {s : Shape} {e : EltTy} (a : Memref sig .tc .vmem s e) (h : a.IsWhole) (x : s.Idx → Elt F e)
    (off : Fin s.rank → ℕ) (inb : ∀ b, off b + s.size b ≤ s.size b) (h0 : ∀ b, off b = 0) :
    View.readAt (Elt F) a.view (Rect.unit (s := s) off s.size inb).toLoadRect (h.unread x) = x := by
  rw [View.readAt_eq_ld, h.read_unread]
  exact View.ld_unit_lit inb x h0

theorem readAt_inSlab_0 (a : Memref sig .tc .vmem S4x128x512 .bf16) (h : a.IsWhole) (x : Vec F S4x128x512 .bf16)
    (inb : ∀ b, (![0, 0, 0] : Fin 3 → ℕ) b + S1x128x512.size b ≤ S4x128x512.size b) :
    View.readAt (Elt F) a.view (Rect.unit (s := S4x128x512) ![0, 0, 0] S1x128x512.size inb).toLoadRect (h.unread x) = inSlab x 0 := by
  rw [View.readAt_eq_ld, h.read_unread]
  exact ld_inSlab x 0 inb

theorem readAt_inSlab_1 (a : Memref sig .tc .vmem S4x128x512 .bf16) (h : a.IsWhole) (x : Vec F S4x128x512 .bf16)
    (inb : ∀ b, (![1, 0, 0] : Fin 3 → ℕ) b + S1x128x512.size b ≤ S4x128x512.size b) :
    View.readAt (Elt F) a.view (Rect.unit (s := S4x128x512) ![1, 0, 0] S1x128x512.size inb).toLoadRect (h.unread x) = inSlab x 1 := by
  rw [View.readAt_eq_ld, h.read_unread]
  exact ld_inSlab x 1 inb

theorem readAt_inSlab_2 (a : Memref sig .tc .vmem S4x128x512 .bf16) (h : a.IsWhole) (x : Vec F S4x128x512 .bf16)
    (inb : ∀ b, (![2, 0, 0] : Fin 3 → ℕ) b + S1x128x512.size b ≤ S4x128x512.size b) :
    View.readAt (Elt F) a.view (Rect.unit (s := S4x128x512) ![2, 0, 0] S1x128x512.size inb).toLoadRect (h.unread x) = inSlab x 2 := by
  rw [View.readAt_eq_ld, h.read_unread]
  exact ld_inSlab x 2 inb

theorem readAt_inSlab_3 (a : Memref sig .tc .vmem S4x128x512 .bf16) (h : a.IsWhole) (x : Vec F S4x128x512 .bf16)
    (inb : ∀ b, (![3, 0, 0] : Fin 3 → ℕ) b + S1x128x512.size b ≤ S4x128x512.size b) :
    View.readAt (Elt F) a.view (Rect.unit (s := S4x128x512) ![3, 0, 0] S1x128x512.size inb).toLoadRect (h.unread x) = inSlab x 3 := by
  rw [View.readAt_eq_ld, h.read_unread]
  exact ld_inSlab x 3 inb

/-- The handing buffer after both its rows were stored. -/
theorem kept_writes (a : Memref sig .tc .vmem S8x2048 .f32) (f : BufTy.Contents (Elt F) a.view.ty)
    (r0 r1 : Vec F S1x2048 .f32) (L : List (View.Piece (Elt F) S8x2048 .f32)) :
    kept (a.view.read (Elt F) (a.view.writes (Elt F) f
      (⟨Rect.unit (s := S8x2048) ![1, 0] S1x2048.size inb_S8x2048_S1x2048_1_0, r1⟩ ::
       ⟨Rect.unit (s := S8x2048) ![0, 0] S1x2048.size inb_S8x2048_S1x2048_0_0, r0⟩ :: L)))
      = (r0, r1) := by
  refine Prod.ext (funext fun x => ?_) (funext fun x => ?_)
  · have hx : x = ix2 0 (x (1 : Fin 2)) := funext fun b => match b with
      | ⟨0, _⟩ => Fin.ext (by have : (x (0 : Fin 2)).val < 1 := (x (0 : Fin 2)).isLt; exact (by omega : (x (0 : Fin 2)).val = 0))
      | ⟨1, _⟩ => rfl
    refine (View.read_writes_cons_rows_of_not_mem (o := 1) (W := 1) a.view f _ r1 _ _ rfl rfl (Or.inl (by show 0 < 1; omega))).trans ?_
    exact View.read_writes_cons_rows_of_mem (o := 0) a.view f _ r0 _ _ x rfl (by show 0 = 0 + (x (0 : Fin 2)).val; rw [hx]; rfl) rfl
  · have hx : x = ix2 0 (x (1 : Fin 2)) := funext fun b => match b with
      | ⟨0, _⟩ => Fin.ext (by have : (x (0 : Fin 2)).val < 1 := (x (0 : Fin 2)).isLt; exact (by omega : (x (0 : Fin 2)).val = 0))
      | ⟨1, _⟩ => rfl
    exact View.read_writes_cons_rows_of_mem (o := 1) a.view f _ r1 _ _ x rfl (by show 1 = 1 + (x (0 : Fin 2)).val; rw [hx]; rfl) rfl

end Cert.Ssm
end
-- ==== Proof.SsmBodyFirst.lean ====
module

public import proofs.«01_k».proof.Proof.SsmVals

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first block of a sequence: its body starts from the state it is given. -/
theorem body_first (c : Dev nD) (i : grid0.Coords) (arg2 : Memref sig .tc .vmem S1x256x512 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x512x128 .bf16) (harg9 : arg9.IsWhole) (arg10 : Memref sig .tc .vmem S4x512x128 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1x1x2048 .f32) (harg15 : arg15.IsWhole) (arg16 : Memref sig .tc .vmem S1x1x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S8x2048 .f32) (harg19 : arg19.IsWhole) (hc0 : begins i) (x2 : Vec F S1x256x512 .f32) (x3 : Vec F S1x1x2048 .f32) (x4 : Vec F S1x1x2048 .f32) (x5 : Vec F S1x2048 .f32) (x6 : Vec F S1x2048 .f32) (x7 : Vec F S4x128x512 .bf16) (x8 : Vec F S4x128x512 .bf16) (x9 : Vec F S4x512x128 .bf16) (x10 : Vec F S4x512x128 .bf16) (x11 : Vec F S1x512 .f32) (x12 : Vec F S512x512 .bf16) (x13 : Vec F S1x512 .f32)
    (E : Set ℕ) (K : PUnit → sProp 𝕄) :
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (outVal x2 x5 x6 x7 x8 x9 x10 x11 x12 x13 (k0_pay2 x3, k0_pay3 x4))
      ∗ owns (c : Thread nD τ) arg15 fullShare (k0_pay28 (states x2 x5 x6 x7 x8 (k0_pay2 x3, k0_pay3 x4) 256).1) ∗ owns (c : Thread nD τ) arg16 fullShare (k0_pay29 (states x2 x5 x6 x7 x8 (k0_pay2 x3, k0_pay3 x4) 256).2)
      ∗ (∃ f, arg17.view.loc (c : Thread nD τ) ↦[arg17.view.set]{fullShare} f) ∗ (∃ f, arg18.view.loc (c : Thread nD τ) ↦[arg18.view.set]{fullShare} f)
      ∗ (∃ f, (arg19.view.loc (c : Thread nD τ) ↦[arg19.view.set]{fullShare} f) ∗ ⌜kept (arg19.view.read (Elt F) f) = states x2 x5 x6 x7 x8 (k0_pay2 x3, k0_pay3 x4) 256⌝)) -∗ K ⟨⟩))
  ⊢ wp frame (wpE (defs₀ (F := F)) Variants.none c none) E (cc0_ssm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ssm_eq_skeleton, k0_part1_eq_skeleton, k0_part2_eq_skeleton, k0_part3_eq_skeleton, k0_part4_eq_skeleton, k0_part5_eq_skeleton]
  unfold cc0_ssm_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0)
  sl_step
  have htr : Scf.trips k0_t1_loop.lb k0_t1_loop.ub k0_t1_loop.st = 256 := trips_eq
  have hH17 : arg17.view.read (Elt F) (arg17.view.writes (Elt F) arg17.view.junk (body_first.sl.H17_4 c arg2 harg2 arg7 harg7 x2 x7)) = fillRe x2 x7 := by
    refine (read_joinCols arg17 _ _ _ _ _).trans ?_
    try delta body_first.sl.r_4
    try delta body_first.sl.r_3
    try delta body_first.sl.r_2
    try delta body_first.sl.r_1
    try delta body_first.sl.r
    rw [readAt_whole arg2 _ _ _ _ (fun b => by fin_cases b <;> rfl), readAt_inSlab_0 arg7, readAt_inSlab_1 arg7, readAt_inSlab_2 arg7, readAt_inSlab_3 arg7]
    rfl
  have hH18 : arg18.view.read (Elt F) (arg18.view.writes (Elt F) arg18.view.junk (body_first.sl.H18_4 c arg2 harg2 arg8 harg8 x2 x8)) = fillIm x2 x8 := by
    refine (read_joinCols arg18 _ _ _ _ _).trans ?_
    try delta body_first.sl.r_4
    try delta body_first.sl.r_3
    try delta body_first.sl.r_2
    try delta body_first.sl.r_1
    try delta body_first.sl.r
    rw [readAt_whole arg2 _ _ _ _ (fun b => by fin_cases b <;> rfl), readAt_inSlab_0 arg8, readAt_inSlab_1 arg8, readAt_inSlab_2 arg8, readAt_inSlab_3 arg8]
    rfl
  obtain ⟨e1, e2, e3⟩ := st_value (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (body_first.sl.r_4 c arg2 harg2 arg8 harg8 x2 x8)
    (View.readAt (Elt F) arg5.view (Rect.unit (s := S1x2048) ![0, 0] S1x2048.size inb_S1x2048_S1x2048_0_0).toLoadRect (harg5.unread x5))
    (View.readAt (Elt F) arg6.view (Rect.unit (s := S1x2048) ![0, 0] S1x2048.size inb_S1x2048_S1x2048_0_0).toLoadRect (harg6.unread x6))
    (arg17.view.writes (Elt F) arg17.view.junk (body_first.sl.H17_4 c arg2 harg2 arg7 harg7 x2 x7))
    (arg18.view.writes (Elt F) arg18.view.junk (body_first.sl.H18_4 c arg2 harg2 arg8 harg8 x2 x8))
    (body_first.sl.v62 c arg3 harg3 arg4 harg4 arg19 x3 x4, body_first.sl.v63 c arg3 harg3 arg4 harg4 arg19 x3 x4) 256 le_rfl
  have hin : ∀ z : Vec F S1x2048 .f32 × Vec F S1x2048 .f32, z = (k0_pay2 x3, k0_pay3 x4) → hist (View.readAt (Elt F) arg5.view (Rect.unit (s := S1x2048) ![0, 0] S1x2048.size inb_S1x2048_S1x2048_0_0).toLoadRect (harg5.unread x5))
    (View.readAt (Elt F) arg6.view (Rect.unit (s := S1x2048) ![0, 0] S1x2048.size inb_S1x2048_S1x2048_0_0).toLoadRect (harg6.unread x6))
    (fillRe x2 x7) (fillIm x2 x8) z = states x2 x5 x6 x7 x8 (k0_pay2 x3, k0_pay3 x4) := by
    rintro z rfl
    rw [readAt_whole arg5 _ _ _ _ (fun b => by fin_cases b <;> rfl), readAt_whole arg6 _ _ _ _ (fun b => by fin_cases b <;> rfl)]
    rfl
  have hz : (body_first.sl.v62 c arg3 harg3 arg4 harg4 arg19 x3 x4, body_first.sl.v63 c arg3 harg3 arg4 harg4 arg19 x3 x4) = (k0_pay2 x3, k0_pay3 x4) := by
    delta body_first.sl.v62 body_first.sl.v63
    refine (congrArg₂ Prod.mk ((View.readAt_eq_ld ..).trans (ld_row0 _ _)) ((View.readAt_eq_ld ..).trans (ld_row1 _ _))).trans ?_
    delta body_first.sl.H19_2
    refine (kept_writes arg19 _ _ _ _).trans ?_
    rw [readAt_whole arg3 _ _ _ _ (fun b => by fin_cases b <;> rfl), readAt_whole arg4 _ _ _ _ (fun b => by fin_cases b <;> rfl)]
  rw [hH17, hH18, hin _ hz] at e1 e2 e3
  simp only [htr, e1, pay26_eq, pay27_eq]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap
    · iexact H14
    · ipureintro
      refine Eq.trans (read_whole arg14 _ _ _ (by decide) _) ?_
      delta body_first.sl.r_11
      delta body_first.sl.r_10 body_first.sl.r_9 body_first.sl.r_8 body_first.sl.r_7
      delta body_first.sl.r_6 body_first.sl.r_5 body_first.sl.r
      delta body_first.sl.v78 body_first.sl.v80 body_first.sl.v89 body_first.sl.v91 body_first.sl.v100 body_first.sl.v102 body_first.sl.v111 body_first.sl.v113
      rw [htr]
      rw [readCov_cols_0 arg17 _ _ _ e2, readCov_cols_1 arg17 _ _ _ e2, readCov_cols_2 arg17 _ _ _ e2, readCov_cols_3 arg17 _ _ _ e2,
        readCov_cols_0 arg18 _ _ _ e3, readCov_cols_1 arg18 _ _ _ e3, readCov_cols_2 arg18 _ _ _ e3, readCov_cols_3 arg18 _ _ _ e3,
        readAt_outSlab_0 arg9, readAt_outSlab_1 arg9, readAt_outSlab_2 arg9, readAt_outSlab_3 arg9,
        readAt_outSlab_0 arg10, readAt_outSlab_1 arg10, readAt_outSlab_2 arg10, readAt_outSlab_3 arg10,
        readAt_whole arg2 _ _ _ _ (fun b => by fin_cases b <;> rfl), readAt_whole arg11 _ _ _ _ (fun b => by fin_cases b <;> rfl), readAt_whole arg12 _ _ _ _ (fun b => by fin_cases b <;> rfl), readAt_whole arg13 _ _ _ _ (fun b => by fin_cases b <;> rfl)]
      rfl
  isplitl [H15]
  · iexists _; isplitr; swap
    · iexact H15
    · ipureintro
      refine Eq.trans (read_whole arg15 _ _ _ (by decide) _) ?_
      rfl
  isplitl [H16]
  · iexists _; isplitr; swap
    · iexact H16
    · ipureintro
      refine Eq.trans (read_whole arg16 _ _ _ (by decide) _) ?_
      rfl
  isplitl [H17]
  · iexists _
    iexact H17
  isplitl [H18]
  · iexists _
    iexact H18
  iexists (arg19.view.writes (Elt F) f19
    (⟨Rect.unit (s := S8x2048) ![1, 0] S1x2048.size inb_S8x2048_S1x2048_1_0, (states x2 x5 x6 x7 x8 (k0_pay2 x3, k0_pay3 x4) 256).2⟩ ::
     ⟨Rect.unit (s := S8x2048) ![0, 0] S1x2048.size inb_S8x2048_S1x2048_0_0, (states x2 x5 x6 x7 x8 (k0_pay2 x3, k0_pay3 x4) 256).1⟩ :: body_first.sl.H19_2 c arg3 harg3 arg4 harg4 x3 x4))
  isplitl [H19]
  · iexact H19
  · ipureintro
    exact kept_writes arg19 _ _ _ _

end Cert.Ssm
end
-- ==== Proof.SsmBodyNext.lean ====
module

public import proofs.«01_k».proof.Proof.SsmVals

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A later block of a sequence: its body starts from the state kept by the block before it. -/
theorem body_next (c : Dev nD) (i : grid0.Coords) (arg2 : Memref sig .tc .vmem S1x256x512 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x512x128 .bf16) (harg9 : arg9.IsWhole) (arg10 : Memref sig .tc .vmem S4x512x128 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1x1x2048 .f32) (harg15 : arg15.IsWhole) (arg16 : Memref sig .tc .vmem S1x1x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S8x2048 .f32) (harg19 : arg19.IsWhole) (hc0 : ¬ begins i) (x2 : Vec F S1x256x512 .f32) (x3 : Vec F S1x1x2048 .f32) (x4 : Vec F S1x1x2048 .f32) (x5 : Vec F S1x2048 .f32) (x6 : Vec F S1x2048 .f32) (x7 : Vec F S4x128x512 .bf16) (x8 : Vec F S4x128x512 .bf16) (x9 : Vec F S4x512x128 .bf16) (x10 : Vec F S4x512x128 .bf16) (x11 : Vec F S1x512 .f32) (x12 : Vec F S512x512 .bf16) (x13 : Vec F S1x512 .f32) (x19 : Vec F S8x2048 .f32)
    (E : Set ℕ) (K : PUnit → sProp 𝕄) :
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (outVal x2 x5 x6 x7 x8 x9 x10 x11 x12 x13 (kept x19))
      ∗ owns (c : Thread nD τ) arg15 fullShare (k0_pay28 (states x2 x5 x6 x7 x8 (kept x19) 256).1) ∗ owns (c : Thread nD τ) arg16 fullShare (k0_pay29 (states x2 x5 x6 x7 x8 (kept x19) 256).2)
      ∗ (∃ f, arg17.view.loc (c : Thread nD τ) ↦[arg17.view.set]{fullShare} f) ∗ (∃ f, arg18.view.loc (c : Thread nD τ) ↦[arg18.view.set]{fullShare} f)
      ∗ (∃ f, (arg19.view.loc (c : Thread nD τ) ↦[arg19.view.set]{fullShare} f) ∗ ⌜kept (arg19.view.read (Elt F) f) = states x2 x5 x6 x7 x8 (kept x19) 256⌝)) -∗ K ⟨⟩))
  ⊢ wp frame (wpE (defs₀ (F := F)) Variants.none c none) E (cc0_ssm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ssm_eq_skeleton, k0_part1_eq_skeleton, k0_part2_eq_skeleton, k0_part3_eq_skeleton, k0_part4_eq_skeleton, k0_part5_eq_skeleton]
  unfold cc0_ssm_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0)
  sl_step
  have htr : Scf.trips k0_t1_loop.lb k0_t1_loop.ub k0_t1_loop.st = 256 := trips_eq
  have hH17 : arg17.view.read (Elt F) (arg17.view.writes (Elt F) arg17.view.junk (body_next.sl.H17_4 c arg2 harg2 arg7 harg7 x2 x7)) = fillRe x2 x7 := by
    refine (read_joinCols arg17 _ _ _ _ _).trans ?_
    try delta body_next.sl.r_4
    try delta body_next.sl.r_3
    try delta body_next.sl.r_2
    try delta body_next.sl.r_1
    try delta body_next.sl.r
    rw [readAt_whole arg2 _ _ _ _ (fun b => by fin_cases b <;> rfl), readAt_inSlab_0 arg7, readAt_inSlab_1 arg7, readAt_inSlab_2 arg7, readAt_inSlab_3 arg7]
    rfl
  have hH18 : arg18.view.read (Elt F) (arg18.view.writes (Elt F) arg18.view.junk (body_next.sl.H18_4 c arg2 harg2 arg8 harg8 x2 x8)) = fillIm x2 x8 := by
    refine (read_joinCols arg18 _ _ _ _ _).trans ?_
    try delta body_next.sl.r_4
    try delta body_next.sl.r_3
    try delta body_next.sl.r_2
    try delta body_next.sl.r_1
    try delta body_next.sl.r
    rw [readAt_whole arg2 _ _ _ _ (fun b => by fin_cases b <;> rfl), readAt_inSlab_0 arg8, readAt_inSlab_1 arg8, readAt_inSlab_2 arg8, readAt_inSlab_3 arg8]
    rfl
  obtain ⟨e1, e2, e3⟩ := st_value (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (body_next.sl.r_4 c arg2 harg2 arg8 harg8 x2 x8)
    (View.readAt (Elt F) arg5.view (Rect.unit (s := S1x2048) ![0, 0] S1x2048.size inb_S1x2048_S1x2048_0_0).toLoadRect (harg5.unread x5))
    (View.readAt (Elt F) arg6.view (Rect.unit (s := S1x2048) ![0, 0] S1x2048.size inb_S1x2048_S1x2048_0_0).toLoadRect (harg6.unread x6))
    (arg17.view.writes (Elt F) arg17.view.junk (body_next.sl.H17_4 c arg2 harg2 arg7 harg7 x2 x7))
    (arg18.view.writes (Elt F) arg18.view.junk (body_next.sl.H18_4 c arg2 harg2 arg8 harg8 x2 x8))
    (View.readAt (Elt F) arg19.view (Rect.unit (s := S8x2048) ![0, 0] S1x2048.size inb_S8x2048_S1x2048_0_0).toLoadRect f19,
      View.readAt (Elt F) arg19.view (Rect.unit (s := S8x2048) ![1, 0] S1x2048.size inb_S8x2048_S1x2048_1_0).toLoadRect f19) 256 le_rfl
  have hin : ∀ z : Vec F S1x2048 .f32 × Vec F S1x2048 .f32, z = (kept x19) → hist (View.readAt (Elt F) arg5.view (Rect.unit (s := S1x2048) ![0, 0] S1x2048.size inb_S1x2048_S1x2048_0_0).toLoadRect (harg5.unread x5))
    (View.readAt (Elt F) arg6.view (Rect.unit (s := S1x2048) ![0, 0] S1x2048.size inb_S1x2048_S1x2048_0_0).toLoadRect (harg6.unread x6))
    (fillRe x2 x7) (fillIm x2 x8) z = states x2 x5 x6 x7 x8 (kept x19) := by
    rintro z rfl
    rw [readAt_whole arg5 _ _ _ _ (fun b => by fin_cases b <;> rfl), readAt_whole arg6 _ _ _ _ (fun b => by fin_cases b <;> rfl)]
    rfl
  have hz : (View.readAt (Elt F) arg19.view (Rect.unit (s := S8x2048) ![0, 0] S1x2048.size inb_S8x2048_S1x2048_0_0).toLoadRect f19,
      View.readAt (Elt F) arg19.view (Rect.unit (s := S8x2048) ![1, 0] S1x2048.size inb_S8x2048_S1x2048_1_0).toLoadRect f19) = (kept x19) := by
    subst hf19; rw [View.readAt_eq_ld, View.readAt_eq_ld]; exact congrArg₂ Prod.mk (ld_row0 _ _) (ld_row1 _ _)
  rw [hH17, hH18, hin _ hz] at e1 e2 e3
  simp only [htr, e1, pay26_eq, pay27_eq]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap
    · iexact H14
    · ipureintro
      refine Eq.trans (read_whole arg14 _ _ _ (by decide) _) ?_
      delta body_next.sl.r_11
      delta body_next.sl.r_10 body_next.sl.r_9 body_next.sl.r_8 body_next.sl.r_7
      delta body_next.sl.r_6 body_next.sl.r_5 body_next.sl.r
      delta body_next.sl.v78 body_next.sl.v80 body_next.sl.v89 body_next.sl.v91 body_next.sl.v100 body_next.sl.v102 body_next.sl.v111 body_next.sl.v113
      rw [htr]
      rw [readCov_cols_0 arg17 _ _ _ e2, readCov_cols_1 arg17 _ _ _ e2, readCov_cols_2 arg17 _ _ _ e2, readCov_cols_3 arg17 _ _ _ e2,
        readCov_cols_0 arg18 _ _ _ e3, readCov_cols_1 arg18 _ _ _ e3, readCov_cols_2 arg18 _ _ _ e3, readCov_cols_3 arg18 _ _ _ e3,
        readAt_outSlab_0 arg9, readAt_outSlab_1 arg9, readAt_outSlab_2 arg9, readAt_outSlab_3 arg9,
        readAt_outSlab_0 arg10, readAt_outSlab_1 arg10, readAt_outSlab_2 arg10, readAt_outSlab_3 arg10,
        readAt_whole arg2 _ _ _ _ (fun b => by fin_cases b <;> rfl), readAt_whole arg11 _ _ _ _ (fun b => by fin_cases b <;> rfl), readAt_whole arg12 _ _ _ _ (fun b => by fin_cases b <;> rfl), readAt_whole arg13 _ _ _ _ (fun b => by fin_cases b <;> rfl)]
      rfl
  isplitl [H15]
  · iexists _; isplitr; swap
    · iexact H15
    · ipureintro
      refine Eq.trans (read_whole arg15 _ _ _ (by decide) _) ?_
      rfl
  isplitl [H16]
  · iexists _; isplitr; swap
    · iexact H16
    · ipureintro
      refine Eq.trans (read_whole arg16 _ _ _ (by decide) _) ?_
      rfl
  isplitl [H17]
  · iexists _
    iexact H17
  isplitl [H18]
  · iexists _
    iexact H18
  iexists (arg19.view.writes (Elt F) f19
    (⟨Rect.unit (s := S8x2048) ![1, 0] S1x2048.size inb_S8x2048_S1x2048_1_0, (states x2 x5 x6 x7 x8 (kept x19) 256).2⟩ ::
     ⟨Rect.unit (s := S8x2048) ![0, 0] S1x2048.size inb_S8x2048_S1x2048_0_0, (states x2 x5 x6 x7 x8 (kept x19) 256).1⟩ :: []))
  isplitl [H19]
  · iexact H19
  · ipureintro
    exact kept_writes arg19 _ _ _ _

end Cert.Ssm
end
-- ==== Proof.SsmFrame.lean ====
module

public import Idealize.ShloMosaic.Lib.Claim
public import proofs.«01_k».proof.Proof.SsmBodyFirst
public import proofs.«01_k».proof.Proof.SsmBodyNext

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point begins a sequence when its block is a sequence's first. -/
theorem begins_iff : ∀ t : Fin cfg0.N, begins (grid0.coords t) ↔ t.val % 32 = 0 := fun t => by
  have ht : t.val < 64 := Nat.lt_of_lt_of_eq t.isLt N_0
  have e1 : (grid0.coords t 1).val = t.val / 1 % 32 := Pipeline.Grid.coords_val t 1 (by decide) rfl
  simp only [begins, e1]; word_cmp

/-- The states of the block at point `t`, from the state `s` it starts from. -/
def statesAt (c : Dev nD) (t : Fin cfg0.N) (s : Vec F S1x2048 .f32 × Vec F S1x2048 .f32) (k : ℕ) : Vec F S1x2048 .f32 × Vec F S1x2048 .f32 :=
  states (iblk m c 0 t) (iblk m c 3 t) (iblk m c 4 t) (iblk m c 5 t) (iblk m c 6 t) s k

/-- The state the launch gives the sequence of point `t`. -/
def given (c : Dev nD) (t : Fin cfg0.N) : Vec F S1x2048 .f32 × Vec F S1x2048 .f32 :=
  (k0_pay2 (iblk m c 1 t), k0_pay3 (iblk m c 2 t))

/-- The state after the block at point `n`: its sequence's recurrence up to there. -/
def stateAfter (c : Dev nD) : (n : ℕ) → n < cfg0.N → Vec F S1x2048 .f32 × Vec F S1x2048 .f32
  | 0, hn => statesAt m c ⟨0, hn⟩ (given m c ⟨0, hn⟩) 256
  | n + 1, hn => statesAt m c ⟨n + 1, hn⟩ (if (n + 1) % 32 = 0 then given m c ⟨n + 1, hn⟩ else stateAfter c n (Nat.lt_of_succ_lt hn)) 256

/-- The state the block at point `t` starts from. -/
def startAt (c : Dev nD) (t : Fin cfg0.N) : Vec F S1x2048 .f32 × Vec F S1x2048 .f32 :=
  if t.val % 32 = 0 then given m c t else stateAfter m c (t.val - 1) (Nat.lt_of_le_of_lt (Nat.sub_le _ _) t.isLt)

theorem stateAfter_eq (c : Dev nD) (t : Fin cfg0.N) : stateAfter m c t.val t.isLt = statesAt m c t (startAt m c t) 256 := by
  obtain ⟨n, hn⟩ := t
  cases n with
  | zero => rfl
  | succ n => rfl

/-- The region's invariant before position `n`: after a point the third scratch buffer hands on the point's state. -/
def PhiS (c : Dev nD) : (n : ℕ) → n ≤ cfg0.N → sProp 𝕄
  | 0, _ => Pipeline.ΦA spec0 c
  | n + 1, hn => iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d ∗ ⌜kept d = stateAfter m c n hn⌝))
      ∗ (∃ r, prngReg c r))

theorem PhiA_eq (c : Dev nD) : (Pipeline.ΦA spec0 c : sProp 𝕄)
    = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d))
      ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d ∗ ⌜kept d = stateAfter m c (n - 1) (by omega)⌝))
      ∗ (∃ r, prngReg c r)) := by
  cases n with
  | zero => exact absurd rfl hz
  | succ n => rfl

/-- What the kept state was may be forgotten. -/
theorem PhiS_forget (c : Dev nD) (n : ℕ) (h : n ≤ cfg0.N) : PhiS m c n h ⊢ (Pipeline.ΦA spec0 c : sProp 𝕄) := by
  cases n with
  | zero => exact .rfl
  | succ n =>
    rw [PhiS_pos m c _ _ (Nat.succ_ne_zero n), PhiA_eq]
    iintro ⟨⟨H0, H1, ⟨%d, H2, -⟩⟩, Hg⟩
    isplitr [Hg]
    · isplitl [H0]; · iexact H0
      isplitl [H1]; · iexact H1
      iexists d; iexact H2
    iexact Hg

/-- What each point leaves in the arrays' buffers and in the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outVal (iblk m c 0 t) (iblk m c 3 t) (iblk m c 4 t) (iblk m c 5 t) (iblk m c 6 t) (iblk m c 7 t) (iblk m c 8 t) (iblk m c 9 t) (iblk m c 10 t) (iblk m c 11 t) (startAt m c t)
    | ⟨13, _⟩ => k0_pay28 (statesAt m c t (startAt m c t) 256).1
    | ⟨14, _⟩ => k0_pay29 (statesAt m c t (startAt m c t) 256).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem after0_12 (c : Dev nD) (t : Fin cfg0.N) : (dats m 0 c).after 12 t
    = outVal (iblk m c 0 t) (iblk m c 3 t) (iblk m c 4 t) (iblk m c 5 t) (iblk m c 6 t) (iblk m c 7 t) (iblk m c 8 t) (iblk m c 9 t) (iblk m c 10 t) (iblk m c 11 t) (startAt m c t) := by dsimp only [dats]
theorem after0_13 (c : Dev nD) (t : Fin cfg0.N) : (dats m 0 c).after 13 t = k0_pay28 (statesAt m c t (startAt m c t) 256).1 := by dsimp only [dats]
theorem after0_14 (c : Dev nD) (t : Fin cfg0.N) : (dats m 0 c).after 14 t = k0_pay29 (statesAt m c t (startAt m c t) 256).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 3200000 in
/-- The body at any point: a block starts its sequence or follows another block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_pos m c _ _ (Nat.succ_ne_zero _)]
  rw [show stateAfter m c (t.val + 1 - 1) (by omega) = statesAt m c t (startAt m c t) 256 from stateAfter_eq m c t]
  by_cases h0 : t.val % 32 = 0
  · rw [PhiS_castSucc m c t]
    have hw := PhiS_forget m c t.val (Nat.le_of_lt t.isLt)
    refine (sep_mono_left hw).trans ?_
    rw [PhiA_eq, show startAt m c t = given m c t from if_pos h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid0.coords t) _ _ _ _ _ _ _ _ _ _ _ _ _ _ _ _ _ _ _ _ _ _ _ _ _ _ _ _ _ _ _ _ _ _ _ _ ((begins_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, ⟨%e0, HS0⟩, ⟨%e1, HS1⟩, ⟨%e2, HS2, %he⟩⟩
    isplitl [HS0 HS1 HS2 Hg]
    · isplitr [Hg]
      · isplitl [HS0]
        · unfold owns; iexists _; iexists e0; isplitr
          swap; · iexact HS0
          ipureintro; rfl
        isplitl [HS1]
        · unfold owns; iexists _; iexists e1; isplitr
          swap; · iexact HS1
          ipureintro; rfl
        iexists ((Memref.whole cc0_scratch2 : Memref sig .tc .vmem S8x2048 .f32).view.read (Elt F) e2)
        isplitl [HS2]
        · unfold owns; iexists e2; isplitr
          swap; · iexact HS2
          ipureintro; rfl
        ipureintro; exact he
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hz : t.val ≠ 0 := fun h => h0 (by rw [h])
    rw [PhiS_castSucc m c t, PhiS_pos m c _ _ hz, show startAt m c t = stateAfter m c (t.val - 1) (by omega) from if_neg h0]
    iintro ⟨⟨⟨HS0, HS1, ⟨%ds, HS2, %hds⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    rw [← hds]
    iapply (body_next c (grid0.coords t) _ _ _ _ _ _ _ _ _ _ _ _ _ _ _ _ _ _ _ _ _ _ _ _ _ _ _ _ _ _ _ _ _ _ _ _ (fun h => h0 ((begins_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, ⟨%e0, HS0⟩, ⟨%e1, HS1⟩, ⟨%e2, HS2, %he⟩⟩
    isplitl [HS0 HS1 HS2 Hg]
    · isplitr [Hg]
      · isplitl [HS0]
        · unfold owns; iexists _; iexists e0; isplitr
          swap; · iexact HS0
          ipureintro; rfl
        isplitl [HS1]
        · unfold owns; iexists _; iexists e1; isplitr
          swap; · iexact HS1
          ipureintro; rfl
        iexists ((Memref.whole cc0_scratch2 : Memref sig .tc .vmem S8x2048 .f32).view.read (Elt F) e2)
        isplitl [HS2]
        · unfold owns; iexists e2; isplitr
          swap; · iexact HS2
          ipureintro; rfl
        ipureintro; exact he
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c :=
  PhiS_forget m c (Fin.last cfg0.N).val (Nat.le_of_lt_succ (Fin.last cfg0.N).isLt)

set_option backward.isDefEq.respectTransparency.types false in
/-- The launch, for any values: the arrays end at what the points leave, and every counter at zero. -/
theorem run_launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were launched, and the counters at zero. -/
theorem run_kept : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_launch m ρ)))
    ((θ_run defs _ _).mono (fun _ h => h.2) (run_launch m ρ))

end Cert.Ssm
end
-- ==== Proof.SsmHost.lean ====
module

public import proofs.«01_k».proof.Proof.Gen.KernelIdeal.Frame
public import Idealize.ShloMosaic.Lib.Claim
public import Idealize.ShloMosaic.Lib.ValueIdx

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen

variable {F : FTy → Type} [FloatOps F]

/-- The square whose diagonal is one and whose other entries are zero. -/
def unitSquare : Vec F S8x8 .f32 :=
  uitofp .f32 (cmpi .eq (addi (iotaInDim S8x8 32 0) (broadcastInDim S8x8 ![] bcast_S_S8x8 (constantI S_ 32 0#32))) (iotaInDim S8x8 32 1))

/-- The input map's blocks: a group's weights on its own columns, zero on the other seven groups'. -/
def inBlocks (w : Vec F S32x64x16 .f32) : Vec F S4x128x512 .bf16 :=
  truncf .bf16 (shapeCast S4x128x512
    (mulf (broadcastInDim S4x8x16x8x64 ![0, 1, 2, 3, 4] bcast_S4x8x16x1x64_S4x8x16x8x64_0_1_2_3_4
        (broadcastInDim S4x8x16x1x64 ![0, 1, 2, 4] bcast_S4x8x16x64_S4x8x16x1x64_0_1_2_4
          (shapeCast S4x8x16x64 (shapeCast S512x64 (transpose S32x16x64 [0, 2, 1] w transposes_S32x64x16_S32x16x64_0_2_1)
            shapeCasts_S32x16x64_S512x64) shapeCasts_S512x64_S4x8x16x64)))
      (broadcastInDim S4x8x16x8x64 ![0, 1, 2, 3, 4] bcast_S1x8x1x8x1_S4x8x16x8x64_0_1_2_3_4
        (broadcastInDim S1x8x1x8x1 ![1, 3] bcast_S8x8_S1x8x1x8x1_1_3 unitSquare)))
    shapeCasts_S4x8x16x8x64_S4x128x512) bitsLt_bf16_f32

/-- The output map's blocks, likewise. -/
def outBlocks (w : Vec F S32x16x64 .f32) : Vec F S4x512x128 .bf16 :=
  truncf .bf16 (shapeCast S4x512x128
    (mulf (broadcastInDim S4x8x64x8x16 ![0, 1, 2, 3, 4] bcast_S4x8x64x1x16_S4x8x64x8x16_0_1_2_3_4
        (broadcastInDim S4x8x64x1x16 ![0, 1, 2, 4] bcast_S4x8x64x16_S4x8x64x1x16_0_1_2_4
          (transpose S4x8x64x16 [0, 1, 3, 2] (shapeCast S4x8x16x64 w shapeCasts_S32x16x64_S4x8x16x64)
            transposes_S4x8x16x64_S4x8x64x16_0_1_3_2)))
      (broadcastInDim S4x8x64x8x16 ![0, 1, 2, 3, 4] bcast_S1x8x1x8x1_S4x8x64x8x16_0_1_2_3_4
        (broadcastInDim S1x8x1x8x1 ![1, 3] bcast_S8x8_S1x8x1x8x1_1_3 unitSquare)))
    shapeCasts_S4x8x64x8x16_S4x512x128) bitsLt_bf16_f32

variable (m : (ℓ : Loc nD τ sig) → Buf (Elt F) ℓ) (c : Dev nD)

set_option maxHeartbeats 4000000 in
theorem V_v61 : V m c main_v61 = (shapeCast S2x1x2048 (m ((c : Thread nD τ).loc main_arg1)) shapeCasts_S2x32x64_S2x1x2048 : Vec F S2x1x2048 .f32) := by
  unfold V
  simp only [hostOps0]
  after_results
  rfl

set_option maxHeartbeats 4000000 in
theorem V_v62 : V m c main_v62 = (shapeCast S2x1x2048 (m ((c : Thread nD τ).loc main_arg2)) shapeCasts_S2x32x64_S2x1x2048 : Vec F S2x1x2048 .f32) := by
  unfold V
  simp only [hostOps0]
  after_results
  rfl

set_option maxHeartbeats 4000000 in
theorem V_v6 : V m c main_v6 = (shapeCast S1x2048 (m ((c : Thread nD τ).loc main_arg3)) shapeCasts_S32x64_S1x2048 : Vec F S1x2048 .f32) := by
  unfold V
  simp only [hostOps0]
  after_results
  rfl

set_option maxHeartbeats 4000000 in
theorem V_v7 : V m c main_v7 = (shapeCast S1x2048 (m ((c : Thread nD τ).loc main_arg4)) shapeCasts_S32x64_S1x2048 : Vec F S1x2048 .f32) := by
  unfold V
  simp only [hostOps0]
  after_results
  rfl

set_option maxHeartbeats 4000000 in
theorem V_v17 : V m c main_v17 = (inBlocks (m ((c : Thread nD τ).loc main_arg5)) : Vec F S4x128x512 .bf16) := by
  unfold V
  simp only [hostOps0]
  after_results
  rfl

set_option maxHeartbeats 4000000 in
theorem V_v27 : V m c main_v27 = (inBlocks (m ((c : Thread nD τ).loc main_arg6)) : Vec F S4x128x512 .bf16) := by
  unfold V
  simp only [hostOps0]
  after_results
  rfl

set_option maxHeartbeats 4000000 in
theorem V_v42 : V m c main_v42 = (outBlocks (m ((c : Thread nD τ).loc main_arg7)) : Vec F S4x512x128 .bf16) := by
  unfold V
  simp only [hostOps0]
  after_results
  rfl

set_option maxHeartbeats 4000000 in
theorem V_v57 : V m c main_v57 = (outBlocks (m ((c : Thread nD τ).loc main_arg8)) : Vec F S4x512x128 .bf16) := by
  unfold V
  simp only [hostOps0]
  after_results
  rfl

set_option maxHeartbeats 4000000 in
theorem V_v58 : V m c main_v58 = (shapeCast S1x512 (m ((c : Thread nD τ).loc main_arg9)) shapeCasts_S32x16_S1x512 : Vec F S1x512 .f32) := by
  unfold V
  simp only [hostOps0]
  after_results
  rfl

set_option maxHeartbeats 4000000 in
theorem V_v59 : V m c main_v59 = (truncf .bf16 (m ((c : Thread nD τ).loc main_arg10)) bitsLt_bf16_f32 : Vec F S512x512 .bf16) := by
  unfold V
  simp only [hostOps0]
  after_results

set_option maxHeartbeats 4000000 in
theorem V_v60 : V m c main_v60 = (shapeCast S1x512 (m ((c : Thread nD τ).loc main_arg11)) shapeCasts_S512_S1x512 : Vec F S1x512 .f32) := by
  unfold V
  simp only [hostOps0]
  after_results
  rfl

end Cert.Ssm
end
-- ==== Proof.SsmSpec.lean ====
module

public import Idealize.ShloMosaic.Lib.Claim
public import Idealize.ShloMosaic.Lib.ValueIdx
public import Idealize.ShloMosaic.Lib.Pipeline.Value

@[expose] public section

noncomputable section

namespace Cert.SsmSpec

open Idealize.ShloMosaic Idealize.ShloMosaic.ValueIdx

/-- An array of extended reals. -/
abbrev Arr (s : Shape) : Type := s.Idx → EReal

/-- What the layer is computed from: the input, the state it starts from, the state's diagonal, the maps into
and out of the state (real and imaginary parts), the skip weights, the gate's weights and its offsets. -/
structure Data where
  u : Arr ⟨3, ![2, 8192, 512]⟩
  sr : Arr ⟨3, ![2, 32, 64]⟩
  si : Arr ⟨3, ![2, 32, 64]⟩
  ar : Arr ⟨2, ![32, 64]⟩
  ai : Arr ⟨2, ![32, 64]⟩
  br : Arr ⟨3, ![32, 64, 16]⟩
  bi : Arr ⟨3, ![32, 64, 16]⟩
  cr : Arr ⟨3, ![32, 16, 64]⟩
  ci : Arr ⟨3, ![32, 16, 64]⟩
  d : Arr ⟨2, ![32, 16]⟩
  wg : Arr ⟨2, ![512, 512]⟩
  bg : Arr ⟨1, ![512]⟩

/-- Channel `16 g + c`: channel `c` of group `g`. -/
def chan (g : Fin 32) (c : Fin 16) : Fin 512 := ⟨16 * g.val + c.val, by omega⟩

/-- The group of a channel … -/
def grp (x : Fin 512) : Fin 32 := ⟨x.val / 16, by omega⟩

/-- … and its place in the group. -/
def sub (x : Fin 512) : Fin 16 := ⟨x.val % 16, by omega⟩

/-- The group of a component of the flat state … -/
def sgrp (q : Fin 2048) : Fin 32 := ⟨q.val / 64, by omega⟩

/-- … and its place in the group. -/
def ssub (q : Fin 2048) : Fin 64 := ⟨q.val % 64, by omega⟩

variable (D : Data)

/-- What the input adds to component `p` of group `g` at step `t`. -/
def drive (w : Arr ⟨3, ![32, 64, 16]⟩) (b : Fin 2) (t : Fin 8192) (g : Fin 32) (p : Fin 64) : EReal :=
  ∑ c : Fin 16, D.u (ix3 b t (chan g c)) * w (ix3 g p c)

/-- The state of a sequence after `n` steps: `h ↦ a h + B u`, real and imaginary parts. -/
def state (b : Fin 2) (g : Fin 32) (p : Fin 64) : ℕ → EReal × EReal
  | 0 => (D.sr (ix3 b g p), D.si (ix3 b g p))
  | n + 1 =>
    (D.ar (ix2 g p) * (state b g p n).1 - D.ai (ix2 g p) * (state b g p n).2 + drive D D.br b (Fin.ofNat 8192 n) g p,
     D.ar (ix2 g p) * (state b g p n).2 + D.ai (ix2 g p) * (state b g p n).1 + drive D D.bi b (Fin.ofNat 8192 n) g p)

/-- The real part of the map out of the state, plus the skip. -/
def feat (b : Fin 2) (t : Fin 8192) (x : Fin 512) : EReal :=
  (∑ p : Fin 64, (state D b (grp x) p (t.val + 1)).1 * D.cr (ix3 (grp x) (sub x) p))
    - (∑ p : Fin 64, (state D b (grp x) p (t.val + 1)).2 * D.ci (ix3 (grp x) (sub x) p))
    + D.d (ix2 (grp x) (sub x)) * D.u (ix3 b t x)

/-- The smooth rectifier by its `tanh` formula. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The layer's output: the rectified features times a gate computed from them. -/
def out (b : Fin 2) (t : Fin 8192) (x : Fin 512) : EReal :=
  gelu (feat D b t x) * Ideal.logistic ((∑ k : Fin 512, gelu (feat D b t k) * D.wg (ix2 k x)) + D.bg (ix1 x))

/-- The layer's output as an array … -/
def outOfData : Arr ⟨3, ![2, 8192, 512]⟩ := fun i => out D (i (0 : Fin 3)) (i (1 : Fin 3)) (i (2 : Fin 3))

/-- … and the two parts of the state after the last step, flat. -/
def lastRe : Arr ⟨3, ![2, 1, 2048]⟩ := fun i => (state D (i (0 : Fin 3)) (sgrp (i (2 : Fin 3))) (ssub (i (2 : Fin 3))) 8192).1

def lastIm : Arr ⟨3, ![2, 1, 2048]⟩ := fun i => (state D (i (0 : Fin 3)) (sgrp (i (2 : Fin 3))) (ssub (i (2 : Fin 3))) 8192).2

/-- A sum over `A B` places as a sum over `A` groups of `B`. -/
theorem sum_groups (A B N : ℕ) (h : A * B = N) (f : Fin N → EReal) :
    ∑ k, f k = ∑ a : Fin A, ∑ b : Fin B, f ⟨B * a.val + b.val, by
      subst h
      have ha := a.isLt
      have hb := b.isLt
      calc B * a.val + b.val < B * a.val + B := by omega
        _ = B * (a.val + 1) := by ring
        _ ≤ B * A := Nat.mul_le_mul_left _ ha
        _ = A * B := Nat.mul_comm _ _⟩ := by
  subst h
  rw [← finProdFinEquiv.sum_comp, Fintype.sum_prod_type]
  refine Finset.sum_congr rfl fun a _ => Finset.sum_congr rfl fun b _ => congrArg f (Fin.ext ?_)
  exact Nat.add_comm _ _

/-- Of the eight groups of a block, the square's zeros leave one. -/
theorem sum_groups_unit (A B N : ℕ) (h : A * B = N) (f : Fin N → EReal) (G : Fin A) (g : Fin B → EReal)
    (hG : ∀ (b : Fin B) (k : Fin N), k.val = B * G.val + b.val → f k = g b)
    (h0 : ∀ (a : Fin A) (b : Fin B) (k : Fin N), a ≠ G → k.val = B * a.val + b.val → f k = 0) :
    ∑ k, f k = ∑ b, g b := by
  rw [sum_groups A B N h f, Finset.sum_eq_single G]
  · exact Finset.sum_congr rfl fun b _ => hG b _ rfl
  · intro a _ ha
    exact Finset.sum_eq_zero fun b _ => h0 a b _ ha rfl
  · intro hn; exact absurd (Finset.mem_univ _) hn

end Cert.SsmSpec
end
-- ==== Proof.SsmHostAt.lean ====
module

public import proofs.«01_k».proof.Proof.SsmHost
public import proofs.«01_k».proof.Proof.SsmSpec
public import Idealize.ShloMosaic.Lib.ValueLayout

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen

theorem unitSquare_apply (a b : Fin 8) : (unitSquare (F := Ideal) (ix2 a b) : EReal) = if a = b then 1 else 0 := by
  have e : (cmpi .eq (addi (iotaInDim S8x8 32 0) (broadcastInDim S8x8 ![] bcast_S_S8x8 (constantI S_ 32 0#32))) (iotaInDim S8x8 32 1)) (ix2 a b)
      = if a = b then 1#1 else 0#1 := by
    revert a b; decide
  show ((((cmpi .eq (addi (iotaInDim S8x8 32 0) (broadcastInDim S8x8 ![] bcast_S_S8x8 (constantI S_ 32 0#32))) (iotaInDim S8x8 32 1)) (ix2 a b)).toNat : ℝ) : EReal) = _
  rw [e]
  by_cases h : a = b
  · rw [if_pos h, if_pos h]; simp
  · rw [if_neg h, if_neg h]; simp

/-- An entry of the input map's blocks: the weight of its group where row and column are of one group. -/
theorem inBlocks_apply (w : Vec Ideal S32x64x16 .f32) (j : Fin 4) (k : Fin 128) (n : Fin 512)
    (g G : Fin 8) (c : Fin 16) (p : Fin 64) (hk : k.val = 16 * g.val + c.val) (hn : n.val = 64 * G.val + p.val) :
    (inBlocks w (ix3 j k n) : EReal) = w (ix3 (⟨8 * j.val + g.val, by omega⟩ : Fin 32) p c) * if g = G then 1 else 0 := by
  unfold inBlocks
  rw [truncf_apply]
  rw [shapeCast_apply _ _ (ix3 j k n) (ix5 j g c G p) (by
    rw [Shape.rowMajor_val_five, Shape.rowMajor_val_three]
    show (((j.val * 8 + g.val) * 16 + c.val) * 8 + G.val) * 64 + p.val = (j.val * 128 + k.val) * 512 + n.val
    omega)]
  rw [mulf_apply]
  congr 1
  · rw [broadcastInDim_apply _ _ _ (ix5 j g c G p) (ix5 j g c (0 : Fin 1) p) (fun a => by
      match a with | ⟨0, _⟩ => rfl | ⟨1, _⟩ => rfl | ⟨2, _⟩ => rfl | ⟨3, _⟩ => rfl | ⟨4, _⟩ => rfl)]
    rw [broadcastInDim_apply _ _ _ (ix5 j g c (0 : Fin 1) p) (ix4 j g c p) (fun a => by
      match a with | ⟨0, _⟩ => rfl | ⟨1, _⟩ => rfl | ⟨2, _⟩ => rfl | ⟨3, _⟩ => rfl)]
    rw [shapeCast_apply _ _ (ix4 j g c p) (ix2 (⟨(8 * j.val + g.val) * 16 + c.val, by omega⟩ : Fin 512) p) (by
      rw [Shape.rowMajor_val_two, Shape.rowMajor_val_four]
      show ((8 * j.val + g.val) * 16 + c.val) * 64 + p.val = ((j.val * 8 + g.val) * 16 + c.val) * 64 + p.val
      omega)]
    rw [shapeCast_apply _ _ _ (ix3 (⟨8 * j.val + g.val, by omega⟩ : Fin 32) c p) (by
      rw [Shape.rowMajor_val_two, Shape.rowMajor_val_three]
      rfl)]
    exact transpose_ix3_021_apply _ _ _ _ _
  · rw [broadcastInDim_apply _ _ _ (ix5 j g c G p) (ix5 (0 : Fin 1) g (0 : Fin 1) G (0 : Fin 1)) (fun a => by
      match a with | ⟨0, _⟩ => rfl | ⟨1, _⟩ => rfl | ⟨2, _⟩ => rfl | ⟨3, _⟩ => rfl | ⟨4, _⟩ => rfl)]
    rw [broadcastInDim_apply _ _ _ (ix5 (0 : Fin 1) g (0 : Fin 1) G (0 : Fin 1)) (ix2 g G) (fun a => by
      match a with | ⟨0, _⟩ => rfl | ⟨1, _⟩ => rfl)]
    exact unitSquare_apply g G

/-- An entry of the output map's blocks. -/
theorem outBlocks_apply (w : Vec Ideal S32x16x64 .f32) (j : Fin 4) (k : Fin 512) (n : Fin 128)
    (g G : Fin 8) (c : Fin 16) (p : Fin 64) (hk : k.val = 64 * g.val + p.val) (hn : n.val = 16 * G.val + c.val) :
    (outBlocks w (ix3 j k n) : EReal) = w (ix3 (⟨8 * j.val + g.val, by omega⟩ : Fin 32) c p) * if g = G then 1 else 0 := by
  unfold outBlocks
  rw [truncf_apply]
  rw [shapeCast_apply _ _ (ix3 j k n) (ix5 j g p G c) (by
    rw [Shape.rowMajor_val_five, Shape.rowMajor_val_three]
    show (((j.val * 8 + g.val) * 64 + p.val) * 8 + G.val) * 16 + c.val = (j.val * 512 + k.val) * 128 + n.val
    omega)]
  rw [mulf_apply]
  congr 1
  · rw [broadcastInDim_apply _ _ _ (ix5 j g p G c) (ix5 j g p (0 : Fin 1) c) (fun a => by
      match a with | ⟨0, _⟩ => rfl | ⟨1, _⟩ => rfl | ⟨2, _⟩ => rfl | ⟨3, _⟩ => rfl | ⟨4, _⟩ => rfl)]
    rw [broadcastInDim_apply _ _ _ (ix5 j g p (0 : Fin 1) c) (ix4 j g p c) (fun a => by
      match a with | ⟨0, _⟩ => rfl | ⟨1, _⟩ => rfl | ⟨2, _⟩ => rfl | ⟨3, _⟩ => rfl)]
    rw [transpose_apply _ _ _ (ix4 j g p c) (ix4 j g c p) (fun a => by
      match a with | ⟨0, _⟩ => rfl | ⟨1, _⟩ => rfl | ⟨2, _⟩ => rfl | ⟨3, _⟩ => rfl)]
    exact shapeCast_apply _ _ (ix4 j g c p) (ix3 (⟨8 * j.val + g.val, by omega⟩ : Fin 32) c p) (by
      rw [Shape.rowMajor_val_three, Shape.rowMajor_val_four]
      show ((8 * j.val + g.val) * 16 + c.val) * 64 + p.val = ((j.val * 8 + g.val) * 16 + c.val) * 64 + p.val
      omega)
  · rw [broadcastInDim_apply _ _ _ (ix5 j g p G c) (ix5 (0 : Fin 1) g (0 : Fin 1) G (0 : Fin 1)) (fun a => by
      match a with | ⟨0, _⟩ => rfl | ⟨1, _⟩ => rfl | ⟨2, _⟩ => rfl | ⟨3, _⟩ => rfl | ⟨4, _⟩ => rfl)]
    rw [broadcastInDim_apply _ _ _ (ix5 (0 : Fin 1) g (0 : Fin 1) G (0 : Fin 1)) (ix2 g G) (fun a => by
      match a with | ⟨0, _⟩ => rfl | ⟨1, _⟩ => rfl)]
    exact unitSquare_apply g G

end Cert.Ssm
end
-- ==== Proof.SsmBlocks.lean ====
module

public import proofs.«01_k».proof.Proof.SsmHostAt
public import proofs.«01_k».proof.Proof.SsmFrame

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen Cert.SsmSpec

section Blocks

variable {F : FTy → Type} [FloatOps F] (m : (ℓ : Loc nD τ sig) → Buf (Elt F) ℓ) (c : Dev nD)

/-- The sequence of a point … -/
def seqOf (t : Fin cfg0.N) : Fin 2 := ⟨t.val / 32, by have : t.val < 64 := Nat.lt_of_lt_of_eq t.isLt N_0; omega⟩

/-- … and the step that row `r` of its block is. -/
def stepOf (t : Fin cfg0.N) (r : Fin 256) : Fin 8192 := ⟨256 * (t.val % 32) + r.val, by omega⟩

theorem index_0 : ∀ t : Fin cfg0.N, win0_0.index t 0 = t.val / 32 ∧ win0_0.index t 1 = t.val % 32 ∧ win0_0.index t 2 = 0 := by decide +kernel
theorem index_1 : ∀ t : Fin cfg0.N, win0_1.index t 0 = t.val / 32 ∧ win0_1.index t 1 = 0 ∧ win0_1.index t 2 = 0 := by decide +kernel
theorem index_2 : ∀ t : Fin cfg0.N, win0_2.index t 0 = t.val / 32 ∧ win0_2.index t 1 = 0 ∧ win0_2.index t 2 = 0 := by decide +kernel

theorem iblk_0 (t : Fin cfg0.N) (r : Fin 256) (x : Fin 512) :
    (iblk m c 0 t : Vec F S1x256x512 .f32) (ix3 0 r x) = (m ((c : Thread nD τ).loc main_arg0) : Vec F S2x8192x512 .f32) (ix3 (seqOf t) (stepOf t r) x) := by
  obtain ⟨h0, h1, h2⟩ := index_0 t
  unfold iblk
  rw [View.read_apply]
  show V m c main_arg0 _ = _
  rw [V_main_arg0]
  congr 1
  funext a
  apply Fin.ext
  match a with
  | ⟨0, _⟩ => show win0_0.index t 0 * 1 + 1 * 0 = t.val / 32; rw [h0]; omega
  | ⟨1, _⟩ => show win0_0.index t 1 * 256 + 1 * r.val = 256 * (t.val % 32) + r.val; rw [h1]; omega
  | ⟨2, _⟩ => show win0_0.index t 2 * 512 + 1 * x.val = x.val; rw [h2]; omega

theorem flat_given (w : Vec F S2x32x64 .f32) (b : Fin 2) (q : Fin 2048) :
    (shapeCast S2x1x2048 w shapeCasts_S2x32x64_S2x1x2048 : Vec F S2x1x2048 .f32) (ix3 b 0 q) = w (ix3 b (sgrp q) (ssub q)) :=
  shapeCast_apply _ _ _ _ (by
    rw [Shape.rowMajor_val_three, Shape.rowMajor_val_three]
    show (b.val * 32 + q.val / 64) * 64 + q.val % 64 = (b.val * 1 + 0) * 2048 + q.val
    omega)

theorem iblk_1 (t : Fin cfg0.N) (q : Fin 2048) :
    (iblk m c 1 t : Vec F S1x1x2048 .f32) (ix3 0 0 q)
      = (m ((c : Thread nD τ).loc main_arg1) : Vec F S2x32x64 .f32) (ix3 (seqOf t) (sgrp q) (ssub q)) := by
  obtain ⟨h0, h1, h2⟩ := index_1 t
  unfold iblk
  rw [View.read_apply]
  show V m c main_v61 _ = _
  rw [V_v61]
  refine Eq.trans (congrArg _ (?_ : _ = ix3 (seqOf t) (0 : Fin 1) q)) (flat_given _ _ _)
  funext a
  apply Fin.ext
  match a with
  | ⟨0, _⟩ => show win0_1.index t 0 * 1 + 1 * 0 = t.val / 32; rw [h0]; omega
  | ⟨1, _⟩ => show win0_1.index t 1 * 1 + 1 * 0 = 0; rw [h1]
  | ⟨2, _⟩ => show win0_1.index t 2 * 2048 + 1 * q.val = q.val; rw [h2]; omega

theorem iblk_2 (t : Fin cfg0.N) (q : Fin 2048) :
    (iblk m c 2 t : Vec F S1x1x2048 .f32) (ix3 0 0 q)
      = (m ((c : Thread nD τ).loc main_arg2) : Vec F S2x32x64 .f32) (ix3 (seqOf t) (sgrp q) (ssub q)) := by
  obtain ⟨h0, h1, h2⟩ := index_2 t
  unfold iblk
  rw [View.read_apply]
  show V m c main_v62 _ = _
  rw [V_v62]
  refine Eq.trans (congrArg _ (?_ : _ = ix3 (seqOf t) (0 : Fin 1) q)) (flat_given _ _ _)
  funext a
  apply Fin.ext
  match a with
  | ⟨0, _⟩ => show win0_2.index t 0 * 1 + 1 * 0 = t.val / 32; rw [h0]; omega
  | ⟨1, _⟩ => show win0_2.index t 1 * 1 + 1 * 0 = 0; rw [h1]
  | ⟨2, _⟩ => show win0_2.index t 2 * 2048 + 1 * q.val = q.val; rw [h2]; omega

theorem iblk_3 (t : Fin cfg0.N) : (iblk m c 3 t : Vec F S1x2048 .f32) = V m c main_v6 := by
  funext y
  unfold iblk
  rw [View.read_apply]
  show V m c main_v6 _ = V m c main_v6 y
  congr 1
  funext a
  apply Fin.ext
  match a with
  | ⟨0, _⟩ => show 0 * 1 + 1 * (y (0 : Fin 2)).val = (y (0 : Fin 2)).val; omega
  | ⟨1, _⟩ => show 0 * 2048 + 1 * (y (1 : Fin 2)).val = (y (1 : Fin 2)).val; omega

theorem iblk_4 (t : Fin cfg0.N) : (iblk m c 4 t : Vec F S1x2048 .f32) = V m c main_v7 := by
  funext y
  unfold iblk
  rw [View.read_apply]
  show V m c main_v7 _ = V m c main_v7 y
  congr 1
  funext a
  apply Fin.ext
  match a with
  | ⟨0, _⟩ => show 0 * 1 + 1 * (y (0 : Fin 2)).val = (y (0 : Fin 2)).val; omega
  | ⟨1, _⟩ => show 0 * 2048 + 1 * (y (1 : Fin 2)).val = (y (1 : Fin 2)).val; omega

theorem iblk_5 (t : Fin cfg0.N) : (iblk m c 5 t : Vec F S4x128x512 .bf16) = V m c main_v17 := by
  funext y
  unfold iblk
  rw [View.read_apply]
  show V m c main_v17 _ = V m c main_v17 y
  congr 1
  funext a
  apply Fin.ext
  match a with
  | ⟨0, _⟩ => show 0 * 4 + 1 * (y (0 : Fin 3)).val = (y (0 : Fin 3)).val; omega
  | ⟨1, _⟩ => show 0 * 128 + 1 * (y (1 : Fin 3)).val = (y (1 : Fin 3)).val; omega
  | ⟨2, _⟩ => show 0 * 512 + 1 * (y (2 : Fin 3)).val = (y (2 : Fin 3)).val; omega

theorem iblk_6 (t : Fin cfg0.N) : (iblk m c 6 t : Vec F S4x128x512 .bf16) = V m c main_v27 := by
  funext y
  unfold iblk
  rw [View.read_apply]
  show V m c main_v27 _ = V m c main_v27 y
  congr 1
  funext a
  apply Fin.ext
  match a with
  | ⟨0, _⟩ => show 0 * 4 + 1 * (y (0 : Fin 3)).val = (y (0 : Fin 3)).val; omega
  | ⟨1, _⟩ => show 0 * 128 + 1 * (y (1 : Fin 3)).val = (y (1 : Fin 3)).val; omega
  | ⟨2, _⟩ => show 0 * 512 + 1 * (y (2 : Fin 3)).val = (y (2 : Fin 3)).val; omega

theorem iblk_7 (t : Fin cfg0.N) : (iblk m c 7 t : Vec F S4x512x128 .bf16) = V m c main_v42 := by
  funext y
  unfold iblk
  rw [View.read_apply]
  show V m c main_v42 _ = V m c main_v42 y
  congr 1
  funext a
  apply Fin.ext
  match a with
  | ⟨0, _⟩ => show 0 * 4 + 1 * (y (0 : Fin 3)).val = (y (0 : Fin 3)).val; omega
  | ⟨1, _⟩ => show 0 * 512 + 1 * (y (1 : Fin 3)).val = (y (1 : Fin 3)).val; omega
  | ⟨2, _⟩ => show 0 * 128 + 1 * (y (2 : Fin 3)).val = (y (2 : Fin 3)).val; omega

theorem iblk_8 (t : Fin cfg0.N) : (iblk m c 8 t : Vec F S4x512x128 .bf16) = V m c main_v57 := by
  funext y
  unfold iblk
  rw [View.read_apply]
  show V m c main_v57 _ = V m c main_v57 y
  congr 1
  funext a
  apply Fin.ext
  match a with
  | ⟨0, _⟩ => show 0 * 4 + 1 * (y (0 : Fin 3)).val = (y (0 : Fin 3)).val; omega
  | ⟨1, _⟩ => show 0 * 512 + 1 * (y (1 : Fin 3)).val = (y (1 : Fin 3)).val; omega
  | ⟨2, _⟩ => show 0 * 128 + 1 * (y (2 : Fin 3)).val = (y (2 : Fin 3)).val; omega

theorem iblk_9 (t : Fin cfg0.N) : (iblk m c 9 t : Vec F S1x512 .f32) = V m c main_v58 := by
  funext y
  unfold iblk
  rw [View.read_apply]
  show V m c main_v58 _ = V m c main_v58 y
  congr 1
  funext a
  apply Fin.ext
  match a with
  | ⟨0, _⟩ => show 0 * 1 + 1 * (y (0 : Fin 2)).val = (y (0 : Fin 2)).val; omega
  | ⟨1, _⟩ => show 0 * 512 + 1 * (y (1 : Fin 2)).val = (y (1 : Fin 2)).val; omega

theorem iblk_10 (t : Fin cfg0.N) : (iblk m c 10 t : Vec F S512x512 .bf16) = V m c main_v59 := by
  funext y
  unfold iblk
  rw [View.read_apply]
  show V m c main_v59 _ = V m c main_v59 y
  congr 1
  funext a
  apply Fin.ext
  match a with
  | ⟨0, _⟩ => show 0 * 512 + 1 * (y (0 : Fin 2)).val = (y (0 : Fin 2)).val; omega
  | ⟨1, _⟩ => show 0 * 512 + 1 * (y (1 : Fin 2)).val = (y (1 : Fin 2)).val; omega

theorem iblk_11 (t : Fin cfg0.N) : (iblk m c 11 t : Vec F S1x512 .f32) = V m c main_v60 := by
  funext y
  unfold iblk
  rw [View.read_apply]
  show V m c main_v60 _ = V m c main_v60 y
  congr 1
  funext a
  apply Fin.ext
  match a with
  | ⟨0, _⟩ => show 0 * 1 + 1 * (y (0 : Fin 2)).val = (y (0 : Fin 2)).val; omega
  | ⟨1, _⟩ => show 0 * 512 + 1 * (y (1 : Fin 2)).val = (y (1 : Fin 2)).val; omega

end Blocks

section AtIdeal

variable (m : (ℓ : Loc nD τ sig) → Buf (Elt Ideal) ℓ) (c : Dev nD)

/-- What the launch gives the layer. -/
def data : Data where
  u := m ((c : Thread nD τ).loc main_arg0)
  sr := m ((c : Thread nD τ).loc main_arg1)
  si := m ((c : Thread nD τ).loc main_arg2)
  ar := m ((c : Thread nD τ).loc main_arg3)
  ai := m ((c : Thread nD τ).loc main_arg4)
  br := m ((c : Thread nD τ).loc main_arg5)
  bi := m ((c : Thread nD τ).loc main_arg6)
  cr := m ((c : Thread nD τ).loc main_arg7)
  ci := m ((c : Thread nD τ).loc main_arg8)
  d := m ((c : Thread nD τ).loc main_arg9)
  wg := m ((c : Thread nD τ).loc main_arg10)
  bg := m ((c : Thread nD τ).loc main_arg11)

theorem flat_state (w : Vec Ideal S32x64 .f32) (q : Fin 2048) :
    (shapeCast S1x2048 w shapeCasts_S32x64_S1x2048 : Vec Ideal S1x2048 .f32) (ix2 0 q) = w (ix2 (sgrp q) (ssub q)) :=
  shapeCast_apply _ _ _ _ (by
    rw [Shape.rowMajor_val_two, Shape.rowMajor_val_two]
    show q.val / 64 * 64 + q.val % 64 = 0 * 2048 + q.val
    omega)

theorem flat_skip (w : Vec Ideal S32x16 .f32) (x : Fin 512) :
    (shapeCast S1x512 w shapeCasts_S32x16_S1x512 : Vec Ideal S1x512 .f32) (ix2 0 x) = w (ix2 (grp x) (SsmSpec.sub x)) :=
  shapeCast_apply _ _ _ _ (by
    rw [Shape.rowMajor_val_two, Shape.rowMajor_val_two]
    show x.val / 16 * 16 + x.val % 16 = 0 * 512 + x.val
    omega)

theorem blk_ar (t : Fin cfg0.N) (q : Fin 2048) : ((iblk m c 3 t : Vec Ideal S1x2048 .f32) (ix2 0 q) : EReal) = (data m c).ar (ix2 (sgrp q) (ssub q)) := by
  rw [iblk_3, V_v6]; exact flat_state _ q

theorem blk_ai (t : Fin cfg0.N) (q : Fin 2048) : ((iblk m c 4 t : Vec Ideal S1x2048 .f32) (ix2 0 q) : EReal) = (data m c).ai (ix2 (sgrp q) (ssub q)) := by
  rw [iblk_4, V_v7]; exact flat_state _ q

theorem blk_d (t : Fin cfg0.N) (x : Fin 512) : ((iblk m c 9 t : Vec Ideal S1x512 .f32) (ix2 0 x) : EReal) = (data m c).d (ix2 (grp x) (SsmSpec.sub x)) := by
  rw [iblk_9, V_v58]
  exact flat_skip _ x

theorem blk_wg (t : Fin cfg0.N) (k x : Fin 512) : ((iblk m c 10 t : Vec Ideal S512x512 .bf16) (ix2 k x) : EReal) = (data m c).wg (ix2 k x) := by
  rw [iblk_10, V_v59]; rfl

theorem blk_bg (t : Fin cfg0.N) (x : Fin 512) : ((iblk m c 11 t : Vec Ideal S1x512 .f32) (ix2 0 x) : EReal) = (data m c).bg (ix1 x) := by
  rw [iblk_11, V_v60]
  exact shapeCast_a_1a_apply _ _ _ _

end AtIdeal

end Cert.Ssm
end
-- ==== Proof.SsmStates.lean ====
module

public import proofs.«01_k».proof.Proof.SsmBlocks
public import Idealize.ShloMosaic.Lib.MatmulPlain

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen Cert.SsmSpec

/-- Row `r` of columns `128 j … 128 j + 127` of the block times column `n` of slab `j` of the map. -/
def slabSum (x : Vec Ideal S1x256x512 .f32) (w : Vec Ideal S4x128x512 .bf16) (j : Fin 4) (r : Fin 256) (n : Fin 512) : EReal :=
  ∑ k : Fin 128, (x (ix3 0 r (⟨128 * j.val + k.val, by omega⟩ : Fin 512)) : EReal) * w (ix3 j k n)

/-- A product of a block of columns with a slab, entry by entry. -/
theorem slab_product (x : Vec Ideal S1x256x512 .f32) (w : Vec Ideal S4x128x512 .bf16) (j : Fin 4) (o : ℕ) (ho : o = 128 * j.val)
    (h : S256x512.Slices ![0, o] S256x128) (r : Fin 256) (n : Fin 512) :
    (matmul dot_S256x128_S128x512_S256x512_1_0_0_1_n_n none (extractStridedSlice S256x128 ![0, o] (k0_pay5 x) h)
      (shapeCast S128x512 (inSlab w j) shapeCasts_S1x128x512_S128x512 : FVec Ideal S128x512 .bf16) (constant S256x512 .f32 0x00000000#32) (ix2 r n) : EReal)
      = slabSum x w j r n := by
  refine (Ideal.matmul_plain_apply none _ _ _ r n).trans ?_
  rw [constant_apply, Ideal.ofBits_zero_f32, zero_add]
  refine Finset.sum_congr rfl fun k _ => ?_
  congr 1
  · rw [slice2_axis1_apply o _ h r k (⟨128 * j.val + k.val, by omega⟩ : Fin 512) (by show 128 * j.val + k.val = o + k.val; omega)]
    exact shapeCast_1ab_ab_apply _ _ _ _
  · exact shapeCast_1ab_ab_apply _ _ _ _

theorem fillRe_apply (x : Vec Ideal S1x256x512 .f32) (w : Vec Ideal S4x128x512 .bf16) (r : Fin 256) (q : Fin 2048) :
    (fillRe x w (ix2 r q) : EReal) = slabSum x w (⟨q.val / 512, by omega⟩ : Fin 4) r (⟨q.val % 512, by omega⟩ : Fin 512) := by
  unfold fillRe joinCols
  show ((![k0_pay7 x (inSlab w 0), k0_pay10 x (inSlab w 1), k0_pay14 (k0_pay5 x) (inSlab w 2), k0_pay17 (k0_pay5 x) (inSlab w 3)]
    : Fin 4 → Vec Ideal S256x512 .f32) (⟨q.val / 512, by omega⟩ : Fin 4)) (ix2 r (⟨q.val % 512, by omega⟩ : Fin 512)) = _
  generalize (⟨q.val / 512, by omega⟩ : Fin 4) = j
  generalize (⟨q.val % 512, by omega⟩ : Fin 512) = n
  match j with
  | 0 => exact (congrFun (shapeCast_self _ _) _).trans (slab_product x w 0 0 rfl slices_S256x512_o0_0_S256x128 r n)
  | 1 => exact (congrFun (shapeCast_self _ _) _).trans (slab_product x w 1 128 rfl slices_S256x512_o0_128_S256x128 r n)
  | 2 => exact (congrFun (shapeCast_self _ _) _).trans (slab_product x w 2 256 rfl slices_S256x512_o0_256_S256x128 r n)
  | 3 => exact (congrFun (shapeCast_self _ _) _).trans (slab_product x w 3 384 rfl slices_S256x512_o0_384_S256x128 r n)

theorem fillIm_apply (x : Vec Ideal S1x256x512 .f32) (w : Vec Ideal S4x128x512 .bf16) (r : Fin 256) (q : Fin 2048) :
    (fillIm x w (ix2 r q) : EReal) = slabSum x w (⟨q.val / 512, by omega⟩ : Fin 4) r (⟨q.val % 512, by omega⟩ : Fin 512) := by
  unfold fillIm joinCols
  show ((![k0_pay8 x (inSlab w 0), k0_pay12 (k0_pay9 x) (k0_pay11 (inSlab w 1)), k0_pay15 (k0_pay5 x) (inSlab w 2), k0_pay19 (k0_pay18 (k0_pay5 x) (inSlab w 3))]
    : Fin 4 → Vec Ideal S256x512 .f32) (⟨q.val / 512, by omega⟩ : Fin 4)) (ix2 r (⟨q.val % 512, by omega⟩ : Fin 512)) = _
  generalize (⟨q.val / 512, by omega⟩ : Fin 4) = j
  generalize (⟨q.val % 512, by omega⟩ : Fin 512) = n
  match j with
  | 0 => exact (congrFun (shapeCast_self _ _) _).trans (slab_product x w 0 0 rfl slices_S256x512_o0_0_S256x128 r n)
  | 1 => exact (congrFun (shapeCast_self _ _) _).trans (slab_product x w 1 128 rfl slices_S256x512_o0_128_S256x128 r n)
  | 2 => exact (congrFun (shapeCast_self _ _) _).trans (slab_product x w 2 256 rfl slices_S256x512_o0_256_S256x128 r n)
  | 3 => exact (congrFun (shapeCast_self _ _) _).trans (slab_product x w 3 384 rfl slices_S256x512_o0_384_S256x128 r n)

variable (m : (ℓ : Loc nD τ sig) → Buf (Elt Ideal) ℓ) (c : Dev nD)

/-- Over the blocks of the input map a row's sum is what the input adds: the other groups' weights are zero. -/
theorem slabSum_drive (w : Vec Ideal S32x64x16 .f32) (t : Fin cfg0.N) (r : Fin 256) (q : Fin 2048) :
    slabSum (iblk m c 0 t : Vec Ideal S1x256x512 .f32) (inBlocks w) (⟨q.val / 512, by omega⟩ : Fin 4) r (⟨q.val % 512, by omega⟩ : Fin 512)
      = drive (data m c) w (seqOf t) (stepOf t r) (sgrp q) (ssub q) := by
  unfold slabSum drive
  refine sum_groups_unit 8 16 128 rfl _ (⟨q.val % 512 / 64, by omega⟩ : Fin 8) _ (fun b k hk => ?_) (fun a b k ha hk => ?_)
  · rw [iblk_0, inBlocks_apply w _ k _ (⟨q.val % 512 / 64, by omega⟩ : Fin 8) (⟨q.val % 512 / 64, by omega⟩ : Fin 8) b (ssub q) hk (by
      show q.val % 512 = 64 * (q.val % 512 / 64) + q.val % 64; omega), if_pos rfl, mul_one]
    congr 1
    · refine congrArg (m ((c : Thread nD τ).loc main_arg0)) (congrArg (ix3 (seqOf t) (stepOf t r)) (Fin.ext ?_))
      show 128 * (q.val / 512) + k.val = 16 * (q.val / 64) + b.val
      have hk' : k.val = 16 * (q.val % 512 / 64) + b.val := hk
      omega
    · refine congrArg w (congrArg (fun g => ix3 g (ssub q) b) (Fin.ext ?_))
      show 8 * (q.val / 512) + q.val % 512 / 64 = q.val / 64
      omega
  · rw [inBlocks_apply w _ k _ a (⟨q.val % 512 / 64, by omega⟩ : Fin 8) b (ssub q) hk (by
      show q.val % 512 = 64 * (q.val % 512 / 64) + q.val % 64; omega), if_neg ha, mul_zero, mul_zero]

/-- The state of sequence `b` after `n` steps, flat. -/
def flatState (b : Fin 2) (n : ℕ) (q : Fin 2048) : EReal × EReal := SsmSpec.state (data m c) b (sgrp q) (ssub q) n

theorem fillRe_drive (t : Fin cfg0.N) (r : Fin 256) (q : Fin 2048) :
    (fillRe (iblk m c 0 t) (iblk m c 5 t) (ix2 r q) : EReal) = drive (data m c) (data m c).br (seqOf t) (stepOf t r) (sgrp q) (ssub q) := by
  rw [iblk_5, V_v17]
  exact (fillRe_apply _ _ r q).trans (slabSum_drive m c _ t r q)

theorem fillIm_drive (t : Fin cfg0.N) (r : Fin 256) (q : Fin 2048) :
    (fillIm (iblk m c 0 t) (iblk m c 6 t) (ix2 r q) : EReal) = drive (data m c) (data m c).bi (seqOf t) (stepOf t r) (sgrp q) (ssub q) := by
  rw [iblk_6, V_v27]
  exact (fillIm_apply _ _ r q).trans (slabSum_drive m c _ t r q)

theorem pay22_apply (ar ai h g b : Vec Ideal S1x2048 .f32) (i : S1x2048.Idx) :
    (k0_pay22 ar ai h g b i : EReal) = ar i * h i - ai i * g i + b i := by
  unfold k0_pay22 k0_pay20 k0_pay21
  rw [shapeCast_self, shapeCast_self]
  rfl

theorem pay23_apply (ar ai h g b : Vec Ideal S1x2048 .f32) (i : S1x2048.Idx) :
    (k0_pay23 ar ai h g b i : EReal) = ar i * g i + ai i * h i + b i := by
  unfold k0_pay23 k0_pay20 k0_pay21
  rw [shapeCast_self, shapeCast_self]
  rfl

/-- One step of the recurrence over the rows, entry by entry. -/
theorem hist_succ_apply (ar ai : Vec Ideal S1x2048 .f32) (B B' : Vec Ideal S256x2048 .f32) (s : Vec Ideal S1x2048 .f32 × Vec Ideal S1x2048 .f32)
    (k : ℕ) (q : Fin 2048) :
    ((hist ar ai B B' s (k + 1)).1 (ix2 0 q) : EReal)
        = ar (ix2 0 q) * (hist ar ai B B' s k).1 (ix2 0 q) - ai (ix2 0 q) * (hist ar ai B B' s k).2 (ix2 0 q) + B (ix2 (Fin.ofNat 256 k) q)
    ∧ ((hist ar ai B B' s (k + 1)).2 (ix2 0 q) : EReal)
        = ar (ix2 0 q) * (hist ar ai B B' s k).2 (ix2 0 q) + ai (ix2 0 q) * (hist ar ai B B' s k).1 (ix2 0 q) + B' (ix2 (Fin.ofNat 256 k) q) :=
  ⟨pay22_apply .., pay23_apply ..⟩

/-- One step of a sequence's recurrence. -/
theorem flatState_succ (b : Fin 2) (n : ℕ) (q : Fin 2048) (t : Fin 8192) (ht : n = t.val) :
    flatState m c b (n + 1) q
      = ((data m c).ar (ix2 (sgrp q) (ssub q)) * (flatState m c b n q).1 - (data m c).ai (ix2 (sgrp q) (ssub q)) * (flatState m c b n q).2
          + drive (data m c) (data m c).br b t (sgrp q) (ssub q),
        (data m c).ar (ix2 (sgrp q) (ssub q)) * (flatState m c b n q).2 + (data m c).ai (ix2 (sgrp q) (ssub q)) * (flatState m c b n q).1
          + drive (data m c) (data m c).bi b t (sgrp q) (ssub q)) := by
  have e : Fin.ofNat 8192 n = t := Fin.ext ((Nat.mod_eq_of_lt (ht ▸ t.isLt)).trans ht)
  unfold flatState
  rw [SsmSpec.state, e]

/-- The block's recurrence is the sequence's, from the step the block begins at. -/
theorem statesAt_apply (t : Fin cfg0.N) (K : ℕ) (hK : K = 256 * (t.val % 32)) (s : Vec Ideal S1x2048 .f32 × Vec Ideal S1x2048 .f32)
    (h : ∀ q : Fin 2048, (s.1 (ix2 0 q) : EReal) = (flatState m c (seqOf t) K q).1 ∧ (s.2 (ix2 0 q) : EReal) = (flatState m c (seqOf t) K q).2)
    (k : ℕ) (hk : k ≤ 256) (q : Fin 2048) :
    ((statesAt m c t s k).1 (ix2 0 q) : EReal) = (flatState m c (seqOf t) (K + k) q).1
      ∧ ((statesAt m c t s k).2 (ix2 0 q) : EReal) = (flatState m c (seqOf t) (K + k) q).2 := by
  induction k with
  | zero => exact h q
  | succ k ih =>
    obtain ⟨e1, e2⟩ := ih (by omega)
    have hr : K + k = (stepOf t (Fin.ofNat 256 k)).val := by
      have e : (Fin.ofNat 256 k).val = k := Nat.mod_eq_of_lt (by omega)
      show K + k = 256 * (t.val % 32) + (Fin.ofNat 256 k).val
      omega
    rw [← Nat.add_assoc, flatState_succ m c (seqOf t) (K + k) q _ hr]
    unfold statesAt states at e1 e2 ⊢
    obtain ⟨f1, f2⟩ := hist_succ_apply (iblk m c 3 t) (iblk m c 4 t) (fillRe (iblk m c 0 t) (iblk m c 5 t)) (fillIm (iblk m c 0 t) (iblk m c 6 t)) s k q
    rw [f1, f2, e1, e2, blk_ar, blk_ai, fillRe_drive, fillIm_drive]
    exact ⟨rfl, rfl⟩

theorem pay2_apply (v : Vec Ideal S1x1x2048 .f32) (q : Fin 2048) : (k0_pay2 v (ix2 0 q) : EReal) = v (ix3 0 0 q) := by
  unfold k0_pay2
  rw [shapeCast_self]
  exact shapeCast_1ab_ab_apply _ _ _ _

theorem pay3_apply (v : Vec Ideal S1x1x2048 .f32) (q : Fin 2048) : (k0_pay3 v (ix2 0 q) : EReal) = v (ix3 0 0 q) := by
  unfold k0_pay3
  rw [shapeCast_self]
  exact shapeCast_1ab_ab_apply _ _ _ _

theorem flatState_zero (b : Fin 2) (q : Fin 2048) :
    flatState m c b 0 q = ((data m c).sr (ix3 b (sgrp q) (ssub q)), (data m c).si (ix3 b (sgrp q) (ssub q))) := by
  unfold flatState
  rw [SsmSpec.state]

theorem given_apply (t : Fin cfg0.N) (q : Fin 2048) :
    ((given m c t).1 (ix2 0 q) : EReal) = (flatState m c (seqOf t) 0 q).1 ∧ ((given m c t).2 (ix2 0 q) : EReal) = (flatState m c (seqOf t) 0 q).2 := by
  have h1 := pay2_apply (iblk m c 1 t) q
  have h2 := pay3_apply (iblk m c 2 t) q
  rw [iblk_1] at h1
  rw [iblk_2] at h2
  rw [flatState_zero]
  unfold given
  exact ⟨h1, h2⟩

theorem startAt_pos (t : Fin cfg0.N) (h : t.val % 32 = 0) : startAt m c t = given m c t := if_pos h

theorem startAt_neg (t : Fin cfg0.N) (h : ¬ t.val % 32 = 0) :
    startAt m c t = stateAfter m c (t.val - 1) (Nat.lt_of_le_of_lt (Nat.sub_le _ _) t.isLt) := if_neg h

/-- Each block starts from the state its sequence has reached. -/
theorem startAt_apply (n : ℕ) (hn : n < cfg0.N) (q : Fin 2048) :
    ((startAt m c ⟨n, hn⟩).1 (ix2 0 q) : EReal) = (flatState m c (seqOf ⟨n, hn⟩) (256 * (n % 32)) q).1
      ∧ ((startAt m c ⟨n, hn⟩).2 (ix2 0 q) : EReal) = (flatState m c (seqOf ⟨n, hn⟩) (256 * (n % 32)) q).2 := by
  induction n generalizing q with
  | zero =>
    rw [startAt_pos m c ⟨0, hn⟩ rfl]
    exact given_apply m c ⟨0, hn⟩ q
  | succ n ih =>
    by_cases hz : (n + 1) % 32 = 0
    · rw [startAt_pos m c ⟨n + 1, hn⟩ hz, hz]; exact given_apply m c ⟨n + 1, hn⟩ q
    · have hn' : n < cfg0.N := Nat.lt_of_succ_lt hn
      have hs := statesAt_apply m c ⟨n, hn'⟩ _ rfl (startAt m c ⟨n, hn'⟩) (ih hn') 256 le_rfl q
      have eb : seqOf (⟨n, hn'⟩ : Fin cfg0.N) = seqOf (⟨n + 1, hn⟩ : Fin cfg0.N) := Fin.ext (by
        show n / 32 = (n + 1) / 32; omega)
      have en : 256 * (n % 32) + 256 = 256 * ((n + 1) % 32) := by omega
      rw [← stateAfter_eq m c ⟨n, hn'⟩, eb] at hs
      rw [startAt_neg m c ⟨n + 1, hn⟩ hz, ← en]
      exact hs

/-- After `k` rows of the block at point `t` the state is its sequence's. -/
theorem rows_apply (t : Fin cfg0.N) (k : ℕ) (hk : k ≤ 256) (q : Fin 2048) :
    ((statesAt m c t (startAt m c t) k).1 (ix2 0 q) : EReal) = (flatState m c (seqOf t) (256 * (t.val % 32) + k) q).1
      ∧ ((statesAt m c t (startAt m c t) k).2 (ix2 0 q) : EReal) = (flatState m c (seqOf t) (256 * (t.val % 32) + k) q).2 :=
  statesAt_apply m c t _ rfl _ (fun q => startAt_apply m c t.val t.isLt q) k hk q

end Cert.Ssm
end
-- ==== Proof.SsmOut.lean ====
module

public import proofs.«01_k».proof.Proof.SsmStates

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen Cert.SsmSpec

/-- Row `r` of columns `512 j … 512 j + 511` of a buffer times column `n` of slab `j` of the map out of the state. -/
def backSum (R : Vec Ideal S256x2048 .f32) (w : Vec Ideal S4x512x128 .bf16) (j : Fin 4) (r : Fin 256) (n : Fin 128) : EReal :=
  ∑ k : Fin 512, (R (ix2 r (⟨512 * j.val + k.val, by omega⟩ : Fin 2048)) : EReal) * w (ix3 j k n)

theorem back_product (R : Vec Ideal S256x2048 .f32) (w : Vec Ideal S4x512x128 .bf16) (j : Fin 4) (r : Fin 256) (n : Fin 128) :
    (matmul dot_S256x512_S512x128_S256x128_1_0_0_1_n_n none (truncf .bf16 (cols R j) bitsLt_bf16_f32 : FVec Ideal S256x512 .bf16)
      (shapeCast S512x128 (outSlab w j) shapeCasts_S1x512x128_S512x128 : FVec Ideal S512x128 .bf16) (constant S256x128 .f32 0x00000000#32) (ix2 r n) : EReal)
      = backSum R w j r n := by
  refine (Ideal.matmul_plain_apply none _ _ _ r n).trans ?_
  rw [constant_apply, Ideal.ofBits_zero_f32, zero_add]
  refine Finset.sum_congr rfl fun k _ => ?_
  congr 1
  exact shapeCast_1ab_ab_apply _ _ _ _

/-- What slab `j` gives: the real part of the product of the state with the map. -/
def slabOut (R I : Vec Ideal S256x2048 .f32) (w w' : Vec Ideal S4x512x128 .bf16) (j : Fin 4) : Vec Ideal S256x128 .f32 :=
  subf (matmul dot_S256x512_S512x128_S256x128_1_0_0_1_n_n none (truncf .bf16 (cols R j) bitsLt_bf16_f32 : FVec Ideal S256x512 .bf16)
      (shapeCast S512x128 (outSlab w j) shapeCasts_S1x512x128_S512x128 : FVec Ideal S512x128 .bf16) (constant S256x128 .f32 0x00000000#32))
    (matmul dot_S256x512_S512x128_S256x128_1_0_0_1_n_n none (truncf .bf16 (cols I j) bitsLt_bf16_f32 : FVec Ideal S256x512 .bf16)
      (shapeCast S512x128 (outSlab w' j) shapeCasts_S1x512x128_S512x128 : FVec Ideal S512x128 .bf16) (constant S256x128 .f32 0x00000000#32))

theorem slabOut_apply (R I : Vec Ideal S256x2048 .f32) (w w' : Vec Ideal S4x512x128 .bf16) (j : Fin 4) (r : Fin 256) (n : Fin 128) :
    (slabOut R I w w' j (ix2 r n) : EReal) = backSum R w j r n - backSum I w' j r n :=
  congrArg₂ (fun a b : EReal => a - b) (back_product R w j r n) (back_product I w' j r n)

/-- The four slabs side by side. -/
theorem joined_apply (v0 v1 v2 v3 : Vec Ideal S256x128 .f32) (f : Fin 4 → Vec Ideal S256x128 .f32)
    (h0 : f 0 = v0) (h1 : f 1 = v1) (h2 : f 2 = v2) (h3 : f 3 = v3) (r : Fin 256) (x : Fin 512) :
    (concatenate S256x512 1 [⟨S256x128, v0⟩, ⟨S256x128, v1⟩, ⟨S256x128, v2⟩, ⟨S256x128, v3⟩]
      concatenates_S256x128_S256x128_S256x128_S256x128_S256x512_d1 : Vec Ideal S256x512 .f32) (ix2 r x)
      = f (⟨x.val / 128, by omega⟩ : Fin 4) (ix2 r (⟨x.val % 128, by omega⟩ : Fin 128)) := by
  have key : ∀ (k : ℕ) (hk : k < 4) (v : Vec Ideal S256x128 .f32), x.val / 128 = k → f ⟨k, hk⟩ = v →
      f (⟨x.val / 128, by omega⟩ : Fin 4) (ix2 r (⟨x.val % 128, by omega⟩ : Fin 128)) = v (ix2 r (⟨x.val % 128, by omega⟩ : Fin 128)) := by
    intro k hk v hx hv
    subst hx
    rw [hv]
  have side : ∀ b : Fin 2, b ≠ 1 → ((ix2 r (⟨x.val % 128, by omega⟩ : Fin 128) : S256x128.Idx) b).val = ((ix2 r x : S256x512.Idx) b).val := by
    intro b hb
    match b with
    | 0 => rfl
    | 1 => exact absurd rfl hb
  obtain h | h | h | h : x.val / 128 = 0 ∨ x.val / 128 = 1 ∨ x.val / 128 = 2 ∨ x.val / 128 = 3 := by omega
  · rw [key 0 (by omega) v0 h h0]
    exact concatenate_apply_piece 1 _ _ (ix2 r x) 0 (by show 0 < 4; omega) S256x128 v0 rfl rfl 0 rfl _ side (by
      show 0 + x.val % 128 = x.val; omega)
  · rw [key 1 (by omega) v1 h h1]
    exact concatenate_apply_piece 1 _ _ (ix2 r x) 1 (by show 1 < 4; omega) S256x128 v1 rfl rfl 128 rfl _ side (by
      show 128 + x.val % 128 = x.val; omega)
  · rw [key 2 (by omega) v2 h h2]
    exact concatenate_apply_piece 1 _ _ (ix2 r x) 2 (by show 2 < 4; omega) S256x128 v2 rfl rfl 256 rfl _ side (by
      show 256 + x.val % 128 = x.val; omega)
  · rw [key 3 (by omega) v3 h h3]
    exact concatenate_apply_piece 1 _ _ (ix2 r x) 3 (by show 3 < 4; omega) S256x128 v3 rfl rfl 384 rfl _ side (by
      show 384 + x.val % 128 = x.val; omega)

/-- The features of a row: the map out of the state, plus the skip. -/
def featRow (x : Vec Ideal S1x256x512 .f32) (w w' : Vec Ideal S4x512x128 .bf16) (d : Vec Ideal S1x512 .f32) (R I : Vec Ideal S256x2048 .f32)
    (r : Fin 256) (n : Fin 512) : EReal :=
  backSum R w (⟨n.val / 128, by omega⟩ : Fin 4) r (⟨n.val % 128, by omega⟩ : Fin 128)
    - backSum I w' (⟨n.val / 128, by omega⟩ : Fin 4) r (⟨n.val % 128, by omega⟩ : Fin 128) + d (ix2 0 n) * x (ix3 0 r n)

theorem feat_apply (x : Vec Ideal S1x256x512 .f32) (w w' : Vec Ideal S4x512x128 .bf16) (d : Vec Ideal S1x512 .f32) (R I : Vec Ideal S256x2048 .f32)
    (r : Fin 256) (n : Fin 512) :
    (addf (concatenate S256x512 1 [⟨S256x128, slabOut R I w w' 0⟩, ⟨S256x128, slabOut R I w w' 1⟩, ⟨S256x128, slabOut R I w w' 2⟩, ⟨S256x128, slabOut R I w w' 3⟩]
        concatenates_S256x128_S256x128_S256x128_S256x128_S256x512_d1 : FVec Ideal S256x512 .f32)
      (mulf (broadcastTo S256x512 (shapeCast S1x512 d shapeCasts_S1x512_S1x512 : FVec Ideal S1x512 .f32) broadcasts_S1x512_S256x512) (k0_pay4 x)) (ix2 r n) : EReal)
      = featRow x w w' d R I r n := by
  unfold featRow
  refine congrArg₂ (fun a b : EReal => a + b) ?_ (congrArg₂ (fun a b : EReal => a * b) ?_ ?_)
  · refine (joined_apply _ _ _ _ (slabOut R I w w') rfl rfl rfl rfl r n).trans ?_
    exact slabOut_apply R I w w' _ r _
  · rw [shapeCast_self]
    exact broadcastTo_1b_ab_apply _ _ _ _
  · exact shapeCast_1ab_ab_apply _ _ _ _

/-- The rectified features' product with the gate's weights, plus the offsets, through the gate. -/
theorem gate_apply (y : FVec Ideal S256x512 .f32) (wg : Vec Ideal S512x512 .bf16) (bg : Vec Ideal S1x512 .f32) (r : Fin 256) (n : Fin 512) :
    (addf (matmul dot_S256x512_S512x512_S256x512_1_0_0_1_n_n none (truncf .bf16 y bitsLt_bf16_f32 : FVec Ideal S256x512 .bf16)
        (shapeCast S512x512 wg shapeCasts_S512x512_S512x512 : FVec Ideal S512x512 .bf16) (constant S256x512 .f32 0x00000000#32))
      (broadcastTo S256x512 (shapeCast S1x512 bg shapeCasts_S1x512_S1x512 : FVec Ideal S1x512 .f32) broadcasts_S1x512_S256x512) (ix2 r n) : EReal)
      = (∑ k : Fin 512, (y (ix2 r k) : EReal) * wg (ix2 k n)) + bg (ix2 0 n) := by
  refine congrArg₂ (fun a b : EReal => a + b) ?_ ?_
  · rw [shapeCast_self]
    refine (Ideal.matmul_plain_apply none _ _ _ r n).trans ?_
    rw [constant_apply, Ideal.ofBits_zero_f32, zero_add]
    rfl
  · rw [shapeCast_self]
    exact broadcastTo_1b_ab_apply _ _ _ _

/-- A block's rows of output, entry by entry. -/
theorem outOf_apply (x : Vec Ideal S1x256x512 .f32) (w w' : Vec Ideal S4x512x128 .bf16) (d : Vec Ideal S1x512 .f32)
    (wg : Vec Ideal S512x512 .bf16) (bg : Vec Ideal S1x512 .f32) (R I : Vec Ideal S256x2048 .f32) (r : Fin 256) (n : Fin 512) :
    (outOf x w w' d wg bg R I (ix3 0 r n) : EReal)
      = gelu (featRow x w w' d R I r n)
        * Ideal.logistic ((∑ k : Fin 512, gelu (featRow x w w' d R I r k) * wg (ix2 k n)) + bg (ix2 0 n)) := by
  have hf := feat_apply x w w' d R I
  unfold outOf k0_pay1
  refine (shapeCast_ab_1ab_apply _ _ _ _ _).trans ?_
  refine congrArg₂ (fun a b : EReal => a * b) (congrArg gelu (hf r n)) (congrArg Ideal.logistic ?_)
  refine (gate_apply _ wg bg r n).trans ?_
  refine congrArg (fun a : EReal => a + bg (ix2 0 n)) (Finset.sum_congr rfl fun k _ => ?_)
  exact congrArg (fun a : EReal => gelu a * wg (ix2 k n)) (hf r k)

variable (m : (ℓ : Loc nD τ sig) → Buf (Elt Ideal) ℓ) (c : Dev nD)

/-- Over the blocks of the map out of the state a row's sum is the group's: the other groups' weights are zero. -/
theorem backSum_rows (w : Vec Ideal S32x16x64 .f32) (R : Vec Ideal S256x2048 .f32) (r : Fin 256) (f : Fin 32 → Fin 64 → EReal)
    (hR : ∀ q : Fin 2048, (R (ix2 r q) : EReal) = f (sgrp q) (ssub q)) (n : Fin 512) :
    backSum R (outBlocks w) (⟨n.val / 128, by omega⟩ : Fin 4) r (⟨n.val % 128, by omega⟩ : Fin 128)
      = ∑ p : Fin 64, f (grp n) p * w (ix3 (grp n) (SsmSpec.sub n) p) := by
  unfold backSum
  refine sum_groups_unit 8 64 512 rfl _ (⟨n.val % 128 / 16, by omega⟩ : Fin 8) _ (fun b k hk => ?_) (fun a b k ha hk => ?_)
  · rw [hR, outBlocks_apply w _ k _ (⟨n.val % 128 / 16, by omega⟩ : Fin 8) (⟨n.val % 128 / 16, by omega⟩ : Fin 8) (SsmSpec.sub n) b hk (by
      show n.val % 128 = 16 * (n.val % 128 / 16) + n.val % 16; omega), if_pos rfl, mul_one]
    have hk' : k.val = 64 * (n.val % 128 / 16) + b.val := hk
    congr 1
    · refine congrArg₂ f (Fin.ext ?_) (Fin.ext ?_)
      · show (512 * (n.val / 128) + k.val) / 64 = n.val / 16
        omega
      · show (512 * (n.val / 128) + k.val) % 64 = b.val
        omega
    · refine congrArg w (congrArg (fun g => ix3 g (SsmSpec.sub n) b) (Fin.ext ?_))
      show 8 * (n.val / 128) + n.val % 128 / 16 = n.val / 16
      omega
  · rw [outBlocks_apply w _ k _ a (⟨n.val % 128 / 16, by omega⟩ : Fin 8) (SsmSpec.sub n) b hk (by
      show n.val % 128 = 16 * (n.val % 128 / 16) + n.val % 16; omega), if_neg ha, mul_zero, mul_zero]

/-- Row `r` of the states of the block at point `t`, real part … -/
theorem rowsRe_apply (t : Fin cfg0.N) (r : Fin 256) (q : Fin 2048) :
    (rowsRe (iblk m c 0 t) (iblk m c 3 t) (iblk m c 4 t) (iblk m c 5 t) (iblk m c 6 t) (startAt m c t) (ix2 r q) : EReal)
      = (SsmSpec.state (data m c) (seqOf t) (sgrp q) (ssub q) ((stepOf t r).val + 1)).1 := by
  refine (if_pos r.isLt).trans ?_
  exact (rows_apply m c t (r.val + 1) r.isLt q).1

/-- … and imaginary part. -/
theorem rowsIm_apply (t : Fin cfg0.N) (r : Fin 256) (q : Fin 2048) :
    (rowsIm (iblk m c 0 t) (iblk m c 3 t) (iblk m c 4 t) (iblk m c 5 t) (iblk m c 6 t) (startAt m c t) (ix2 r q) : EReal)
      = (SsmSpec.state (data m c) (seqOf t) (sgrp q) (ssub q) ((stepOf t r).val + 1)).2 := by
  refine (if_pos r.isLt).trans ?_
  exact (rows_apply m c t (r.val + 1) r.isLt q).2

/-- The features the kernel computes are the layer's. -/
theorem featRow_apply (t : Fin cfg0.N) (r : Fin 256) (n : Fin 512) :
    featRow (iblk m c 0 t) (iblk m c 7 t) (iblk m c 8 t) (iblk m c 9 t)
        (rowsRe (iblk m c 0 t) (iblk m c 3 t) (iblk m c 4 t) (iblk m c 5 t) (iblk m c 6 t) (startAt m c t))
        (rowsIm (iblk m c 0 t) (iblk m c 3 t) (iblk m c 4 t) (iblk m c 5 t) (iblk m c 6 t) (startAt m c t)) r n
      = feat (data m c) (seqOf t) (stepOf t r) n := by
  unfold featRow feat
  have h7 := backSum_rows (m ((c : Thread nD τ).loc main_arg7)) _ r
    (fun g p => (SsmSpec.state (data m c) (seqOf t) g p ((stepOf t r).val + 1)).1) (rowsRe_apply m c t r) n
  have h8 := backSum_rows (m ((c : Thread nD τ).loc main_arg8)) _ r
    (fun g p => (SsmSpec.state (data m c) (seqOf t) g p ((stepOf t r).val + 1)).2) (rowsIm_apply m c t r) n
  rw [← V_v42, ← iblk_7 m c t] at h7
  rw [← V_v57, ← iblk_8 m c t] at h8
  rw [h7, h8, blk_d, iblk_0]
  rfl

/-- The rows of output the kernel computes are the layer's. -/
theorem outVal_apply (t : Fin cfg0.N) (r : Fin 256) (n : Fin 512) :
    (outVal (iblk m c 0 t) (iblk m c 3 t) (iblk m c 4 t) (iblk m c 5 t) (iblk m c 6 t) (iblk m c 7 t) (iblk m c 8 t) (iblk m c 9 t)
      (iblk m c 10 t) (iblk m c 11 t) (startAt m c t) (ix3 0 r n) : EReal) = out (data m c) (seqOf t) (stepOf t r) n := by
  unfold outVal
  refine (outOf_apply _ _ _ _ _ _ _ _ r n).trans ?_
  unfold out
  rw [featRow_apply, blk_bg]
  refine congrArg (fun a : EReal => gelu (feat (data m c) (seqOf t) (stepOf t r) n) * Ideal.logistic (a + (data m c).bg (ix1 n))) ?_
  refine Finset.sum_congr rfl fun k _ => ?_
  rw [featRow_apply, blk_wg]

end Cert.Ssm
end
-- ==== Proof.SsmArrays.lean ====
module

public import proofs.«01_k».proof.Proof.SsmOut

@[expose] public section

set_option maxRecDepth 16384

noncomputable section

namespace Cert.Ssm

open Idealize.ShloMosaic Idealize.ShloMosaic.TcCoe Idealize.ShloMosaic.Tactic
open Idealize.SL Idealize.SL.Sem Idealize.ShloMosaic.ValueIdx
open Cert.KernelIdeal Cert.KernelIdeal.Gen Cert.SsmSpec

theorem index_12 : ∀ t : Fin cfg0.N, win0_12.index t 0 = t.val / 32 ∧ win0_12.index t 1 = t.val % 32 ∧ win0_12.index t 2 = 0 := by decide +kernel
theorem index_13 : ∀ t : Fin cfg0.N, win0_13.index t 0 = t.val / 32 ∧ win0_13.index t 1 = 0 ∧ win0_13.index t 2 = 0 := by decide +kernel
theorem index_14 : ∀ t : Fin cfg0.N, win0_14.index t 0 = t.val / 32 ∧ win0_14.index t 1 = 0 ∧ win0_14.index t 2 = 0 := by decide +kernel

variable (m : (ℓ : Loc nD τ sig) → Buf (Elt Ideal) ℓ) (ρ : Dev nD → PrngReg) (c : Dev nD)

/-- The layer's output where the three coordinates are given. -/
theorem outOfData_at (D : Data) (E : S2x8192x512.Idx) (b : Fin 2) (t : Fin 8192) (x : Fin 512) (h0 : (E (0 : Fin 3)).val = b.val) (h1 : (E (1 : Fin 3)).val = t.val)
    (h2 : (E (2 : Fin 3)).val = x.val) : outOfData D E = out D b t x := by
  have e : E = ix3 b t x := funext fun a => by
    match a with
    | ⟨0, _⟩ => exact Fin.ext h0
    | ⟨1, _⟩ => exact Fin.ext h1
    | ⟨2, _⟩ => exact Fin.ext h2
  rw [e]
  rfl

/-- A block whose entries are the layer's at its place is the layer's block there. -/
theorem block_12 (t : Fin cfg0.N) (v : Vec Ideal S1x256x512 .f32)
    (hv : ∀ (r : Fin 256) (n : Fin 512), (v (ix3 0 r n) : EReal) = out (data m c) (seqOf t) (stepOf t r) n) (y : S1x256x512.Idx) :
    v y = outOfData (data m c) (((cfg0.win 12).blk t).view.emb y) := by
  obtain ⟨h0, h1, h2⟩ := index_12 t
  have hy0 : (y (0 : Fin 3)).val = 0 := Nat.lt_one_iff.mp (y (0 : Fin 3)).isLt
  have hy : y = ix3 (0 : Fin 1) (y (1 : Fin 3)) (y (2 : Fin 3)) := funext fun a => by
    match a with
    | ⟨0, _⟩ => exact Fin.ext hy0
    | ⟨1, _⟩ => rfl
    | ⟨2, _⟩ => rfl
  refine Eq.trans (congrArg v hy) ((hv (y (1 : Fin 3)) (y (2 : Fin 3))).trans (outOfData_at _ _ _ _ _ ?_ ?_ ?_).symm)
  · show win0_12.index t 0 * 1 + 1 * (y (0 : Fin 3)).val = t.val / 32
    rw [h0]; omega
  · show win0_12.index t 1 * 256 + 1 * (y (1 : Fin 3)).val = 256 * (t.val % 32) + (y (1 : Fin 3)).val
    rw [h1]; omega
  · show win0_12.index t 2 * 512 + 1 * (y (2 : Fin 3)).val = (y (2 : Fin 3)).val
    rw [h2]; omega

/-- Every block of output written back is the layer's. -/
theorem flushed_12 (t : Fin cfg0.N) (_ : (cfg0.win 12).flush t = true) :
    (dats m 0 c).flushed 12 t = ((cfg0.win 12).blk t).view.read (Elt Ideal) (outOfData (data m c)) := by
  show (cfg0.win 12).cut (grid0.coords t) ((dats m 0 c).after 12 t) = _
  rw [after0_12]
  refine funext fun (y : S1x256x512.Idx) => ?_
  rw [View.read_apply]
  exact block_12 m c t _ (outVal_apply m c t) y

theorem pay28_apply (v : Vec Ideal S1x2048 .f32) (q : Fin 2048) : (k0_pay28 v (ix3 0 0 q) : EReal) = v (ix2 0 q) := by
  unfold k0_pay28
  exact shapeCast_ab_1ab_apply _ _ _ _ _

theorem pay29_apply (v : Vec Ideal S1x2048 .f32) (q : Fin 2048) : (k0_pay29 v (ix3 0 0 q) : EReal) = v (ix2 0 q) := by
  unfold k0_pay29
  exact shapeCast_ab_1ab_apply _ _ _ _ _

theorem flat_idx (y : S1x1x2048.Idx) : y = ix3 (0 : Fin 1) (0 : Fin 1) (y (2 : Fin 3)) := funext fun a => by
  match a with
  | ⟨0, _⟩ => exact Fin.ext (Nat.lt_one_iff.mp (y (0 : Fin 3)).isLt)
  | ⟨1, _⟩ => exact Fin.ext (Nat.lt_one_iff.mp (y (1 : Fin 3)).isLt)
  | ⟨2, _⟩ => rfl

/-- The state written back after a sequence's last block is the sequence's last, real part … -/
theorem flushed_13 (t : Fin cfg0.N) (hf : (cfg0.win 13).flush t = true) :
    (dats m 0 c).flushed 13 t = ((cfg0.win 13).blk t).view.read (Elt Ideal) (lastRe (data m c)) := by
  obtain ⟨h0, h1, h2⟩ := index_13 t
  have ht := (flush0_13 t).mp hf
  show (cfg0.win 13).cut (grid0.coords t) ((dats m 0 c).after 13 t) = _
  rw [after0_13]
  refine funext fun (y : S1x1x2048.Idx) => ?_
  rw [View.read_apply]
  refine Eq.trans (congrArg _ (flat_idx y)) ((pay28_apply _ (y (2 : Fin 3))).trans (((rows_apply m c t 256 le_rfl (y (2 : Fin 3))).1).trans ?_))
  have e : 256 * (t.val % 32) + 256 = 8192 := by omega
  rw [e]
  refine congrArg₂ (fun (b : Fin 2) (q : Fin 2048) => (SsmSpec.state (data m c) b (sgrp q) (ssub q) 8192).1) (Fin.ext ?_) (Fin.ext ?_)
  · have hy0 : (y (0 : Fin 3)).val = 0 := Nat.lt_one_iff.mp (y (0 : Fin 3)).isLt
    show t.val / 32 = win0_13.index t 0 * 1 + 1 * (y (0 : Fin 3)).val
    rw [h0]; omega
  · show (y (2 : Fin 3)).val = win0_13.index t 2 * 2048 + 1 * (y (2 : Fin 3)).val
    rw [h2]; omega

/-- … and imaginary part. -/
theorem flushed_14 (t : Fin cfg0.N) (hf : (cfg0.win 14).flush t = true) :
    (dats m 0 c).flushed 14 t = ((cfg0.win 14).blk t).view.read (Elt Ideal) (lastIm (data m c)) := by
  obtain ⟨h0, h1, h2⟩ := index_14 t
  have ht := (flush0_14 t).mp hf
  show (cfg0.win 14).cut (grid0.coords t) ((dats m 0 c).after 14 t) = _
  rw [after0_14]
  refine funext fun (y : S1x1x2048.Idx) => ?_
  rw [View.read_apply]
  refine Eq.trans (congrArg _ (flat_idx y)) ((pay29_apply _ (y (2 : Fin 3))).trans (((rows_apply m c t 256 le_rfl (y (2 : Fin 3))).2).trans ?_))
  have e : 256 * (t.val % 32) + 256 = 8192 := by omega
  rw [e]
  refine congrArg₂ (fun (b : Fin 2) (q : Fin 2048) => (SsmSpec.state (data m c) b (sgrp q) (ssub q) 8192).2) (Fin.ext ?_) (Fin.ext ?_)
  · have hy0 : (y (0 : Fin 3)).val = 0 := Nat.lt_one_iff.mp (y (0 : Fin 3)).isLt
    show t.val / 32 = win0_14.index t 0 * 1 + 1 * (y (0 : Fin 3)).val
    rw [h0]; omega
  · show (y (2 : Fin 3)).val = win0_14.index t 2 * 2048 + 1 * (y (2 : Fin 3)).val
    rw [h2]; omega

/-- The blocks cover the output, so it ends as the layer's. -/
theorem final_12 : (dats m 0 c).arrAt 12 cfg0.N = outOfData (data m c) :=
  (dats m 0 c).arrAt_eq_of_cover 12 (outOfData (data m c)) (flushed_12 m c) fun i => by
    have b0 : (i (0 : Fin 3) : ℕ) < 2 := (i (0 : Fin 3)).isLt
    have b1 : (i (1 : Fin 3) : ℕ) < 8192 := (i (1 : Fin 3)).isLt
    have b2 : (i (2 : Fin 3) : ℕ) < 512 := (i (2 : Fin 3)).isLt
    have ht : 32 * (i (0 : Fin 3) : ℕ) + (i (1 : Fin 3) : ℕ) / 256 < cfg0.N := by
      rw [show cfg0.N = 64 from N_0]; omega
    obtain ⟨h0, h1, h2⟩ := index_12 ⟨_, ht⟩
    refine ⟨⟨_, ht⟩, flush0_12 _, ?_⟩
    show i ∈ ((View.whole main_v63_0).slice (win0_12.rect ⟨_, ht⟩)).set
    rw [View.set_slice_whole, Rect.mem_set_unit]
    intro a
    match a with
    | ⟨0, _⟩ =>
      show win0_12.index ⟨_, ht⟩ 0 * 1 ≤ (i (0 : Fin 3) : ℕ) ∧ (i (0 : Fin 3) : ℕ) < win0_12.index ⟨_, ht⟩ 0 * 1 + 1
      rw [h0]; dsimp only; omega
    | ⟨1, _⟩ =>
      show win0_12.index ⟨_, ht⟩ 1 * 256 ≤ (i (1 : Fin 3) : ℕ) ∧ (i (1 : Fin 3) : ℕ) < win0_12.index ⟨_, ht⟩ 1 * 256 + 256
      rw [h1]; dsimp only; omega
    | ⟨2, _⟩ =>
      show win0_12.index ⟨_, ht⟩ 2 * 512 ≤ (i (2 : Fin 3) : ℕ) ∧ (i (2 : Fin 3) : ℕ) < win0_12.index ⟨_, ht⟩ 2 * 512 + 512
      rw [h2]; omega

theorem final_13 : (dats m 0 c).arrAt 13 cfg0.N = lastRe (data m c) :=
  (dats m 0 c).arrAt_eq_of_cover 13 (lastRe (data m c)) (flushed_13 m c) fun i => by
    have b0 : (i (0 : Fin 3) : ℕ) < 2 := (i (0 : Fin 3)).isLt
    have b1 : (i (1 : Fin 3) : ℕ) < 1 := (i (1 : Fin 3)).isLt
    have b2 : (i (2 : Fin 3) : ℕ) < 2048 := (i (2 : Fin 3)).isLt
    have ht : 32 * (i (0 : Fin 3) : ℕ) + 31 < cfg0.N := by
      rw [show cfg0.N = 64 from N_0]; omega
    obtain ⟨h0, h1, h2⟩ := index_13 ⟨_, ht⟩
    refine ⟨⟨_, ht⟩, (flush0_13 _).mpr (by dsimp only; omega), ?_⟩
    show i ∈ ((View.whole main_v63_1).slice (win0_13.rect ⟨_, ht⟩)).set
    rw [View.set_slice_whole, Rect.mem_set_unit]
    intro a
    match a with
    | ⟨0, _⟩ =>
      show win0_13.index ⟨_, ht⟩ 0 * 1 ≤ (i (0 : Fin 3) : ℕ) ∧ (i (0 : Fin 3) : ℕ) < win0_13.index ⟨_, ht⟩ 0 * 1 + 1
      rw [h0]; dsimp only; omega
    | ⟨1, _⟩ =>
      show win0_13.index ⟨_, ht⟩ 1 * 1 ≤ (i (1 : Fin 3) : ℕ) ∧ (i (1 : Fin 3) : ℕ) < win0_13.index ⟨_, ht⟩ 1 * 1 + 1
      rw [h1]; omega
    | ⟨2, _⟩ =>
      show win0_13.index ⟨_, ht⟩ 2 * 2048 ≤ (i (2 : Fin 3) : ℕ) ∧ (i (2 : Fin 3) : ℕ) < win0_13.index ⟨_, ht⟩ 2 * 2048 + 2048
      rw [h2]; omega

theorem final_14 : (dats m 0 c).arrAt 14 cfg0.N = lastIm (data m c) :=
  (dats m 0 c).arrAt_eq_of_cover 14 (lastIm (data m c)) (flushed_14 m c) fun i => by
    have b0 : (i (0 : Fin 3) : ℕ) < 2 := (i (0 : Fin 3)).isLt
    have b1 : (i (1 : Fin 3) : ℕ) < 1 := (i (1 : Fin 3)).isLt
    have b2 : (i (2 : Fin 3) : ℕ) < 2048 := (i (2 : Fin 3)).isLt
    have ht : 32 * (i (0 : Fin 3) : ℕ) + 31 < cfg0.N := by
      rw [show cfg0.N = 64 from N_0]; omega
    obtain ⟨h0, h1, h2⟩ := index_14 ⟨_, ht⟩
    refine ⟨⟨_, ht⟩, (flush0_14 _).mpr (by dsimp only; omega), ?_⟩
    show i ∈ ((View.whole main_v63_2).slice (win0_14.rect ⟨_, ht⟩)).set
    rw [View.set_slice_whole, Rect.mem_set_unit]
    intro a
    match a with
    | ⟨0, _⟩ =>
      show win0_14.index ⟨_, ht⟩ 0 * 1 ≤ (i (0 : Fin 3) : ℕ) ∧ (i (0 : Fin 3) : ℕ) < win0_14.index ⟨_, ht⟩ 0 * 1 + 1
      rw [h0]; dsimp only; omega
    | ⟨1, _⟩ =>
      show win0_14.index ⟨_, ht⟩ 1 * 1 ≤ (i (1 : Fin 3) : ℕ) ∧ (i (1 : Fin 3) : ℕ) < win0_14.index ⟨_, ht⟩ 1 * 1 + 1
      rw [h1]; omega
    | ⟨2, _⟩ =>
      show win0_14.index ⟨_, ht⟩ 2 * 2048 ≤ (i (2 : Fin 3) : ℕ) ∧ (i (2 : Fin 3) : ℕ) < win0_14.index ⟨_, ht⟩ 2 * 2048 + 2048
      rw [h2]; omega

/-- The run with its results: the layer's output and its last state. -/
theorem run_results : θ_run defs (onTc (τ := τ) (main (F := Ideal))) (s₀ m ρ) (fun r => ∀ c : Dev nD,
      r.2.mem ((c.tc : Thread nD τ).loc main_v63_0) = outOfData (data m c)
      ∧ r.2.mem ((c.tc : Thread nD τ).loc main_v63_1) = lastRe (data m c)
      ∧ r.2.mem ((c.tc : Thread nD τ).loc main_v63_2) = lastIm (data m c)) :=
  (θ_run defs _ _).mono (fun _ h c => ⟨((h.1 c).1 12).trans (final_12 m c), ((h.1 c).1 13).trans (final_13 m c), ((h.1 c).1 14).trans (final_14 m c)⟩)
    (run_launch m ρ)

/-- … which keeps the arguments too. -/
theorem run_values : θ_run defs (onTc (τ := τ) (main (F := Ideal))) (s₀ m ρ) (fun r => ∀ c : Dev nD,
      r.2.mem ((c.tc : Thread nD τ).loc main_v63_0) = outOfData (data m c)
      ∧ r.2.mem ((c.tc : Thread nD τ).loc main_v63_1) = lastRe (data m c)
      ∧ r.2.mem ((c.tc : Thread nD τ).loc main_v63_2) = lastIm (data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1, (h.1 c).2.1, (h.1 c).2.2, h.2.1 c⟩) (θ_run_and (run_results m ρ) (run_kept m ρ))

end Cert.Ssm
end
-- ==== Proof.SsmRefOps.lean ====
module

public import proofs.«01_k».proof.Proof.Gen.ReferenceIdeal.Run
public import proofs.«01_k».proof.Proof.SsmSpec
public import Idealize.ShloMosaic.Lib.WordCmp
public import Idealize.ShloMosaic.Lib.DynamicIndex
public import Idealize.ShloMosaic.Lib.IdealHost
public import Idealize.ShloMosaic.Lib.Pointwise.ShapeOpsCore

@[expose] public section

set_option maxRecDepth 16384

noncomputable section

namespace Cert.SsmRef

open Idealize.ShloMosaic hiding ix1 ix2 ix3 ix4
open Idealize.ShloMosaic.TcCoe Idealize.ShloMosaic.Tactic
open Idealize.SL Idealize.SL.Sem Idealize.ShloMosaic.ValueIdx
open Cert.ReferenceIdeal Cert.ReferenceIdeal.Gen Cert.SsmSpec

/-! ## The reference's products, entry by entry -/

/-- The map into the state, at one group, component, sequence and step. -/
theorem dotIn_apply (w : Vec Ideal S32x64x16 .f32) (x : Vec Ideal S2x8192x32x16 .f32) (g : Fin 32) (p : Fin 64) (b : Fin 2) (t : Fin 8192) :
    (Host.dotGeneral (F := Ideal) (φ₁ := .f32) (φ₂ := .f32) dot_S32x64x16_S2x8192x32x16_S32x64x2x8192_2_3_1_01_0_2 none w x (ix4 g p b t) : EReal)
      = ∑ c : Fin 16, (w (ix3 g p c) : EReal) * x (ix4 b t g c) := by
  show FloatOps.dotGeneral (F := Ideal) _ none _ w x (ix4 g p b t) = _
  rw [Ideal.dotGeneral_apply, ← Equiv.sum_comp (contrEquiv1 dot_S32x64x16_S2x8192x32x16_S32x64x2x8192_2_3_1_01_0_2 16 rfl rfl).symm]
  refine Finset.sum_congr rfl fun c _ => ?_
  have e := contrEquiv1_symm_val dot_S32x64x16_S2x8192x32x16_S32x64x2x8192_2_3_1_01_0_2 16 rfl rfl c
  congr 1
  · refine congrArg w (funext fun a => Fin.ext ?_)
    match a with
    | ⟨0, _⟩ => rfl
    | ⟨1, _⟩ => rfl
    | ⟨2, _⟩ => exact e
  · refine congrArg x (funext fun a => Fin.ext ?_)
    match a with
    | ⟨0, _⟩ => rfl
    | ⟨1, _⟩ => rfl
    | ⟨2, _⟩ => rfl
    | ⟨3, _⟩ => exact e

/-- The map out of the state, at one group, channel, step and sequence. -/
theorem dotOut_apply (w : Vec Ideal S32x16x64 .f32) (x : Vec Ideal S8192x2x32x64 .f32) (g : Fin 32) (c : Fin 16) (t : Fin 8192) (b : Fin 2) :
    (Host.dotGeneral (F := Ideal) (φ₁ := .f32) (φ₂ := .f32) dot_S32x16x64_S8192x2x32x64_S32x16x8192x2_2_3_1_01_0_2 none w x (ix4 g c t b) : EReal)
      = ∑ p : Fin 64, (w (ix3 g c p) : EReal) * x (ix4 t b g p) := by
  show FloatOps.dotGeneral (F := Ideal) _ none _ w x (ix4 g c t b) = _
  rw [Ideal.dotGeneral_apply, ← Equiv.sum_comp (contrEquiv1 dot_S32x16x64_S8192x2x32x64_S32x16x8192x2_2_3_1_01_0_2 64 rfl rfl).symm]
  refine Finset.sum_congr rfl fun p _ => ?_
  have e := contrEquiv1_symm_val dot_S32x16x64_S8192x2x32x64_S32x16x8192x2_2_3_1_01_0_2 64 rfl rfl p
  congr 1
  · refine congrArg w (funext fun a => Fin.ext ?_)
    match a with
    | ⟨0, _⟩ => rfl
    | ⟨1, _⟩ => rfl
    | ⟨2, _⟩ => exact e
  · refine congrArg x (funext fun a => Fin.ext ?_)
    match a with
    | ⟨0, _⟩ => rfl
    | ⟨1, _⟩ => rfl
    | ⟨2, _⟩ => rfl
    | ⟨3, _⟩ => exact e

/-- The gate's product, at one sequence, step and channel. -/
theorem dotGate_apply (y : Vec Ideal S2x8192x512 .f32) (w : Vec Ideal S512x512 .f32) (b : Fin 2) (t : Fin 8192) (x : Fin 512) :
    (Host.dotGeneral (F := Ideal) (φ₁ := .f32) (φ₂ := .f32) dot_S2x8192x512_S512x512_S2x8192x512_2_0_01_1_n_n none y w (ix3 b t x) : EReal)
      = ∑ k : Fin 512, (y (ix3 b t k) : EReal) * w (ix2 k x) := by
  show FloatOps.dotGeneral (F := Ideal) _ none _ y w (ix3 b t x) = _
  rw [Ideal.dotGeneral_apply, ← Equiv.sum_comp (contrEquiv1 dot_S2x8192x512_S512x512_S2x8192x512_2_0_01_1_n_n 512 rfl rfl).symm]
  refine Finset.sum_congr rfl fun k _ => ?_
  have e := contrEquiv1_symm_val dot_S2x8192x512_S512x512_S2x8192x512_2_0_01_1_n_n 512 rfl rfl k
  congr 1
  · refine congrArg y (funext fun a => Fin.ext ?_)
    match a with
    | ⟨0, _⟩ => rfl
    | ⟨1, _⟩ => rfl
    | ⟨2, _⟩ => exact e
  · refine congrArg w (funext fun a => Fin.ext ?_)
    match a with
    | ⟨0, _⟩ => exact e
    | ⟨1, _⟩ => rfl

/-! ## Rearrangements -/

/-- The channels by groups. -/
theorem grouped_apply (u : Vec Ideal S2x8192x512 .f32) (b : Fin 2) (t : Fin 8192) (g : Fin 32) (c : Fin 16) :
    (shapeCast S2x8192x32x16 u shapeCasts_S2x8192x512_S2x8192x32x16 : Vec Ideal S2x8192x32x16 .f32) (ix4 b t g c) = u (ix3 b t (chan g c)) :=
  shapeCast_apply _ _ _ _ (by
    rw [Shape.rowMajor_val_three, Shape.rowMajor_val_four]
    show (b.val * 8192 + t.val) * 512 + (16 * g.val + c.val) = ((b.val * 8192 + t.val) * 32 + g.val) * 16 + c.val
    omega)

/-- The groups' channels in a row. -/
theorem rowed_apply (y : Vec Ideal S2x8192x32x16 .f32) (b : Fin 2) (t : Fin 8192) (x : Fin 512) :
    (shapeCast S2x8192x512 y shapeCasts_S2x8192x32x16_S2x8192x512 : Vec Ideal S2x8192x512 .f32) (ix3 b t x) = y (ix4 b t (grp x) (SsmSpec.sub x)) :=
  shapeCast_apply _ _ _ _ (by
    rw [Shape.rowMajor_val_three, Shape.rowMajor_val_four]
    show ((b.val * 8192 + t.val) * 32 + x.val / 16) * 16 + x.val % 16 = (b.val * 8192 + t.val) * 512 + x.val
    omega)

theorem chan_grp (x : Fin 512) : chan (grp x) (SsmSpec.sub x) = x := Fin.ext (by
  show 16 * (x.val / 16) + x.val % 16 = x.val
  omega)

/-- What the input adds to the state, step by step. -/
def driveArr (w : Vec Ideal S32x64x16 .f32) (u : Vec Ideal S2x8192x512 .f32) : Vec Ideal S8192x2x32x64 .f32 :=
  transpose S8192x2x32x64 [3, 2, 0, 1] (Host.dotGeneral (F := Ideal) (φ₁ := .f32) (φ₂ := .f32) dot_S32x64x16_S2x8192x32x16_S32x64x2x8192_2_3_1_01_0_2 none w
    (shapeCast S2x8192x32x16 u shapeCasts_S2x8192x512_S2x8192x32x16)) transposes_S32x64x2x8192_S8192x2x32x64_3_2_0_1

theorem driveArr_apply (w : Vec Ideal S32x64x16 .f32) (u : Vec Ideal S2x8192x512 .f32) (t : Fin 8192) (b : Fin 2) (g : Fin 32) (p : Fin 64) :
    (driveArr w u (ix4 t b g p) : EReal) = ∑ c : Fin 16, (u (ix3 b t (chan g c)) : EReal) * w (ix3 g p c) := by
  unfold driveArr
  rw [transpose_apply _ _ _ (ix4 t b g p) (ix4 g p b t) (fun a => by
    match a with
    | ⟨0, _⟩ => rfl
    | ⟨1, _⟩ => rfl
    | ⟨2, _⟩ => rfl
    | ⟨3, _⟩ => rfl)]
  rw [dotIn_apply]
  refine Finset.sum_congr rfl fun c _ => ?_
  rw [grouped_apply, mul_comm]

/-- A weight of the state's diagonal at every sequence. -/
theorem diag_apply (a : Vec Ideal S32x64 .f32) (b : Fin 2) (g : Fin 32) (p : Fin 64) :
    (broadcastInDim S2x32x64 ![0, 1, 2] bcast_S1x32x64_S2x32x64_0_1_2 (broadcastInDim S1x32x64 ![1, 2] bcast_S32x64_S1x32x64_1_2 a) : Vec Ideal S2x32x64 .f32) (ix3 b g p)
      = a (ix2 g p) := by
  rw [broadcastInDim_apply _ _ _ (ix3 b g p) (ix3 (0 : Fin 1) g p) (fun k => by
    match k with
    | ⟨0, _⟩ => rfl
    | ⟨1, _⟩ => rfl
    | ⟨2, _⟩ => rfl)]
  exact broadcastInDim_apply _ _ _ (ix3 (0 : Fin 1) g p) (ix2 g p) (fun k => by
    match k with
    | ⟨0, _⟩ => rfl
    | ⟨1, _⟩ => rfl)

/-- The step of an array of steps that a slice of one step takes. -/
theorem oneStep_apply (x : Vec Ideal S8192x2x32x64 .f32) (start : Fin 4 → Int) (n : Fin 8192)
    (hs : ∀ a, start a = ((![n.val, 0, 0, 0] : Fin 4 → ℕ) a : Int)) (b : Fin 2) (g : Fin 32) (p : Fin 64) :
    (shapeCast S2x32x64 (Host.dynamicSlice S1x2x32x64 x start sliceFits_S8192x2x32x64_S1x2x32x64) shapeCasts_S1x2x32x64_S2x32x64 : Vec Ideal S2x32x64 .f32) (ix3 b g p)
      = x (ix4 n b g p) := by
  have hfit : S8192x2x32x64.Slices (![n.val, 0, 0, 0] : Fin 4 → ℕ) S1x2x32x64 := ⟨rfl, fun a => by
    match a with
    | ⟨0, _⟩ => exact n.isLt
    | ⟨1, _⟩ => exact le_rfl
    | ⟨2, _⟩ => exact le_rfl
    | ⟨3, _⟩ => exact le_rfl⟩
  rw [Host.dynamicSlice_eq_extractStridedSlice S1x2x32x64 x start (![n.val, 0, 0, 0] : Fin 4 → ℕ) _ hfit hs]
  rw [shapeCast_apply _ _ (ix3 b g p) (ix4 (0 : Fin 1) b g p) (by
    rw [Shape.rowMajor_val_three, Shape.rowMajor_val_four]
    show ((0 * 2 + b.val) * 32 + g.val) * 64 + p.val = (b.val * 32 + g.val) * 64 + p.val
    omega)]
  refine congrArg x (funext fun a => Fin.ext ?_)
  match a with
  | ⟨0, _⟩ => exact Nat.add_zero _
  | ⟨1, _⟩ => exact Nat.zero_add _
  | ⟨2, _⟩ => exact Nat.zero_add _
  | ⟨3, _⟩ => exact Nat.zero_add _

/-- An array of steps with one step written. -/
theorem written_apply (x : Vec Ideal S8192x2x32x64 .f32) (v : Vec Ideal S2x32x64 .f32) (start : Fin 4 → Int) (n : Fin 8192)
    (hs : ∀ a, start a = ((![n.val, 0, 0, 0] : Fin 4 → ℕ) a : Int)) (t : Fin 8192) (b : Fin 2) (g : Fin 32) (p : Fin 64) :
    (Host.dynamicUpdateSlice x (broadcastInDim S1x2x32x64 ![1, 2, 3] bcast_S2x32x64_S1x2x32x64_1_2_3 v) start updateFits_S8192x2x32x64_S1x2x32x64 : Vec Ideal S8192x2x32x64 .f32) (ix4 t b g p)
      = if t = n then v (ix3 b g p) else x (ix4 t b g p) := by
  have hfit : S8192x2x32x64.Slices (![n.val, 0, 0, 0] : Fin 4 → ℕ) S1x2x32x64 := ⟨rfl, fun a => by
    match a with
    | ⟨0, _⟩ => exact n.isLt
    | ⟨1, _⟩ => exact le_rfl
    | ⟨2, _⟩ => exact le_rfl
    | ⟨3, _⟩ => exact le_rfl⟩
  rw [WordCmp.dynamicUpdateSlice_eq_update x _ start _ (![n.val, 0, 0, 0] : Fin 4 → ℕ) hfit hs, updateSlice_apply]
  by_cases h : t = n
  · subst h
    rw [if_pos rfl, dif_pos (fun a => by
      match a with
      | ⟨0, _⟩ => exact ⟨le_rfl, Nat.lt_succ_self _⟩
      | ⟨1, _⟩ => exact ⟨Nat.zero_le _, (Nat.zero_add 2).symm ▸ b.isLt⟩
      | ⟨2, _⟩ => exact ⟨Nat.zero_le _, (Nat.zero_add 32).symm ▸ g.isLt⟩
      | ⟨3, _⟩ => exact ⟨Nat.zero_le _, (Nat.zero_add 64).symm ▸ p.isLt⟩)]
    exact broadcastInDim_apply _ _ _ _ (ix3 b g p) (fun k => by
      match k with
      | ⟨0, _⟩ => rfl
      | ⟨1, _⟩ => rfl
      | ⟨2, _⟩ => rfl)
  · rw [if_neg h, dif_neg]
    intro hin
    obtain ⟨h1, h2⟩ := hin 0
    have h1' : n.val ≤ t.val := h1
    have h2' : t.val < n.val + 1 := h2
    exact h (Fin.ext (by omega))

/-! ## The rest of the layer -/

/-- The features: the map out of the states, plus the skip. -/
def featArr (w w' : Vec Ideal S32x16x64 .f32) (hr hi : Vec Ideal S8192x2x32x64 .f32) (d : Vec Ideal S32x16 .f32) (u : Vec Ideal S2x8192x512 .f32) :
    Vec Ideal S2x8192x512 .f32 :=
  shapeCast S2x8192x512 (addf (F := Ideal) (φ := .f32) (subf (transpose S2x8192x32x16 [3, 2, 0, 1] (Host.dotGeneral (F := Ideal) (φ₁ := .f32) (φ₂ := .f32) dot_S32x16x64_S8192x2x32x64_S32x16x8192x2_2_3_1_01_0_2 none w hr) transposes_S32x16x8192x2_S2x8192x32x16_3_2_0_1)
      (transpose S2x8192x32x16 [3, 2, 0, 1] (Host.dotGeneral (F := Ideal) (φ₁ := .f32) (φ₂ := .f32) dot_S32x16x64_S8192x2x32x64_S32x16x8192x2_2_3_1_01_0_2 none w' hi) transposes_S32x16x8192x2_S2x8192x32x16_3_2_0_1))
    (mulf (broadcastInDim S2x8192x32x16 ![0, 1, 2, 3] bcast_S1x1x32x16_S2x8192x32x16_0_1_2_3 (broadcastInDim S1x1x32x16 ![2, 3] bcast_S32x16_S1x1x32x16_2_3 d))
      (shapeCast S2x8192x32x16 u shapeCasts_S2x8192x512_S2x8192x32x16))) shapeCasts_S2x8192x32x16_S2x8192x512

theorem back_apply (w : Vec Ideal S32x16x64 .f32) (h : Vec Ideal S8192x2x32x64 .f32) (b : Fin 2) (t : Fin 8192) (g : Fin 32) (c : Fin 16) :
    ((transpose S2x8192x32x16 [3, 2, 0, 1] (Host.dotGeneral (F := Ideal) (φ₁ := .f32) (φ₂ := .f32) dot_S32x16x64_S8192x2x32x64_S32x16x8192x2_2_3_1_01_0_2 none w h) transposes_S32x16x8192x2_S2x8192x32x16_3_2_0_1 : Vec Ideal S2x8192x32x16 .f32) (ix4 b t g c) : EReal)
      = ∑ p : Fin 64, (h (ix4 t b g p) : EReal) * w (ix3 g c p) := by
  rw [transpose_apply _ _ _ (ix4 b t g c) (ix4 g c t b) (fun a => by
    match a with
    | ⟨0, _⟩ => rfl
    | ⟨1, _⟩ => rfl
    | ⟨2, _⟩ => rfl
    | ⟨3, _⟩ => rfl), dotOut_apply]
  exact Finset.sum_congr rfl fun p _ => mul_comm _ _

theorem skip_apply (d : Vec Ideal S32x16 .f32) (b : Fin 2) (t : Fin 8192) (g : Fin 32) (c : Fin 16) :
    (broadcastInDim S2x8192x32x16 ![0, 1, 2, 3] bcast_S1x1x32x16_S2x8192x32x16_0_1_2_3 (broadcastInDim S1x1x32x16 ![2, 3] bcast_S32x16_S1x1x32x16_2_3 d) : Vec Ideal S2x8192x32x16 .f32) (ix4 b t g c)
      = d (ix2 g c) := by
  rw [broadcastInDim_apply _ _ _ (ix4 b t g c) (ix4 (0 : Fin 1) (0 : Fin 1) g c) (fun k => by
    match k with
    | ⟨0, _⟩ => rfl
    | ⟨1, _⟩ => rfl
    | ⟨2, _⟩ => rfl
    | ⟨3, _⟩ => rfl)]
  exact broadcastInDim_apply _ _ _ (ix4 (0 : Fin 1) (0 : Fin 1) g c) (ix2 g c) (fun k => by
    match k with
    | ⟨0, _⟩ => rfl
    | ⟨1, _⟩ => rfl)

theorem featArr_apply (w w' : Vec Ideal S32x16x64 .f32) (hr hi : Vec Ideal S8192x2x32x64 .f32) (d : Vec Ideal S32x16 .f32) (u : Vec Ideal S2x8192x512 .f32)
    (b : Fin 2) (t : Fin 8192) (x : Fin 512) :
    (featArr w w' hr hi d u (ix3 b t x) : EReal)
      = (∑ p : Fin 64, (hr (ix4 t b (grp x) p) : EReal) * w (ix3 (grp x) (SsmSpec.sub x) p))
        - (∑ p : Fin 64, (hi (ix4 t b (grp x) p) : EReal) * w' (ix3 (grp x) (SsmSpec.sub x) p)) + d (ix2 (grp x) (SsmSpec.sub x)) * u (ix3 b t x) := by
  unfold featArr
  rw [rowed_apply]
  refine congrArg₂ (fun a b : EReal => a + b) (congrArg₂ (fun a b : EReal => a - b) (back_apply w hr b t _ _) (back_apply w' hi b t _ _))
    (congrArg₂ (fun a b : EReal => a * b) (skip_apply d b t _ _) ?_)
  rw [grouped_apply, chan_grp]

/-- The smooth rectifier on an array. -/
def gelArr (y : Vec Ideal S2x8192x512 .f32) : Vec Ideal S2x8192x512 .f32 :=
  mulf (F := Ideal) (φ := .f32) y (mulf (broadcastInDim S2x8192x512 ![] bcast_S_S2x8192x512 (constant S_ .f32 0x3F000000#32))
    (addf (broadcastInDim S2x8192x512 ![] bcast_S_S2x8192x512 (constant S_ .f32 0x3F800000#32))
      (Host.tanh (mulf (broadcastInDim S2x8192x512 ![] bcast_S_S2x8192x512 (constant S_ .f32 0x3F4C422A#32))
        (addf y (mulf (broadcastInDim S2x8192x512 ![] bcast_S_S2x8192x512 (constant S_ .f32 0x3D372713#32)) (mulf (mulf y y) y)))))))

theorem gelArr_apply (y : Vec Ideal S2x8192x512 .f32) (i : S2x8192x512.Idx) : (gelArr y i : EReal) = gelu (y i) := by
  show (y i : EReal) * (Ideal.ofBits .f32 0x3F000000#32 * (Ideal.ofBits .f32 0x3F800000#32
    + Ideal.tanh (Ideal.ofBits .f32 0x3F4C422A#32 * ((y i : EReal) + Ideal.ofBits .f32 0x3D372713#32 * ((y i : EReal) * y i * y i))))) = _
  unfold gelu
  rw [mul_assoc (y i : EReal) (y i) (y i)]

/-- The gate on an array. -/
def gateArr (z : Vec Ideal S2x8192x512 .f32) : Vec Ideal S2x8192x512 .f32 :=
  Host.divf (F := Ideal) (φ := .f32) (broadcastInDim S2x8192x512 ![] bcast_S_S2x8192x512 (constant S_ .f32 0x3F800000#32))
    (addf (broadcastInDim S2x8192x512 ![] bcast_S_S2x8192x512 (constant S_ .f32 0x3F800000#32)) (Host.exp (Host.negf z)))

theorem gateArr_apply (z : Vec Ideal S2x8192x512 .f32) (i : S2x8192x512.Idx) : (gateArr z i : EReal) = Ideal.logistic (z i) := by
  show Ideal.div (Ideal.ofBits .f32 0x3F800000#32) (Ideal.ofBits .f32 0x3F800000#32 + Ideal.exp (-(z i : EReal))) = _
  rw [Ideal.ofBits_one_f32]
  rfl

theorem offset_apply (bg : Vec Ideal S512 .f32) (b : Fin 2) (t : Fin 8192) (x : Fin 512) :
    (broadcastInDim S2x8192x512 ![0, 1, 2] bcast_S1x1x512_S2x8192x512_0_1_2 (broadcastInDim S1x1x512 ![2] bcast_S512_S1x1x512_2 bg) : Vec Ideal S2x8192x512 .f32) (ix3 b t x)
      = bg (ix1 x) := by
  rw [broadcastInDim_apply _ _ _ (ix3 b t x) (ix3 (0 : Fin 1) (0 : Fin 1) x) (fun k => by
    match k with
    | ⟨0, _⟩ => rfl
    | ⟨1, _⟩ => rfl
    | ⟨2, _⟩ => rfl)]
  exact broadcastInDim_apply _ _ _ (ix3 (0 : Fin 1) (0 : Fin 1) x) (ix1 x) (fun k => by
    match k with
    | ⟨0, _⟩ => rfl)

/-- The output from the features. -/
def outArr (y : Vec Ideal S2x8192x512 .f32) (wg : Vec Ideal S512x512 .f32) (bg : Vec Ideal S512 .f32) : Vec Ideal S2x8192x512 .f32 :=
  mulf (F := Ideal) (φ := .f32) (gelArr y) (gateArr (addf (F := Ideal) (φ := .f32)
    (Host.dotGeneral (F := Ideal) (φ₁ := .f32) (φ₂ := .f32) dot_S2x8192x512_S512x512_S2x8192x512_2_0_01_1_n_n none (gelArr y) wg)
    (broadcastInDim S2x8192x512 ![0, 1, 2] bcast_S1x1x512_S2x8192x512_0_1_2 (broadcastInDim S1x1x512 ![2] bcast_S512_S1x1x512_2 bg))))

theorem outArr_apply (y : Vec Ideal S2x8192x512 .f32) (wg : Vec Ideal S512x512 .f32) (bg : Vec Ideal S512 .f32) (b : Fin 2) (t : Fin 8192) (x : Fin 512) :
    (outArr y wg bg (ix3 b t x) : EReal)
      = gelu (y (ix3 b t x)) * Ideal.logistic ((∑ k : Fin 512, gelu (y (ix3 b t k)) * wg (ix2 k x)) + bg (ix1 x)) := by
  refine congrArg₂ (fun a b : EReal => a * b) (gelArr_apply y _) ((gateArr_apply _ _).trans (congrArg Ideal.logistic ?_))
  refine congrArg₂ (fun a b : EReal => a + b) ((dotGate_apply _ _ b t x).trans ?_) (offset_apply bg b t x)
  exact Finset.sum_congr rfl fun k _ => congrArg (fun a : EReal => a * wg (ix2 k x)) (gelArr_apply y _)

/-- The flat state. -/
theorem flat_apply (h : Vec Ideal S2x32x64 .f32) (b : Fin 2) (q : Fin 2048) :
    (shapeCast S2x1x2048 h shapeCasts_S2x32x64_S2x1x2048 : Vec Ideal S2x1x2048 .f32) (ix3 b 0 q) = h (ix3 b (sgrp q) (ssub q)) :=
  shapeCast_apply _ _ _ _ (by
    rw [Shape.rowMajor_val_three, Shape.rowMajor_val_three]
    show (b.val * 32 + q.val / 64) * 64 + q.val % 64 = (b.val * 1 + 0) * 2048 + q.val
    omega)

end Cert.SsmRef
end
-- ==== Proof.SsmRef.lean ====
module

public import proofs.«01_k».proof.Proof.SsmRefOps

@[expose] public section

set_option maxRecDepth 16384

noncomputable section

namespace Cert.SsmRef

open Idealize.ShloMosaic hiding ix1 ix2 ix3 ix4
open Idealize.ShloMosaic.TcCoe Idealize.ShloMosaic.Tactic
open Idealize.SL Idealize.SL.Sem Idealize.ShloMosaic.ValueIdx Idealize.ShloMosaic.StableHlo
open Cert.ReferenceIdeal Cert.ReferenceIdeal.Gen Cert.ReferenceIdeal.Value Cert.SsmSpec

/-! ## One step -/

/-- The real part of a step … -/
theorem stepRe_apply (a a' : Vec Ideal S32x64 .f32) (hr hi : Vec Ideal S2x32x64 .f32) (x : Vec Ideal S8192x2x32x64 .f32) (start : Fin 4 → Int) (n : Fin 8192)
    (hs : ∀ a, start a = ((![n.val, 0, 0, 0] : Fin 4 → ℕ) a : Int)) (b : Fin 2) (g : Fin 32) (p : Fin 64) :
    (addf (F := Ideal) (φ := .f32) (subf (mulf (broadcastInDim S2x32x64 ![0, 1, 2] bcast_S1x32x64_S2x32x64_0_1_2 (broadcastInDim S1x32x64 ![1, 2] bcast_S32x64_S1x32x64_1_2 a)) hr)
        (mulf (broadcastInDim S2x32x64 ![0, 1, 2] bcast_S1x32x64_S2x32x64_0_1_2 (broadcastInDim S1x32x64 ![1, 2] bcast_S32x64_S1x32x64_1_2 a')) hi))
      (shapeCast S2x32x64 (Host.dynamicSlice S1x2x32x64 x start sliceFits_S8192x2x32x64_S1x2x32x64) shapeCasts_S1x2x32x64_S2x32x64) (ix3 b g p) : EReal)
      = a (ix2 g p) * hr (ix3 b g p) - a' (ix2 g p) * hi (ix3 b g p) + x (ix4 n b g p) :=
  congrArg₂ (fun a b : EReal => a + b)
    (congrArg₂ (fun a b : EReal => a - b) (congrArg (fun e : EReal => e * hr (ix3 b g p)) (diag_apply a b g p))
      (congrArg (fun e : EReal => e * hi (ix3 b g p)) (diag_apply a' b g p)))
    (oneStep_apply x start n hs b g p)

/-- … and the imaginary part. -/
theorem stepIm_apply (a a' : Vec Ideal S32x64 .f32) (hr hi : Vec Ideal S2x32x64 .f32) (x : Vec Ideal S8192x2x32x64 .f32) (start : Fin 4 → Int) (n : Fin 8192)
    (hs : ∀ a, start a = ((![n.val, 0, 0, 0] : Fin 4 → ℕ) a : Int)) (b : Fin 2) (g : Fin 32) (p : Fin 64) :
    (addf (F := Ideal) (φ := .f32) (addf (mulf (broadcastInDim S2x32x64 ![0, 1, 2] bcast_S1x32x64_S2x32x64_0_1_2 (broadcastInDim S1x32x64 ![1, 2] bcast_S32x64_S1x32x64_1_2 a)) hi)
        (mulf (broadcastInDim S2x32x64 ![0, 1, 2] bcast_S1x32x64_S2x32x64_0_1_2 (broadcastInDim S1x32x64 ![1, 2] bcast_S32x64_S1x32x64_1_2 a')) hr))
      (shapeCast S2x32x64 (Host.dynamicSlice S1x2x32x64 x start sliceFits_S8192x2x32x64_S1x2x32x64) shapeCasts_S1x2x32x64_S2x32x64) (ix3 b g p) : EReal)
      = a (ix2 g p) * hi (ix3 b g p) + a' (ix2 g p) * hr (ix3 b g p) + x (ix4 n b g p) :=
  congrArg₂ (fun a b : EReal => a + b)
    (congrArg₂ (fun a b : EReal => a + b) (congrArg (fun e : EReal => e * hi (ix3 b g p)) (diag_apply a b g p))
      (congrArg (fun e : EReal => e * hr (ix3 b g p)) (diag_apply a' b g p)))
    (oneStep_apply x start n hs b g p)

/-- Where step `n` reads and writes. -/
theorem starts (n : ℕ) (hn : n < 8192) (a : Fin 4) :
    (((![(fun _ => BitVec.ofNat 32 n : Vec Ideal S_ .i32), constantI S_ 32 0#32, constantI S_ 32 0#32, constantI S_ 32 0#32] : Fin 4 → Vec Ideal S_ .i32) a (Shape.Idx.first h_S_)) : BitVec 32).toInt
      = ((![n, 0, 0, 0] : Fin 4 → ℕ) a : Int) := by
  match a with
  | ⟨0, _⟩ => exact toInt_ofNat_of_lt (by omega)
  | ⟨1, _⟩ => rfl
  | ⟨2, _⟩ => rfl
  | ⟨3, _⟩ => rfl

/-! ## The loop -/

/-- What the carried arrays are after `n` steps on the data `D`. -/
structure Inv (D : Data) (n : ℕ) (V : Valuation τ sig (Elt Ideal)) : Prop where
  dr : ∀ (t : Fin 8192) (b : Fin 2) (g : Fin 32) (p : Fin 64), ((V (Proc.devRef .tc main_v7_0) : Vec Ideal S8192x2x32x64 .f32) (ix4 t b g p) : EReal) = drive D D.br b t g p
  di : ∀ (t : Fin 8192) (b : Fin 2) (g : Fin 32) (p : Fin 64), ((V (Proc.devRef .tc main_v7_1) : Vec Ideal S8192x2x32x64 .f32) (ix4 t b g p) : EReal) = drive D D.bi b t g p
  ar : (V (Proc.devRef .tc main_v7_2) : Vec Ideal S32x64 .f32) = D.ar
  ai : (V (Proc.devRef .tc main_v7_3) : Vec Ideal S32x64 .f32) = D.ai
  at' : (V (Proc.devRef .tc main_v7_4) : Vec Ideal S_ .i32) = fun _ => BitVec.ofNat 32 n
  hr : ∀ (b : Fin 2) (g : Fin 32) (p : Fin 64), ((V (Proc.devRef .tc main_v7_5) : Vec Ideal S2x32x64 .f32) (ix3 b g p) : EReal) = (state D b g p n).1
  hi : ∀ (b : Fin 2) (g : Fin 32) (p : Fin 64), ((V (Proc.devRef .tc main_v7_6) : Vec Ideal S2x32x64 .f32) (ix3 b g p) : EReal) = (state D b g p n).2
  sr : ∀ (t : Fin 8192) (b : Fin 2) (g : Fin 32) (p : Fin 64), t.val < n →
    ((V (Proc.devRef .tc main_v7_7) : Vec Ideal S8192x2x32x64 .f32) (ix4 t b g p) : EReal) = (state D b g p (t.val + 1)).1
  si : ∀ (t : Fin 8192) (b : Fin 2) (g : Fin 32) (p : Fin 64), t.val < n →
    ((V (Proc.devRef .tc main_v7_8) : Vec Ideal S8192x2x32x64 .f32) (ix4 t b g p) : EReal) = (state D b g p (t.val + 1)).2

variable {D : Data} {n : ℕ} {V : Valuation τ sig (Elt Ideal)}

theorem Inv.starts (h : Inv D n V) (hn : n < 8192) (a : Fin 4) :
    (((![V (Proc.devRef .tc main_v7_4), constantI S_ 32 0#32, constantI S_ 32 0#32, constantI S_ 32 0#32] : Fin 4 → (⟨S_, .i32⟩ : BufTy).Contents (Elt Ideal))) a (Shape.Idx.first h_S_)).toInt
      = ((![n, 0, 0, 0] : Fin 4 → ℕ) a : Int) := by
  rw [show V (Proc.devRef .tc main_v7_4) = (fun _ => BitVec.ofNat 32 n : Vec Ideal S_ .i32) from h.at']
  exact SsmRef.starts n hn a

theorem Inv.re (h : Inv D n V) (hn : n < 8192) (b : Fin 2) (g : Fin 32) (p : Fin 64) :
    ((res_main_while0b_v54 V : Vec Ideal S2x32x64 .f32) (ix3 b g p) : EReal) = (state D b g p (n + 1)).1 := by
  unfold res_main_while0b_v54
  refine (stepRe_apply _ _ _ _ _ _ ⟨n, hn⟩ (h.starts hn) b g p).trans ?_
  rw [h.dr, h.hr, h.hi, h.ar, h.ai, show (⟨n, hn⟩ : Fin 8192) = Fin.ofNat 8192 n from Fin.ext (Nat.mod_eq_of_lt hn).symm]
  rfl

theorem Inv.im (h : Inv D n V) (hn : n < 8192) (b : Fin 2) (g : Fin 32) (p : Fin 64) :
    ((res_main_while0b_v62 V : Vec Ideal S2x32x64 .f32) (ix3 b g p) : EReal) = (state D b g p (n + 1)).2 := by
  unfold res_main_while0b_v62
  refine (stepIm_apply _ _ _ _ _ _ ⟨n, hn⟩ (h.starts hn) b g p).trans ?_
  rw [h.di, h.hr, h.hi, h.ar, h.ai, show (⟨n, hn⟩ : Fin 8192) = Fin.ofNat 8192 n from Fin.ext (Nat.mod_eq_of_lt hn).symm]
  rfl

theorem Inv.step (h : Inv D n V) (hn : n < 8192) : Inv D (n + 1) (STEP V) where
  dr := by rw [STEP_main_v7_0]; exact h.dr
  di := by rw [STEP_main_v7_1]; exact h.di
  ar := by rw [STEP_main_v7_2]; exact h.ar
  ai := by rw [STEP_main_v7_3]; exact h.ai
  at' := by
    rw [STEP_main_v7_4]
    unfold step_main_v7_4
    rw [show V (Proc.devRef .tc main_v7_4) = (fun _ => BitVec.ofNat 32 n : Vec Ideal S_ .i32) from h.at']
    funext _
    show BitVec.ofNat 32 n + 1#32 = BitVec.ofNat 32 (n + 1)
    rw [BitVec.ofNat_add]
  hr := by rw [STEP_main_v7_5]; exact h.re hn
  hi := by rw [STEP_main_v7_6]; exact h.im hn
  sr := fun t b g p ht => by
    rw [STEP_main_v7_7]
    unfold step_main_v7_7
    refine (written_apply _ _ _ ⟨n, hn⟩ (h.starts hn) t b g p).trans ?_
    by_cases e : t = ⟨n, hn⟩
    · rw [if_pos e, e]
      exact h.re hn b g p
    · rw [if_neg e]
      exact h.sr t b g p (by
        have : t.val ≠ n := fun k => e (Fin.ext k)
        omega)
  si := fun t b g p ht => by
    rw [STEP_main_v7_8]
    unfold step_main_v7_8
    refine (written_apply _ _ _ ⟨n, hn⟩ (h.starts hn) t b g p).trans ?_
    by_cases e : t = ⟨n, hn⟩
    · rw [if_pos e, e]
      exact h.im hn b g p
    · rw [if_neg e]
      exact h.si t b g p (by
        have : t.val ≠ n := fun k => e (Fin.ext k)
        omega)

/-! ## The run -/

variable (m : (ℓ : Loc nD τ sig) → Buf (Elt Ideal) ℓ) (ρ : Dev nD → PrngReg) (c : Dev nD)

/-- What the reference's layer is computed from. -/
def refData : Data where
  u := m ((c : Thread nD τ).loc main_arg0)
  sr := m ((c : Thread nD τ).loc main_arg1)
  si := m ((c : Thread nD τ).loc main_arg2)
  ar := m ((c : Thread nD τ).loc main_arg3)
  ai := m ((c : Thread nD τ).loc main_arg4)
  br := m ((c : Thread nD τ).loc main_arg5)
  bi := m ((c : Thread nD τ).loc main_arg6)
  cr := m ((c : Thread nD τ).loc main_arg7)
  ci := m ((c : Thread nD τ).loc main_arg8)
  d := m ((c : Thread nD τ).loc main_arg9)
  wg := m ((c : Thread nD τ).loc main_arg10)
  bg := m ((c : Thread nD τ).loc main_arg11)

theorem entry_0 : entryContents preI m c (Proc.devRef .tc main_v7_0) = driveArr (m ((c : Thread nD τ).loc main_arg5)) (m ((c : Thread nD τ).loc main_arg0)) := by
  simp only [entryContents, afterL_cons, afterL_nil]
  after_reads_simp
  rfl

theorem entry_1 : entryContents preI m c (Proc.devRef .tc main_v7_1) = driveArr (m ((c : Thread nD τ).loc main_arg6)) (m ((c : Thread nD τ).loc main_arg0)) := by
  simp only [entryContents, afterL_cons, afterL_nil]
  after_reads_simp
  rfl

theorem entry_2 : entryContents preI m c (Proc.devRef .tc main_v7_2) = m ((c : Thread nD τ).loc main_arg3) := by
  simp only [entryContents, afterL_cons, afterL_nil]
  after_reads_simp
  rfl

theorem entry_3 : entryContents preI m c (Proc.devRef .tc main_v7_3) = m ((c : Thread nD τ).loc main_arg4) := by
  simp only [entryContents, afterL_cons, afterL_nil]
  after_reads_simp
  rfl

theorem entry_5 : entryContents preI m c (Proc.devRef .tc main_v7_5) = m ((c : Thread nD τ).loc main_arg1) := by
  simp only [entryContents, afterL_cons, afterL_nil]
  after_reads_simp
  rfl

theorem entry_6 : entryContents preI m c (Proc.devRef .tc main_v7_6) = m ((c : Thread nD τ).loc main_arg2) := by
  simp only [entryContents, afterL_cons, afterL_nil]
  after_reads_simp
  rfl

theorem inv_entry : Inv (refData m c) 0 (entryContents preI m c) where
  dr := fun t b g p => by rw [entry_0]; exact driveArr_apply _ _ t b g p
  di := fun t b g p => by rw [entry_1]; exact driveArr_apply _ _ t b g p
  ar := entry_2 m c
  ai := entry_3 m c
  at' := ctr_entry m c
  hr := fun b g p => by rw [entry_5]; rfl
  hi := fun b g p => by rw [entry_6]; rfl
  sr := fun t b g p h => absurd h (Nat.not_lt_zero _)
  si := fun t b g p h => absurd h (Nat.not_lt_zero _)

/-- After every step the carried arrays are the recurrence's. -/
theorem inv_iter : ∀ n ≤ 8192, Inv (refData m c) n (STEP^[n] (entryContents preI m c))
  | 0, _ => inv_entry m c
  | n + 1, h => by
    rw [Function.iterate_succ_apply']
    exact (inv_iter n (by omega)).step (by omega)

theorem out_eq (V : Valuation τ sig (Elt Ideal)) : out_main_v42 V
    = outArr (featArr (V (Proc.devRef .tc main_arg7)) (V (Proc.devRef .tc main_arg8)) (V (Proc.devRef .tc main_v7_7)) (V (Proc.devRef .tc main_v7_8))
        (V (Proc.devRef .tc main_arg9)) (V (Proc.devRef .tc main_arg0))) (V (Proc.devRef .tc main_arg10)) (V (Proc.devRef .tc main_arg11)) := rfl

/-- The features after the loop … -/
theorem Inv.feat (h : Inv D 8192 V) (b : Fin 2) (t : Fin 8192) (x : Fin 512) :
    (featArr D.cr D.ci (V (Proc.devRef .tc main_v7_7)) (V (Proc.devRef .tc main_v7_8)) D.d D.u (ix3 b t x) : EReal) = SsmSpec.feat D b t x := by
  refine (featArr_apply _ _ _ _ _ _ b t x).trans ?_
  unfold SsmSpec.feat
  refine congrArg₂ (fun a b : EReal => a + b) (congrArg₂ (fun a b : EReal => a - b) (Finset.sum_congr rfl fun p _ => ?_) (Finset.sum_congr rfl fun p _ => ?_)) rfl
  · rw [h.sr t b (grp x) p t.isLt]
  · rw [h.si t b (grp x) p t.isLt]

/-- … and the output. -/
theorem Inv.out (h : Inv D 8192 V) (b : Fin 2) (t : Fin 8192) (x : Fin 512) :
    (outArr (featArr D.cr D.ci (V (Proc.devRef .tc main_v7_7)) (V (Proc.devRef .tc main_v7_8)) D.d D.u) D.wg D.bg (ix3 b t x) : EReal) = SsmSpec.out D b t x := by
  refine (outArr_apply _ _ _ b t x).trans ?_
  unfold SsmSpec.out
  rw [h.feat b t x]
  refine congrArg (fun e : EReal => gelu (SsmSpec.feat D b t x) * Ideal.logistic (e + D.bg (ix1 x))) (Finset.sum_congr rfl fun k _ => ?_)
  rw [h.feat b t k]

/-- The reference's output. -/
theorem out_final (b : Fin 2) (t : Fin 8192) (x : Fin 512) :
    ((out_main_v42 (STEP^[8192] (entryContents preI m c)) : Vec Ideal S2x8192x512 .f32) (ix3 b t x) : EReal) = out (refData m c) b t x := by
  rw [out_eq, iter_main_arg0, iter_main_arg7, iter_main_arg8, iter_main_arg9, iter_main_arg10, iter_main_arg11]
  exact (inv_iter m c 8192 le_rfl).out b t x

theorem re_final (b : Fin 2) (q : Fin 2048) :
    ((out_main_v43 (STEP^[8192] (entryContents preI m c)) : Vec Ideal S2x1x2048 .f32) (ix3 b 0 q) : EReal) = (state (refData m c) b (sgrp q) (ssub q) 8192).1 :=
  (flat_apply _ b q).trans ((inv_iter m c 8192 le_rfl).hr b _ _)

theorem im_final (b : Fin 2) (q : Fin 2048) :
    ((out_main_v44 (STEP^[8192] (entryContents preI m c)) : Vec Ideal S2x1x2048 .f32) (ix3 b 0 q) : EReal) = (state (refData m c) b (sgrp q) (ssub q) 8192).2 :=
  (flat_apply _ b q).trans ((inv_iter m c 8192 le_rfl).hi b _ _)

/-- An index of the flat state is a sequence and a place. -/
theorem flat_idx (i : S2x1x2048.Idx) : i = ix3 (i (0 : Fin 3)) (0 : Fin 1) (i (2 : Fin 3)) := funext fun a => by
  match a with
  | ⟨0, _⟩ => rfl
  | ⟨1, _⟩ => exact Fin.ext (Nat.lt_one_iff.mp (i (1 : Fin 3)).isLt)
  | ⟨2, _⟩ => rfl

theorem out_array : out_main_v42 (STEP^[8192] (entryContents preI m c)) = outOfData (refData m c) :=
  funext fun (i : S2x8192x512.Idx) => (congrArg _ (ValueIdx.eq_ix3 i)).trans (out_final m c (i (0 : Fin 3)) (i (1 : Fin 3)) (i (2 : Fin 3)))

theorem re_array : out_main_v43 (STEP^[8192] (entryContents preI m c)) = lastRe (refData m c) :=
  funext fun (i : S2x1x2048.Idx) => (congrArg _ (flat_idx i)).trans (re_final m c (i (0 : Fin 3)) (i (2 : Fin 3)))

theorem im_array : out_main_v44 (STEP^[8192] (entryContents preI m c)) = lastIm (refData m c) :=
  funext fun (i : S2x1x2048.Idx) => (congrArg _ (flat_idx i)).trans (im_final m c (i (0 : Fin 3)) (i (2 : Fin 3)))

end Cert.SsmRef
end
-- ==== Proof.Rows.lean ====
/- A row divided by its root mean square: what the norm kernels and their references share. -/
module

public import Idealize.ShloMosaic.Lib.IdealHost

@[expose] public section

noncomputable section

namespace Cert.Rows

open Idealize.ShloMosaic

/-- Entry `k` of a row of 1024 divided by its root mean square (the small constant under the root), times the gain. -/
def rms (f g : Fin 1024 → EReal) (k : Fin 1024) : EReal :=
  f k * Ideal.rsqrt (Ideal.div (∑ l : Fin 1024, f l * f l) (Ideal.ofBits .f32 0x44800000#32) + Ideal.ofBits .f32 0x358637BD#32) * g k

/-- The square of the positive part. -/
def act (a : EReal) : EReal := max a 0 * max a 0

/-- Entry `l` of the feed-forward layer's row `f`: the row plus the activated hidden units times the second weight. -/
def ffn (f g : Fin 1024 → EReal) (w1 : Fin 1024 → Fin 4096 → EReal) (w2 : Fin 4096 → Fin 1024 → EReal) (l : Fin 1024) : EReal :=
  f l + ∑ q : Fin 4096, act (∑ k : Fin 1024, rms f g k * w1 k q) * w2 q l

end Cert.Rows

end
-- ==== Proof.FfnRef.lean ====
/- The reference of the feed-forward call with the last normalisation, entry by entry. -/
module

public import proofs.«01_k».proof.Proof.Gen.Reference2Ideal.Run
public import proofs.«01_k».proof.Proof.Rows
public import Idealize.ShloMosaic.Lib.Pointwise

@[expose] public section

set_option maxRecDepth 16384

noncomputable section

namespace Cert.FfnRef

open Cert.Reference2Ideal Cert.Reference2Ideal.Gen Idealize.ShloMosaic Idealize.ShloMosaic.TcCoe Idealize.SL.Sem

/-- The normalised rows as the reference writes them. -/
def normed (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (F := Ideal) (mulf x x) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The hidden units before their activation. -/
def hidden (h : FVec Ideal S2x8192x1024 .f32) (w1 : FVec Ideal S1024x4096 .f32) : FVec Ideal S2x8192x4096 .f32 :=
  maximumf (Host.dotGeneral (F := Ideal) (φ₁ := .f32) (φ₂ := .f32) dot_S2x8192x1024_S1024x4096_S2x8192x4096_2_0_01_1_n_n none h w1)
    (broadcastInDim S2x8192x4096 ![] bcast_S_S2x8192x4096 (constant S_ .f32 0x00000000#32))

/-- The rows plus what the hidden units give back. -/
def layer (x : FVec Ideal S2x8192x1024 .f32) (u : FVec Ideal S2x8192x4096 .f32) (w2 : FVec Ideal S4096x1024 .f32) : FVec Ideal S2x8192x1024 .f32 :=
  addf x (Host.dotGeneral (F := Ideal) (φ₁ := .f32) (φ₂ := .f32) dot_S2x8192x4096_S4096x1024_S2x8192x1024_2_0_01_1_n_n none (mulf u u) w2)

/-- The batch flattened. -/
def flat (x : FVec Ideal S2x8192x1024 .f32) : FVec Ideal S16384x1024 .f32 := shapeCast _ x shapeCasts_S2x8192x1024_S16384x1024

theorem normed_at (x : FVec Ideal S2x8192x1024 .f32) (g : FVec Ideal S1024 .f32) (p : Fin 2) (q : Fin 8192) (l : Fin 1024) :
    normed x g (ix3 p q l) = Rows.rms (fun j => x (ix3 p q j)) (fun j => g (ix1 j)) l := by
  pointwise [normed, Rows.rms]

theorem hidden_at (h : FVec Ideal S2x8192x1024 .f32) (w1 : FVec Ideal S1024x4096 .f32) (p : Fin 2) (q : Fin 8192) (n : Fin 4096) :
    hidden h w1 (ix3 p q n) = max (∑ k : Fin 1024, h (ix3 p q k) * w1 (ix2 k n)) 0 := by
  pointwise [hidden]

theorem layer_at (x : FVec Ideal S2x8192x1024 .f32) (u : FVec Ideal S2x8192x4096 .f32) (w2 : FVec Ideal S4096x1024 .f32) (p : Fin 2) (q : Fin 8192) (l : Fin 1024) :
    layer x u w2 (ix3 p q l) = x (ix3 p q l) + ∑ n : Fin 4096, u (ix3 p q n) * u (ix3 p q n) * w2 (ix2 n l) := by
  pointwise [layer]

theorem flat_at (x : FVec Ideal S2x8192x1024 .f32) (p : Fin 2) (q : Fin 8192) (r : Fin 16384) (l : Fin 1024)
    (hp : ⟨r.val / 8192, by omega⟩ = p) (hq : ⟨r.val % 8192, by omega⟩ = q) : flat x (ix2 r l) = x (ix3 p q l) := by
  subst hp hq
  pointwise [flat]

/-- The feed-forward call and the last normalisation as the reference writes them. -/
def finished (x : FVec Ideal S2x8192x1024 .f32) (g : FVec Ideal S1024 .f32) (w1 : FVec Ideal S1024x4096 .f32) (w2 : FVec Ideal S4096x1024 .f32) (fg : FVec Ideal S1024 .f32) :
    FVec Ideal S16384x1024 .f32 :=
  flat (normed (layer x (hidden (normed x g) w1) w2) fg)

/-- Its entry at a row of the flattened batch and a column. -/
theorem finished_at (x : FVec Ideal S2x8192x1024 .f32) (g : FVec Ideal S1024 .f32) (w1 : FVec Ideal S1024x4096 .f32) (w2 : FVec Ideal S4096x1024 .f32) (fg : FVec Ideal S1024 .f32)
    (p : Fin 2) (q : Fin 8192) (r : Fin 16384) (l : Fin 1024) (hp : ⟨r.val / 8192, by omega⟩ = p) (hq : ⟨r.val % 8192, by omega⟩ = q) :
    finished x g w1 w2 fg (ix2 r l) = Rows.rms (Rows.ffn (fun j => x (ix3 p q j)) (fun j => g (ix1 j)) (fun k n => w1 (ix2 k n)) (fun n j => w2 (ix2 n j))) (fun j => fg (ix1 j)) l := by
  rw [finished, flat_at _ p q r l hp hq, normed_at]
  refine congrFun (congrArg (Rows.rms · _) (funext fun j => ?_)) l
  rw [layer_at]
  simp only [hidden_at, normed_at]
  rfl

/-- The reference's result is this array. -/
theorem result_eq (m : (ℓ : Loc nD τ sig) → Buf (Elt Ideal) ℓ) (c : Dev nD) : Value.res_main_v31 (F := Ideal) m c
    = finished (m ((c : Thread nD τ).loc main_arg0)) (m ((c : Thread nD τ).loc main_arg1)) (m ((c : Thread nD τ).loc main_arg2))
      (m ((c : Thread nD τ).loc main_arg3)) (m ((c : Thread nD τ).loc main_arg4)) := by
  unfold Value.res_main_v31
  rfl

end Cert.FfnRef

end
-- ==== Proof.Ffn.lean ====
/- The feed-forward layer and the final norm (result 1): the hidden units go by in four tiles, their products gathered in a scratch. -/
module

public import proofs.«01_k».proof.Defs
public import proofs.«01_k».proof.Proof.Gen.Kernel2Ideal.Value
public import proofs.«01_k».proof.Proof.FfnRef
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks lie: four points to a block of rows, a tile of the hidden units at each. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

/-! ## What the body stores -/

/-- The normalised rows. -/
theorem norm_at (x : FVec Ideal S1024x1024 .f32) (g : FVec Ideal S1x1024 .f32) (r l : Fin 1024) :
    k0_pay1 (F := Ideal) x g (ix2 r l) = Rows.rms (fun j => x (ix2 r j)) (fun j => g (ix2 0 j)) l := by
  pointwise [k0_pay1, Rows.rms]

/-- The gathered products start at zero. -/
theorem zero_at (r l : Fin 1024) : k0_pay2 (F := Ideal) (ix2 r l) = 0 := by
  pointwise [k0_pay2]

/-- A tile's products, added to what was gathered. -/
theorem tile_at (h w1 : FVec Ideal S1024x1024 .bf16) (a : FVec Ideal S1024x1024 .f32) (w2 : FVec Ideal S1024x1024 .bf16) (r l : Fin 1024) :
    k0_pay3 (F := Ideal) h w1 a w2 (ix2 r l)
    = a (ix2 r l) + ∑ q : Fin 1024, Rows.act (∑ k : Fin 1024, h (ix2 r k) * w1 (ix2 k q)) * w2 (ix2 q l) := by
  pointwise [k0_pay3, Rows.act]

/-- The row plus the gathered products, normalised. -/
theorem out_at (x a : FVec Ideal S1024x1024 .f32) (g : FVec Ideal S1x1024 .f32) (r l : Fin 1024) :
    k0_pay4 (F := Ideal) x a g (ix2 r l) = Rows.rms (fun j => x (ix2 r j) + a (ix2 r j)) (fun j => g (ix2 0 j)) l := by
  pointwise [k0_pay4, Rows.rms]

/-! ## The blocks -/

/-- The rows' block at a point. -/
theorem rows_at (c : Dev nD) (t : Fin cfg0.N) (r j : Fin 1024) (h : t.val / 4 * 1024 + r.val < 16384) :
    iblk m c 0 t (ix2 r j) = m ((c : Thread nD τ).loc main_arg0)
      (ix3 ⟨(t.val / 4 * 1024 + r.val) / 8192, by omega⟩ ⟨(t.val / 4 * 1024 + r.val) % 8192, by omega⟩ j) := by
  blk_point [iblk, V, idx t]

theorem gain_at (c : Dev nD) (t : Fin cfg0.N) (j : Fin 1024) :
    iblk m c 1 t (ix2 0 j) = m ((c : Thread nD τ).loc main_arg1) (ix1 j) := by
  blk_point [iblk, V, idx t]

theorem final_gain_at (c : Dev nD) (t : Fin cfg0.N) (j : Fin 1024) :
    iblk m c 4 t (ix2 0 j) = m ((c : Thread nD τ).loc main_arg4) (ix1 j) := by
  blk_point [iblk, V, idx t]

/-- The first weight's tile: its columns from 1024 times the tile on. -/
theorem up_at (c : Dev nD) (t : Fin cfg0.N) (k q : Fin 1024) (s : ℕ) (hs : t.val % 4 = s) (h : s * 1024 + q.val < 4096) :
    iblk m c 2 t (ix2 k q) = m ((c : Thread nD τ).loc main_arg2) (ix2 k ⟨s * 1024 + q.val, h⟩) := by
  subst hs
  blk_point [iblk, V, idx t]

/-- The second weight's tile: its rows from 1024 times the tile on. -/
theorem down_at (c : Dev nD) (t : Fin cfg0.N) (q l : Fin 1024) (s : ℕ) (hs : t.val % 4 = s) (h : s * 1024 + q.val < 4096) :
    iblk m c 3 t (ix2 q l) = m ((c : Thread nD τ).loc main_arg3) (ix2 ⟨s * 1024 + q.val, h⟩ l) := by
  subst hs
  blk_point [iblk, V, idx t]

/-- The rows' block is the same at the four points of a run. -/
theorem rows_run (c : Dev nD) (t u : Fin cfg0.N) (h : t.val / 4 = u.val / 4) : iblk m c 0 t = iblk m c 0 u := by
  have ht : t.val < 64 := lt_of_lt_of_eq t.isLt N_0
  funext y
  have hy : (y 0).val < 1024 := (y 0).isLt
  refine (congrArg _ (eq_ix2 y)).trans (Eq.trans ?_ (congrArg _ (eq_ix2 y)).symm)
  exact (rows_at m c t (y 0) (y 1) (by omega)).trans (by rw [show iblk m c 0 u (ix2 (y 0) (y 1)) = _ from rows_at m c u (y 0) (y 1) (by omega)]; simp only [h])

/-! ## The scratches -/

/-- The normalised rows are stored at a run's first point and held to its last. -/
theorem held (c : Dev nD) (t : Fin cfg0.N) : (outsAt0 m c t.val t.isLt).2.1 = k0_pay1 (iblk m c 0 t) (iblk m c 1 t) := by
  rw [Pipeline.eq_of_write_hold (fun n h => (outsAt0 m c n h).2.1) 4 (fun t => k0_pay1 (iblk m c 0 t) (iblk m c 1 t))
    (fun t h => by rw [outsAt0_A m c t h (by omega)]; frame_out)
    (fun t h => by
      by_cases h1 : t.val % 4 = 3
      · rw [outsAt0_C m c t h h1]; rfl
      · rw [outsAt0_B m c t h h1]; rfl) t]
  rw [rows_run m c ⟨4 * (t.val / 4), Pipeline.run_start_lt t⟩ t (by show 4 * (t.val / 4) / 4 = _; omega)]
  refine congrArg _ (funext fun y => ?_)
  refine (congrArg _ (eq_ix2 y)).trans (Eq.trans ?_ (congrArg _ (eq_ix2 y)).symm)
  have h0 : y 0 = (0 : Fin 1) := Subsingleton.elim (α := Fin 1) _ _
  rw [h0]
  exact (gain_at m c _ _).trans (gain_at m c _ _).symm

/-- What a tile adds at a row and a column. -/
def part (c : Dev nD) (t : Fin cfg0.N) (y : S1024x1024.Idx) : EReal :=
  ∑ q : Fin 1024, Rows.act (∑ k : Fin 1024, Rows.rms (fun j => iblk m c 0 t (ix2 (y 0) j)) (fun j => iblk m c 1 t (ix2 0 j)) k * iblk m c 2 t (ix2 k q)) * iblk m c 3 t (ix2 q (y 1))

/-- A tile's products over the normalised rows add its part. -/
theorem tile_part (c : Dev nD) (t : Fin cfg0.N) (a : FVec Ideal S1024x1024 .f32) (y) :
    k0_pay3 (F := Ideal) (k0_pay1 (iblk m c 0 t) (iblk m c 1 t)) (iblk m c 2 t) a (iblk m c 3 t) y = a y + part m c t y := by
  refine (congrArg _ (eq_ix2 y)).trans ((tile_at _ _ _ _ (y 0) (y 1)).trans ?_)
  rw [← eq_ix2 y]
  refine congrArg _ (Finset.sum_congr rfl fun q _ => congrArg (Rows.act · * _) (Finset.sum_congr rfl fun k _ => congrArg (· * _) ?_))
  exact norm_at _ _ _ _

/-- At a run's last point the gathered products are the four tiles' parts. -/
theorem gathered (c : Dev nD) (t : Fin cfg0.N) (h : t.val % 4 = 3) (y) :
    (outsAt0 m c t.val t.isLt).2.2 y = ∑ s : Fin 4, part m c ⟨4 * (t.val / 4) + s.val, Pipeline.run_point_lt_of_flush t h s⟩ y := by
  have e (t : Fin cfg0.N) (h : ¬ t.val % 4 = 0) : (outsAt0 m c (t.val - 1) (Nat.lt_of_le_of_lt (Nat.sub_le _ _) t.isLt)).2.1
      = k0_pay1 (iblk m c 0 t) (iblk m c 1 t) := by
    rw [← held m c t]
    by_cases h1 : t.val % 4 = 3
    · rw [outsAt0_C m c t h h1]; rfl
    · rw [outsAt0_B m c t h h1]; rfl
  rw [Pipeline.eq_sum_fin_of_reset_step_apply_of_flush (fun n h => (outsAt0 m c n h).2.2) 4 (fun _ => 0) (part m c)
    (fun t h j => by
      rw [outsAt0_A m c t h (by omega)]; frame_out
      rw [tile_part, (congrArg _ (eq_ix2 j)).trans (zero_at _ _)])
    (fun t h j => by
      by_cases h1 : t.val % 4 = 3
      · rw [outsAt0_C m c t h h1]; frame_out
        simp only [read_unread_whole, e t h]; rw [tile_part]
      · rw [outsAt0_B m c t h h1]; frame_out
        simp only [read_unread_whole, e t h]; rw [tile_part]) t h y, zero_add]

/-- A run's last point stores the row plus the gathered products, normalised. -/
theorem stored (c : Dev nD) (t : Fin cfg0.N) (h : t.val % 4 = 3) :
    (outsAt0 m c t.val t.isLt).1 = k0_pay4 (iblk m c 0 t) (outsAt0 m c t.val t.isLt).2.2 (iblk m c 4 t) := by
  rw [outsAt0_C m c t (by omega) h]
  frame_out

/-- The gathered products at a row and a column are the sum over all the hidden units. -/
theorem gathered_at (c : Dev nD) (t : Fin cfg0.N) (h : t.val % 4 = 3) (r l : Fin 1024) (hr : t.val / 4 * 1024 + r.val < 16384) (p : Fin 2) (q : Fin 8192)
    (hp : ⟨(t.val / 4 * 1024 + r.val) / 8192, by omega⟩ = p) (hq : ⟨(t.val / 4 * 1024 + r.val) % 8192, by omega⟩ = q) :
    (outsAt0 m c t.val t.isLt).2.2 (ix2 r l) = ∑ n : Fin 4096, Rows.act (∑ k : Fin 1024, Rows.rms (fun j => m ((c : Thread nD τ).loc main_arg0) (ix3 p q j))
      (fun j => m ((c : Thread nD τ).loc main_arg1) (ix1 j)) k * m ((c : Thread nD τ).loc main_arg2) (ix2 k n)) * m ((c : Thread nD τ).loc main_arg3) (ix2 n l) := by
  subst hp hq
  rw [gathered m c t h, Fin.sum_univ_tiles 4 1024 rfl]
  refine Finset.sum_congr rfl fun s _ => Finset.sum_congr rfl fun n _ => ?_
  have ht : 4 * (t.val / 4) + s.val < cfg0.N := Pipeline.run_point_lt_of_flush t h s
  have hs : (4 * (t.val / 4) + s.val) % 4 = s.val := by omega
  refine congrArg₂ _ (congrArg _ (Finset.sum_congr rfl fun k _ => congrArg₂ _ ?_ (up_at m c ⟨_, ht⟩ k n s.val hs (by omega)))) (down_at m c ⟨_, ht⟩ n l s.val hs (by omega))
  refine congrFun (congrArg₂ Rows.rms (funext fun j => ?_) (funext fun j => gain_at m c ⟨_, ht⟩ j)) k
  rw [rows_run m c ⟨4 * (t.val / 4) + s.val, ht⟩ t (by show (4 * (t.val / 4) + s.val) / 4 = _; omega)]
  exact rows_at m c t r j hr

/-- A run's block of the stored array is the reference's. -/
theorem point (c : Dev nD) (t : Fin cfg0.N) (h : t.val % 4 = 3) (r l : Fin 1024) (hr : t.val / 4 * 1024 + r.val < 16384) :
    (outsAt0 m c t.val t.isLt).1 (ix2 r l)
    = FfnRef.finished (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨t.val / 4 * 1024 + r.val, hr⟩ l) := by
  rw [stored m c t h, out_at, FfnRef.finished_at _ _ _ _ _ ⟨(t.val / 4 * 1024 + r.val) / 8192, by omega⟩ ⟨(t.val / 4 * 1024 + r.val) % 8192, by omega⟩ _ _ rfl rfl]
  refine congrFun (congrArg₂ Rows.rms (funext fun j => ?_) (funext fun j => final_gain_at m c t j)) l
  exact congrArg₂ _ (rows_at m c t r j hr) (gathered_at m c t h r j hr _ _ rfl rfl)

/-- The result array after the run. -/
theorem final (c : Dev nD) : (dats m 0 c).arrAt 5 (cfgs 0).N
    = FfnRef.finished (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 64 := lt_of_lt_of_eq t.isLt N_0
  have hr : (y 0).val < 1024 := (y 0).isLt
  refine (congrArg _ (eq_ix2 y)).trans ((point m c t ((flush0_5 t).mp hf) (y 0) (y 1) (by omega)).trans (congrArg _ ?_))
  blk_ext [idx t]

/-- Both programs, from memories that agree on the arguments, end with this array. -/
theorem algebraic : Cert.algebraic_Kernel2Ideal_Reference2Ideal := by
  intro m g m' g' _ agree
  refine ⟨fun c => FfnRef.finished (m ((c : Thread nD τ).loc main_arg0)) (m ((c : Thread nD τ).loc main_arg1)) (m ((c : Thread nD τ).loc main_arg2))
      (m ((c : Thread nD τ).loc main_arg3)) (m ((c : Thread nD τ).loc main_arg4)),
    (θ_run defs _ _).mono (fun r h c => ⟨(h c).1.trans ((Value.final5 m c).symm.trans (final m c)), (h c).2⟩) (Cert.Kernel2Ideal.Value.run (F := Ideal) m g),
    (θ_run Cert.Reference2Ideal.defs _ _).mono (fun r h c => ⟨(h c).1.trans ?_, (h c).2⟩) (Cert.Reference2Ideal.Value.run (F := Ideal) m' g')⟩
  obtain ⟨h0, h1, h2, h3, h4⟩ := agree c
  rw [FfnRef.result_eq, h0, h1, h2, h3, h4]

end Cert.Ffn

end
-- ==== Proof.MergeRef.lean ====
/- The reference of the merge of the branches, entry by entry. -/
module

public import proofs.«01_k».proof.Proof.Gen.Reference3Ideal.Run
public import Idealize.ShloMosaic.Lib.Pointwise

@[expose] public section

set_option maxRecDepth 16384

noncomputable section

namespace Cert.MergeRef

open Cert.Reference3Ideal Cert.Reference3Ideal.Gen Idealize.ShloMosaic Idealize.ShloMosaic.TcCoe Idealize.SL.Sem

/-- The merge as the reference writes it: the rows plus the gated branches, side by side, times the weight. -/
def merged (x : FVec Ideal S2x8192x1024 .f32) (a b s : FVec Ideal S2x8192x512 .f32) (gb : FVec Ideal S2x8192x1536 .f32) (w : FVec Ideal S1536x1024 .f32) : FVec Ideal S16384x1024 .f32 :=
  shapeCast _ (addf x (Host.dotGeneral (F := Ideal) (φ₁ := .f32) (φ₂ := .f32) dot_S2x8192x1536_S1536x1024_S2x8192x1024_2_0_01_1_n_n none
    (mulf (concatenate S2x8192x1536 2 [⟨S2x8192x512, a⟩, ⟨S2x8192x512, b⟩, ⟨S2x8192x512, s⟩] concatenates_S2x8192x512_S2x8192x512_S2x8192x512_S2x8192x1536_d2) gb) w))
    shapeCasts_S2x8192x1024_S16384x1024

/-- A sum over 1536 is three sums over 512. -/
theorem three_sums (f : Fin 1536 → EReal) : ∑ k, f k
    = ∑ k : Fin 512, f ⟨k.val, by omega⟩ + ∑ k : Fin 512, f ⟨512 + k.val, by omega⟩ + ∑ k : Fin 512, f ⟨1024 + k.val, by omega⟩ :=
  (Fin.sum_univ_add (a := 1024) (b := 512) f).trans
    (congrArg (· + _) (Fin.sum_univ_add (a := 512) (b := 512) fun k => f (Fin.castAdd 512 k)))

/-- The merge, at a row of the flattened batch and a column: one sum over the 1536 columns is one over each branch's 512. -/
theorem merged_at (x : FVec Ideal S2x8192x1024 .f32) (a b s : FVec Ideal S2x8192x512 .f32) (gb : FVec Ideal S2x8192x1536 .f32) (w : FVec Ideal S1536x1024 .f32)
    (p : Fin 2) (q : Fin 8192) (r : Fin 16384) (l : Fin 1024) (hp : ⟨r.val / 8192, by omega⟩ = p) (hq : ⟨r.val % 8192, by omega⟩ = q) :
    merged x a b s gb w (ix2 r l) = x (ix3 p q l)
      + (∑ k : Fin 512, a (ix3 p q k) * gb (ix3 p q ⟨k.val, by omega⟩) * w (ix2 ⟨k.val, by omega⟩ l)
        + ∑ k : Fin 512, b (ix3 p q k) * gb (ix3 p q ⟨512 + k.val, by omega⟩) * w (ix2 ⟨512 + k.val, by omega⟩ l)
        + ∑ k : Fin 512, s (ix3 p q k) * gb (ix3 p q ⟨1024 + k.val, by omega⟩) * w (ix2 ⟨1024 + k.val, by omega⟩ l)) := by
  subst hp hq
  pointwise [merged]
  rw [three_sums]
  refine congrArg _ (congrArg₂ _ (congrArg₂ _ ?_ ?_) ?_)
  · refine Finset.sum_congr rfl fun k _ => ?_
    rw [dif_pos k.isLt]
  · refine Finset.sum_congr rfl fun k _ => ?_
    rw [dif_neg (by simp), dif_pos (by simp)]
    simp only [Nat.add_sub_cancel_left]
  · refine Finset.sum_congr rfl fun k _ => ?_
    rw [dif_neg (by simp; omega), dif_neg (by simp; omega)]
    simp only [show 1024 + k.val - 512 - 512 = k.val by omega]

end Cert.MergeRef

end
-- ==== Proof.Merge.lean ====
/- The merge of the three branches into the residual stream: every grid point adds the branches' gated products to its rows. -/
module

public import proofs.«01_k».proof.Defs
public import proofs.«01_k».proof.Proof.Gen.Kernel3Ideal.Value
public import proofs.«01_k».proof.Proof.MergeRef
public import Idealize.ShloMosaic.Lib.Pipeline.ValueKit
public import Idealize.ShloMosaic.Lib.Claim

@[expose] public section

set_option maxRecDepth 16384

noncomputable section

namespace Cert.Merge

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks lie: the rows' at the point, the weight's at the origin. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

/-- What the body stores: the row plus the three gated products, in turn. -/
theorem pay_at (x : FVec Ideal S512x1024 .f32) (a ga b gb s gs : FVec Ideal S512x512 .f32) (wa wb ws : FVec Ideal S512x1024 .bf16) (r : Fin 512) (l : Fin 1024) :
    k0_pay1 (F := Ideal) x a ga wa b gb wb s gs ws (ix2 r l) = x (ix2 r l) + ∑ k : Fin 512, a (ix2 r k) * ga (ix2 r k) * wa (ix2 k l)
      + ∑ k : Fin 512, b (ix2 r k) * gb (ix2 r k) * wb (ix2 k l) + ∑ k : Fin 512, s (ix2 r k) * gs (ix2 r k) * ws (ix2 k l) := by
  pointwise [k0_pay1]

/-- A point's block of the stored array is the reference's. -/
theorem point (c : Dev nD) (t : Fin cfg0.N) (r : Fin 512) (l : Fin 1024) (h : t.val * 512 + r.val < 16384) :
    out0_6 (F := Ideal) (iblk m c 0 t) (iblk m c 1 t) (iblk m c 2 t) (iblk m c 3 t) (iblk m c 4 t) (iblk m c 5 t) (ix2 r l)
    = MergeRef.merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 ⟨t.val * 512 + r.val, h⟩ l) := by
  rw [MergeRef.merged_at _ _ _ _ _ _ ⟨(t.val * 512 + r.val) / 8192, by omega⟩ ⟨(t.val * 512 + r.val) % 8192, by omega⟩ _ _ rfl rfl]
  frame_out
  rw [pay_at, ← add_assoc, ← add_assoc]
  pointwise
  blk_point [iblk, V, idx t]

/-- The result array after the run. -/
theorem final (c : Dev nD) : (dats m 0 c).arrAt 6 (cfgs 0).N
    = MergeRef.merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have ht : t.val < 32 := lt_of_lt_of_eq t.isLt N_0
  have hr : (y 0).val < 512 := (y 0).isLt
  refine (congrArg _ (eq_ix2 y)).trans ((point m c t (y 0) (y 1) (by omega)).trans (congrArg _ ?_))
  blk_ext [idx t]

/-- Both programs, from memories that agree on the arguments, end with this array. -/
theorem algebraic : Cert.algebraic_Kernel3Ideal_Reference3Ideal := by
  intro m g m' g' _ agree
  refine ⟨fun c => MergeRef.merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    (θ_run defs _ _).mono (fun r h c => ⟨(h c).1.trans (final m c), (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  obtain ⟨h0, h1, h2, h3, h4, h5⟩ := agree c
  rw [h0, h1, h2, h3, h4, h5]
  rfl

end Cert.Merge

end
-- ==== Proof.MemKvRef.lean ====
/- The reference of the memory's keys and values, entry by entry. -/
module

public import proofs.«01_k».proof.Proof.Gen.Reference4Ideal.Run
public import proofs.«01_k».proof.Proof.Rows
public import Idealize.ShloMosaic.Lib.Pointwise

@[expose] public section

set_option maxRecDepth 16384

noncomputable section

namespace Cert.MemKvRef

open Cert.Reference4Ideal Cert.Reference4Ideal.Gen Idealize.ShloMosaic Idealize.ShloMosaic.TcCoe Idealize.SL.Sem

/-- The rows divided by their root mean square, as the reference writes it. -/
def normed (x : FVec Ideal S2x256x1024 .f32) (g : FVec Ideal S1024 .f32) : FVec Ideal S2x256x1024 .f32 :=
  mulf (mulf x (broadcastInDim S2x256x1024 ![0, 1, 2] bcast_S2x256x1_S2x256x1024_0_1_2
      (Host.rsqrt (addf (Host.divf (broadcastInDim S2x256x1 ![0, 1] bcast_S2x256_S2x256x1_0_1
          (Host.reduceAdd (mulf x x) (constant S_ .f32 0x00000000#32) reducesTo_S2x256x1024_S2x256_d2 h_S_))
        (broadcastInDim S2x256x1 ![] bcast_S_S2x256x1 (constant S_ .f32 0x44800000#32)))
        (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g))

/-- The memory's projection as the reference writes it: the normalised rows times the weight. -/
def keysValues (x : FVec Ideal S2x256x1024 .f32) (g : FVec Ideal S1024 .f32) (w : FVec Ideal S1024x1024 .f32) : FVec Ideal S512x1024 .f32 :=
  shapeCast _ (Host.dotGeneral (F := Ideal) (φ₁ := .f32) (φ₂ := .f32) dot_S2x256x1024_S1024x1024_S2x256x1024_2_0_01_1_n_n none (normed x g) w)
    shapeCasts_S2x256x1024_S512x1024

/-- The normalised rows at an index. -/
theorem normed_at (x : FVec Ideal S2x256x1024 .f32) (g : FVec Ideal S1024 .f32) (b : Fin 2) (r : Fin 256) (k : Fin 1024) :
    normed x g (ix3 b r k) = Rows.rms (fun j => x (ix3 b r j)) (fun j => g (ix1 j)) k := by
  pointwise [normed, Rows.rms]

/-- The reference's value, at a row of the flattened batch and a column. -/
theorem keysValues_at (x : FVec Ideal S2x256x1024 .f32) (g : FVec Ideal S1024 .f32) (w : FVec Ideal S1024x1024 .f32) (r : Fin 512) (l : Fin 1024) :
    keysValues x g w (ix2 r l) = ∑ k : Fin 1024, Rows.rms (fun j => x (ix3 ⟨r.val / 256, by omega⟩ ⟨r.val % 256, by omega⟩ j)) (fun j => g (ix1 j)) k * w (ix2 k l) := by
  pointwise [keysValues]
  exact Finset.sum_congr rfl fun k _ => congrArg (· * w (ix2 k l)) (normed_at x g _ _ k)

end Cert.MemKvRef

end
-- ==== Proof.MemKv.lean ====
/- The memory's keys and values (result 13): every grid point multiplies its 256 rows, normalised, by the weight. -/
module

public import proofs.«01_k».proof.Proof.Gen.Kernel4Ideal.Value
public import proofs.«01_k».proof.Proof.MemKvRef
public import proofs.«01_k».proof.Defs
public import Idealize.ShloMosaic.Lib.Pipeline.ValueKit
public import Idealize.ShloMosaic.Lib.Claim

@[expose] public section

set_option maxRecDepth 16384

noncomputable section

namespace Cert.MemKv

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks lie: the rows' and the result's at the point, the gain's and the weight's at the origin. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body stores, at a row and a column of its block. -/
theorem pay_at (x : FVec Ideal S256x1024 .f32) (g : FVec Ideal S1x1024 .f32) (w : FVec Ideal S1024x1024 .bf16) (r : Fin 256) (l : Fin 1024) :
    k0_pay1 (F := Ideal) x g w (ix2 r l) = ∑ k : Fin 1024, Rows.rms (fun j => x (ix2 r j)) (fun j => g (ix2 0 j)) k * w (ix2 k l) := by
  pointwise [k0_pay1, Rows.rms]

/-- The rows' block at a point holds the batch's rows from 256 times the point on. -/
theorem rows_at (c : Dev nD) (t : Fin cfg0.N) (r : Fin 256) (j : Fin 1024) (h : t.val * 256 + r.val < 512) :
    iblk m c 0 t (ix2 r j) = m ((c : Thread nD τ).loc main_arg0) (ix3 ⟨(t.val * 256 + r.val) / 256, by omega⟩ ⟨(t.val * 256 + r.val) % 256, by omega⟩ j) := by
  blk_point [iblk, V, idx t]

/-- The gain's block is the gain. -/
theorem gain_at (c : Dev nD) (t : Fin cfg0.N) (j : Fin 1024) :
    iblk m c 1 t (ix2 0 j) = m ((c : Thread nD τ).loc main_arg1) (ix1 j) := by
  blk_point [iblk, V, idx t]

/-- The weight's block is the weight. -/
theorem weight_at (c : Dev nD) (t : Fin cfg0.N) (k l : Fin 1024) :
    iblk m c 2 t (ix2 k l) = m ((c : Thread nD τ).loc main_arg2) (ix2 k l) := by
  blk_point [iblk, V, idx t]

/-- What a point stores at an index of its block is the reference's value at the index the block puts it. -/
theorem point (c : Dev nD) (t : Fin cfg0.N) (r : Fin 256) (l : Fin 1024) (h : t.val * 256 + r.val < 512) :
    k0_pay1 (F := Ideal) (iblk m c 0 t) (iblk m c 1 t) (iblk m c 2 t) (ix2 r l)
    = MemKvRef.keysValues (m ((c : Thread nD τ).loc main_arg0)) (m ((c : Thread nD τ).loc main_arg1)) (m ((c : Thread nD τ).loc main_arg2))
      (ix2 ⟨t.val * 256 + r.val, h⟩ l) := by
  rw [MemKvRef.keysValues_at, pay_at]
  exact Finset.sum_congr rfl fun k _ => congrArg₂ (· * ·)
    (congrArg₂ (Rows.rms · · k) (funext fun j => rows_at m c t r j h) (funext fun j => gain_at m c t j)) (weight_at m c t k l)

/-- The result array after the run. -/
theorem final (c : Dev nD) : (dats m 0 c).arrAt 3 (cfgs 0).N
    = MemKvRef.keysValues (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht : t.val < 2 := lt_of_lt_of_eq t.isLt N_0
  have hr : (y 0).val < 256 := (y 0).isLt
  refine (congrArg _ (eq_ix2 y)).trans ((point m c t (y 0) (y 1) (by omega)).trans (congrArg _ ?_))
  blk_ext [idx t]

/-- Both programs, from memories that agree on the arguments, end with this array. -/
theorem algebraic : Cert.algebraic_Kernel4Ideal_Reference4Ideal := by
  intro m g m' g' _ agree
  refine ⟨fun c => MemKvRef.keysValues (m ((c : Thread nD τ).loc main_arg0)) (m ((c : Thread nD τ).loc main_arg1)) (m ((c : Thread nD τ).loc main_arg2)),
    (θ_run defs _ _).mono (fun r h c => ⟨(h c).1.trans (final m c), (h c).2⟩) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  obtain ⟨h0, h1, h2⟩ := agree c
  rw [h0, h1, h2]
  rfl

end Cert.MemKv

end
-- ==== Proof.InProjRef.lean ====
/- The reference of the input projection, entry by entry. -/
module

public import proofs.«01_k».proof.Proof.Gen.Reference5Ideal.Run
public import proofs.«01_k».proof.Proof.Rows
public import Idealize.ShloMosaic.Lib.Pointwise

@[expose] public section

set_option maxRecDepth 16384

noncomputable section

namespace Cert.InProjRef

open Cert.Reference5Ideal Cert.Reference5Ideal.Gen Idealize.ShloMosaic Idealize.ShloMosaic.TcCoe Idealize.SL.Sem

/-- The normalised rows as the reference writes them. -/
def normed (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (F := Ideal) (mulf x x) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The normalised rows times the weight. -/
def proj (x : FVec Ideal S2x8192x1024 .f32) (g : FVec Ideal S1024 .f32) (w : FVec Ideal S1024x3864 .f32) : FVec Ideal S2x8192x3864 .f32 :=
  Host.dotGeneral (F := Ideal) (φ₁ := .f32) (φ₂ := .f32) dot_S2x8192x1024_S1024x3864_S2x8192x3864_2_0_01_1_n_n none (normed x g) w

/-- The three branches' keys and values. -/
def kv (z : FVec Ideal S2x8192x3864 .f32) : FVec Ideal S2x8192x3x256 .f32 :=
  shapeCast _ (extractStridedSlice S2x8192x768 ![0, 0, 512] z slices_S2x8192x3864_S2x8192x768_0_0_512) shapeCasts_S2x8192x768_S2x8192x3x256

/-- The compressed branch's keys and values. -/
def kv0 (z : FVec Ideal S2x8192x3864 .f32) : FVec Ideal S2x8192x256 .f32 :=
  shapeCast _ (extractStridedSlice S2x8192x1x256 ![0, 0, 0, 0] (kv z) slices_S2x8192x3x256_S2x8192x1x256_0_0_0_0) shapeCasts_S2x8192x1x256_S2x8192x256

/-- The selected branch's keys and values. -/
def kv1 (z : FVec Ideal S2x8192x3864 .f32) : FVec Ideal S2x8192x256 .f32 :=
  shapeCast _ (extractStridedSlice S2x8192x1x256 ![0, 0, 1, 0] (kv z) slices_S2x8192x3x256_S2x8192x1x256_0_0_1_0) shapeCasts_S2x8192x1x256_S2x8192x256

/-- The window branch's keys and values. -/
def kv2 (z : FVec Ideal S2x8192x3864 .f32) : FVec Ideal S2x8192x256 .f32 :=
  shapeCast _ (extractStridedSlice S2x8192x1x256 ![0, 0, 2, 0] (kv z) slices_S2x8192x3x256_S2x8192x1x256_0_0_2_0) shapeCasts_S2x8192x1x256_S2x8192x256

/-- Keys and values with the batch flattened. -/
def rowsOf (a : FVec Ideal S2x8192x256 .f32) : FVec Ideal S16384x256 .f32 := shapeCast _ a shapeCasts_S2x8192x256_S16384x256

/-- Keys and values with the rows last. -/
def rowsLast (a : FVec Ideal S2x8192x256 .f32) : FVec Ideal S2x256x8192 .f32 := transpose S2x256x8192 [0, 2, 1] a transposes_S2x8192x256_S2x256x8192_0_2_1

/-- The state-space input. -/
def u (z : FVec Ideal S2x8192x3864 .f32) : FVec Ideal S16384x512 .f32 :=
  shapeCast _ (extractStridedSlice S2x8192x512 ![0, 0, 1304] z slices_S2x8192x3864_S2x8192x512_0_0_1304) shapeCasts_S2x8192x512_S16384x512

/-- The memory's queries. -/
def mq (z : FVec Ideal S2x8192x3864 .f32) : FVec Ideal S16384x512 .f32 :=
  shapeCast _ (extractStridedSlice S2x8192x512 ![0, 0, 1816] z slices_S2x8192x3864_S2x8192x512_0_0_1816) shapeCasts_S2x8192x512_S16384x512

/-- The branches' gates. -/
def gb (z : FVec Ideal S2x8192x3864 .f32) : FVec Ideal S16384x1536 .f32 :=
  shapeCast _ (Host.divf (broadcastInDim S2x8192x1536 ![] bcast_S_S2x8192x1536 (constant S_ .f32 0x3F800000#32))
    (addf (broadcastInDim S2x8192x1536 ![] bcast_S_S2x8192x1536 (constant S_ .f32 0x3F800000#32))
      (Host.exp (Host.negf (extractStridedSlice S2x8192x1536 ![0, 0, 2328] z slices_S2x8192x3864_S2x8192x1536_0_0_2328))))) shapeCasts_S2x8192x1536_S16384x1536

theorem normed_at (x : FVec Ideal S2x8192x1024 .f32) (g : FVec Ideal S1024 .f32) (p : Fin 2) (q : Fin 8192) (l : Fin 1024) :
    normed x g (ix3 p q l) = Rows.rms (fun j => x (ix3 p q j)) (fun j => g (ix1 j)) l := by
  pointwise [normed, Rows.rms]

theorem proj_at (x : FVec Ideal S2x8192x1024 .f32) (g : FVec Ideal S1024 .f32) (w : FVec Ideal S1024x3864 .f32) (p : Fin 2) (q : Fin 8192) (n : Fin 3864) :
    proj x g w (ix3 p q n) = ∑ k : Fin 1024, Rows.rms (fun j => x (ix3 p q j)) (fun j => g (ix1 j)) k * w (ix2 k n) := by
  have h (h : FVec Ideal S2x8192x1024 .f32) : Host.dotGeneral (F := Ideal) (φ₁ := .f32) (φ₂ := .f32) dot_S2x8192x1024_S1024x3864_S2x8192x3864_2_0_01_1_n_n none h w (ix3 p q n)
      = ∑ k : Fin 1024, h (ix3 p q k) * w (ix2 k n) := by
    pointwise
  exact (h _).trans (Finset.sum_congr rfl fun k _ => congrArg (· * _) (normed_at x g p q k))

theorem kv0_at (z : FVec Ideal S2x8192x3864 .f32) (p : Fin 2) (q : Fin 8192) (l : Fin 256) : kv0 z (ix3 p q l) = z (ix3 p q ⟨512 + l.val, by omega⟩) := by
  pointwise [kv0, kv]

theorem kv1_at (z : FVec Ideal S2x8192x3864 .f32) (p : Fin 2) (q : Fin 8192) (l : Fin 256) : kv1 z (ix3 p q l) = z (ix3 p q ⟨512 + (256 + l.val), by omega⟩) := by
  pointwise [kv1, kv]

theorem kv2_at (z : FVec Ideal S2x8192x3864 .f32) (p : Fin 2) (q : Fin 8192) (l : Fin 256) : kv2 z (ix3 p q l) = z (ix3 p q ⟨512 + (512 + l.val), by omega⟩) := by
  pointwise [kv2, kv]

theorem rowsLast_at (a : FVec Ideal S2x8192x256 .f32) (p : Fin 2) (q : Fin 8192) (l : Fin 256) : rowsLast a (ix3 p l q) = a (ix3 p q l) := by
  pointwise [rowsLast]

theorem rowsOf_at (a : FVec Ideal S2x8192x256 .f32) (p : Fin 2) (q : Fin 8192) (r : Fin 16384) (l : Fin 256)
    (hp : ⟨r.val / 8192, by omega⟩ = p) (hq : ⟨r.val % 8192, by omega⟩ = q) : rowsOf a (ix2 r l) = a (ix3 p q l) := by
  subst hp hq
  pointwise [rowsOf]

theorem u_at (z : FVec Ideal S2x8192x3864 .f32) (p : Fin 2) (q : Fin 8192) (r : Fin 16384) (l : Fin 512)
    (hp : ⟨r.val / 8192, by omega⟩ = p) (hq : ⟨r.val % 8192, by omega⟩ = q) : u z (ix2 r l) = z (ix3 p q ⟨1304 + l.val, by omega⟩) := by
  subst hp hq
  pointwise [u]

theorem mq_at (z : FVec Ideal S2x8192x3864 .f32) (p : Fin 2) (q : Fin 8192) (r : Fin 16384) (l : Fin 512)
    (hp : ⟨r.val / 8192, by omega⟩ = p) (hq : ⟨r.val % 8192, by omega⟩ = q) : mq z (ix2 r l) = z (ix3 p q ⟨1816 + l.val, by omega⟩) := by
  subst hp hq
  pointwise [mq]

theorem gb_at (z : FVec Ideal S2x8192x3864 .f32) (p : Fin 2) (q : Fin 8192) (r : Fin 16384) (l : Fin 1536)
    (hp : ⟨r.val / 8192, by omega⟩ = p) (hq : ⟨r.val % 8192, by omega⟩ = q) :
    gb z (ix2 r l) = Ideal.div 1 (1 + Ideal.exp (- z (ix3 p q ⟨2328 + l.val, by omega⟩))) := by
  subst hp hq
  pointwise [gb]

end Cert.InProjRef

end
-- ==== Proof.InProj.lean ====
/- The input projection: every grid point normalises its rows and multiplies them by the packed weight, whose pieces go to one result each. -/
module

public import proofs.«01_k».proof.Defs
public import proofs.«01_k».proof.Proof.Gen.Kernel5Ideal.Value
public import proofs.«01_k».proof.Proof.InProjRef
public import Idealize.ShloMosaic.Lib.Pipeline.ValueKit
public import Idealize.ShloMosaic.Lib.Claim

@[expose] public section

set_option maxRecDepth 16384

noncomputable section

namespace Cert.InProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks lie. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_11.index t = ![0, t.val, 0]
    ∧ win0_8.index t = ![t.val / 16, 0, t.val % 16] ∧ win0_9.index t = ![t.val / 16, 0, t.val % 16] ∧ win0_10.index t = ![t.val / 16, 0, t.val % 16] :=
  (by decide +kernel : ∀ t : Fin grid0.N, _)

/-! ## The blocks -/

set_option maxHeartbeats 1000000 in
theorem V_rows (c : Dev nD) : V m c main_v0 = (shapeCast S16384x1024 (m ((c : Thread nD τ).loc main_arg0)) shapeCasts_S2x8192x1024_S16384x1024 : Vec Ideal S16384x1024 .f32) := by
  unfold V
  simp only [hostOps0, hostOps0_1, hostOps0_2, List.flatten_cons, List.flatten_nil, List.append_nil, List.cons_append, List.nil_append]
  after_results
  rfl

set_option maxHeartbeats 1000000 in
theorem V_gain (c : Dev nD) : V m c main_v7 = (shapeCast S1x1024 (m ((c : Thread nD τ).loc main_arg1)) shapeCasts_S1024_S1x1024 : Vec Ideal S1x1024 .f32) := by
  unfold V
  simp only [hostOps0, hostOps0_1, hostOps0_2, List.flatten_cons, List.flatten_nil, List.append_nil, List.cons_append, List.nil_append]
  after_results
  rfl

/-- The weight with its 24 columns from column 1280 on put last, and zeros after them. -/
def packed (w : FVec Ideal S1024x3864 .f32) : FVec Ideal S1024x3968 .bf16 :=
  truncf .bf16 (concatenate S1024x3968 1 [⟨S1024x1280, extractStridedSlice S1024x1280 ![0, 0] w slices_S1024x3864_S1024x1280_0_0⟩,
    ⟨S1024x2560, extractStridedSlice S1024x2560 ![0, 1304] w slices_S1024x3864_S1024x2560_0_1304⟩,
    ⟨S1024x128, pad S1024x128 ![0, 0] ![0, 104] ![0, 0] (extractStridedSlice S1024x24 ![0, 1280] w slices_S1024x3864_S1024x24_0_1280)
      (sitofp .f32 (constantI S_ 32 0#32)) pads_S1024x24_S1024x128_000_01040 h_S_⟩] concatenates_S1024x1280_S1024x2560_S1024x128_S1024x3968_d1) bitsLt_bf16_f32

set_option maxHeartbeats 1000000 in
theorem V_weight (c : Dev nD) : V m c main_v6 = (packed (m ((c : Thread nD τ).loc main_arg2)) : Vec Ideal S1024x3968 .bf16) := by
  unfold V
  simp only [hostOps0, hostOps0_1, hostOps0_2, List.flatten_cons, List.flatten_nil, List.append_nil, List.cons_append, List.nil_append]
  after_results
  rfl

/-- Its first 1280 columns are the weight's, the next 2560 are those 24 further on. -/
theorem packed_low (w : FVec Ideal S1024x3864 .f32) (k : Fin 1024) (n : Fin 3968) (h : n.val < 1280) : packed w (ix2 k n) = w (ix2 k ⟨n.val, by omega⟩) := by
  pointwise [packed]
  rw [dif_pos h]

theorem packed_high (w : FVec Ideal S1024x3864 .f32) (k : Fin 1024) (n : Fin 3968) (h : 1280 ≤ n.val) (h' : n.val < 3840) :
    packed w (ix2 k n) = w (ix2 k ⟨n.val + 24, by omega⟩) := by
  pointwise [packed]
  rw [dif_neg (by omega), dif_pos (by omega)]
  exact congrArg (fun e => w (ix2 k e)) (Fin.ext (by show 1304 + (n.val - 1280) = n.val + 24; omega))

/-- The rows of the two sequences, one after the other. -/
theorem joined_at (x : FVec Ideal S2x8192x1024 .f32) (r : Fin 16384) (j : Fin 1024) :
    (shapeCast S16384x1024 x shapeCasts_S2x8192x1024_S16384x1024 : FVec Ideal S16384x1024 .f32) (ix2 r j) = x (ix3 ⟨r.val / 8192, by omega⟩ ⟨r.val % 8192, by omega⟩ j) := by
  pointwise

theorem rows_at (c : Dev nD) (t : Fin cfg0.N) (r : Fin 512) (j : Fin 1024) (h : t.val * 512 + r.val < 16384) :
    iblk m c 0 t (ix2 r j) = m ((c : Thread nD τ).loc main_arg0) (ix3 ⟨(t.val * 512 + r.val) / 8192, by omega⟩ ⟨(t.val * 512 + r.val) % 8192, by omega⟩ j) := by
  have e : iblk m c 0 t (ix2 r j) = V m c main_v0 (ix2 ⟨t.val * 512 + r.val, h⟩ j) := by
    rw [iblk]
    blk_simp
    refine congrArg _ ?_
    blk_ext [idx t]
  exact e.trans ((congrFun (V_rows m c) _).trans (joined_at _ ⟨t.val * 512 + r.val, h⟩ j))

theorem gain_at (c : Dev nD) (t : Fin cfg0.N) (j : Fin 1024) :
    iblk m c 1 t (ix2 0 j) = m ((c : Thread nD τ).loc main_arg1) (ix1 j) := by
  have e : iblk m c 1 t (ix2 0 j) = V m c main_v7 (ix2 0 j) := by
    rw [iblk]
    blk_simp
    refine congrArg _ ?_
    blk_ext [idx t]
  rw [e, V_gain]
  pointwise

theorem weight_at (c : Dev nD) (t : Fin cfg0.N) (k : Fin 1024) (n : Fin 3968) :
    iblk m c 2 t (ix2 k n) = packed (m ((c : Thread nD τ).loc main_arg2)) (ix2 k n) := by
  have e : iblk m c 2 t (ix2 k n) = V m c main_v6 (ix2 k n) := by
    rw [iblk]
    blk_simp
    refine congrArg _ ?_
    blk_ext [idx t]
  rw [e, V_weight]

/-! ## The products -/

theorem kv0_pay (x : FVec Ideal S512x1024 .f32) (g : FVec Ideal S1x1024 .f32) (w : FVec Ideal S1024x256 .bf16) (r : Fin 512) (l : Fin 256) :
    k0_pay4 (F := Ideal) x g w (ix2 r l) = ∑ k : Fin 1024, Rows.rms (fun j => x (ix2 r j)) (fun j => g (ix2 0 j)) k * w (ix2 k l) := by
  pointwise [k0_pay4, k0_pay2, Rows.rms]

theorem u_pay (x : FVec Ideal S512x1024 .f32) (g : FVec Ideal S1x1024 .f32) (w : FVec Ideal S1024x512 .bf16) (r : Fin 512) (l : Fin 512) :
    k0_pay7 (F := Ideal) x g w (ix2 r l) = ∑ k : Fin 1024, Rows.rms (fun j => x (ix2 r j)) (fun j => g (ix2 0 j)) k * w (ix2 k l) := by
  pointwise [k0_pay7, k0_pay2, Rows.rms]

theorem kv1_pay (x : FVec Ideal S512x1024 .f32) (g : FVec Ideal S1x1024 .f32) (w : FVec Ideal S1024x256 .bf16) (r : Fin 512) (l : Fin 256) :
    k0_pay5 (F := Ideal) x g w (ix2 r l) = ∑ k : Fin 1024, Rows.rms (fun j => x (ix2 r j)) (fun j => g (ix2 0 j)) k * w (ix2 k l) := by
  pointwise [k0_pay5, k0_pay2, Rows.rms]

theorem kv2_pay (x : FVec Ideal S512x1024 .f32) (g : FVec Ideal S1x1024 .f32) (w : FVec Ideal S1024x256 .bf16) (r : Fin 512) (l : Fin 256) :
    k0_pay6 (F := Ideal) x g w (ix2 r l) = ∑ k : Fin 1024, Rows.rms (fun j => x (ix2 r j)) (fun j => g (ix2 0 j)) k * w (ix2 k l) := by
  pointwise [k0_pay6, k0_pay2, Rows.rms]

theorem mq_pay (x : FVec Ideal S512x1024 .f32) (g : FVec Ideal S1x1024 .f32) (w : FVec Ideal S1024x512 .bf16) (r : Fin 512) (l : Fin 512) :
    k0_pay9 (F := Ideal) (k0_pay2 x g) (k0_pay8 w) (constant S512x512 .f32 0x00000000#32) (ix2 r l)
      = ∑ k : Fin 1024, Rows.rms (fun j => x (ix2 r j)) (fun j => g (ix2 0 j)) k * w (ix2 k l) := by
  pointwise [k0_pay9, k0_pay8, k0_pay2, Rows.rms]

theorem gb_pay (x : FVec Ideal S512x1024 .f32) (g : FVec Ideal S1x1024 .f32) (w : FVec Ideal S1024x1536 .bf16) (r : Fin 512) (l : Fin 1536) :
    k0_pay10 (F := Ideal) (k0_pay2 x g) w (ix2 r l) = Ideal.logistic (∑ k : Fin 1024, Rows.rms (fun j => x (ix2 r j)) (fun j => g (ix2 0 j)) k * w (ix2 k l)) := by
  pointwise [k0_pay10, k0_pay2, Rows.rms]

/-- The three products stored with the rows last. -/
theorem last0 (a : FVec Ideal S512x256 .f32) (l : Fin 256) (r : Fin 512) : k0_pay12 (F := Ideal) a (ix3 0 l r) = a (ix2 r l) := by
  pointwise [k0_pay12]

theorem last1 (a : FVec Ideal S512x256 .f32) (l : Fin 256) (r : Fin 512) : k0_pay13 (F := Ideal) a (ix3 0 l r) = a (ix2 r l) := by
  pointwise [k0_pay13]

theorem last2 (a : FVec Ideal S512x256 .f32) (l : Fin 256) (r : Fin 512) : k0_pay14 (F := Ideal) a (ix3 0 l r) = a (ix2 r l) := by
  pointwise [k0_pay14]

/-! ## The points -/

theorem ld_x (x : Vec Ideal S512x1024 .f32) (r : Fin 512) (j : Fin 1024) : View.ld x r0_0 (ix2 r j) = x (ix2 r j) := by
  pointwise

theorem ld_g (x : Vec Ideal S1x1024 .f32) (j : Fin 1024) : View.ld x r0_1 (ix2 0 j) = x (ix2 0 j) := by
  pointwise

/-- The pieces of the packed weight. -/
theorem ld_kv0 (w : Vec Ideal S1024x3968 .bf16) (k : Fin 1024) (l : Fin 256) : View.ld w r0_3 (ix2 k l) = w (ix2 k ⟨512 + l.val, by omega⟩) := by
  pointwise

theorem ld_kv1 (w : Vec Ideal S1024x3968 .bf16) (k : Fin 1024) (l : Fin 256) : View.ld w r0_4 (ix2 k l) = w (ix2 k ⟨768 + l.val, by omega⟩) := by
  pointwise

theorem ld_kv2 (w : Vec Ideal S1024x3968 .bf16) (k : Fin 1024) (l : Fin 256) : View.ld w r0_5 (ix2 k l) = w (ix2 k ⟨1024 + l.val, by omega⟩) := by
  pointwise

theorem ld_u (w : Vec Ideal S1024x3968 .bf16) (k : Fin 1024) (l : Fin 512) : View.ld w r0_6 (ix2 k l) = w (ix2 k ⟨1280 + l.val, by omega⟩) := by
  pointwise

theorem ld_mq (w : Vec Ideal S1024x3968 .bf16) (k : Fin 1024) (l : Fin 512) : View.ld w r0_7 (ix2 k l) = w (ix2 k ⟨1792 + l.val, by omega⟩) := by
  pointwise

theorem ld_gb (w : Vec Ideal S1024x3968 .bf16) (k : Fin 1024) (l : Fin 1536) : View.ld w r0_8 (ix2 k l) = w (ix2 k ⟨2304 + l.val, by omega⟩) := by
  pointwise

/-- The reference's product of the launch's arguments. -/
def z (c : Dev nD) :=
  InProjRef.proj (m ((c : Thread nD τ).loc main_arg0)) (m ((c : Thread nD τ).loc main_arg1)) (m ((c : Thread nD τ).loc main_arg2))

/-- The sum a point forms for a row of its block, with a column of the weight, is the reference's product there. -/
theorem prod (c : Dev nD) (t : Fin cfg0.N) (r : Fin 512) (h : t.val * 512 + r.val < 16384) (n : Fin 3864) (a : Fin 1024 → EReal)
    (ha : ∀ k, a k = m ((c : Thread nD τ).loc main_arg2) (ix2 k n)) :
    (∑ k : Fin 1024, Rows.rms (fun j => iblk m c 0 t (ix2 r j)) (fun j => iblk m c 1 t (ix2 0 j)) k * a k)
      = z m c (ix3 ⟨(t.val * 512 + r.val) / 8192, by omega⟩ ⟨(t.val * 512 + r.val) % 8192, by omega⟩ n) := by
  rw [z, InProjRef.proj_at]
  exact Finset.sum_congr rfl fun k _ => congrArg₂ (· * ·)
    (congrArg₂ (Rows.rms · · k) (funext fun j => rows_at m c t r j h) (funext fun j => gain_at m c t j)) (ha k)

/-- The same sum over the loaded rows. -/
theorem prod_ld (c : Dev nD) (t : Fin cfg0.N) (r : Fin 512) (h : t.val * 512 + r.val < 16384) (n : Fin 3864) (a : Fin 1024 → EReal)
    (ha : ∀ k, a k = m ((c : Thread nD τ).loc main_arg2) (ix2 k n)) :
    (∑ k : Fin 1024, Rows.rms (fun j => View.ld (iblk m c 0 t) r0_0 (ix2 r j)) (fun j => View.ld (iblk m c 1 t) r0_1 (ix2 0 j)) k * a k)
      = z m c (ix3 ⟨(t.val * 512 + r.val) / 8192, by omega⟩ ⟨(t.val * 512 + r.val) % 8192, by omega⟩ n) :=
  (Finset.sum_congr rfl fun k _ => congrArg (· * a k)
    (congrArg₂ (Rows.rms · · k) (funext fun j => ld_x _ r j) (funext fun j => ld_g _ j))).trans (prod m c t r h n a ha)

/-- A column of the weight's block, below the gates' columns and past them. -/
theorem low (c : Dev nD) (t : Fin cfg0.N) (k : Fin 1024) (n : Fin 3968) (o : Fin 3864) (h : n.val < 1280) (ho : n.val = o.val) :
    iblk m c 2 t (ix2 k n) = m ((c : Thread nD τ).loc main_arg2) (ix2 k o) :=
  (weight_at m c t k n).trans ((packed_low _ k n h).trans (congrArg (fun e => m ((c : Thread nD τ).loc main_arg2) (ix2 k e)) (Fin.ext ho)))

theorem high (c : Dev nD) (t : Fin cfg0.N) (k : Fin 1024) (n : Fin 3968) (o : Fin 3864) (h : 1280 ≤ n.val) (h' : n.val < 3840) (ho : n.val + 24 = o.val) :
    iblk m c 2 t (ix2 k n) = m ((c : Thread nD τ).loc main_arg2) (ix2 k o) :=
  (weight_at m c t k n).trans ((packed_high _ k n h h').trans (congrArg (fun e => m ((c : Thread nD τ).loc main_arg2) (ix2 k e)) (Fin.ext ho)))

/-- The compressed branch's keys and values. -/
theorem kv0_point (c : Dev nD) (t : Fin cfg0.N) (r : Fin 512) (l : Fin 256) (h : t.val * 512 + r.val < 16384) :
    k0_pay4 (F := Ideal) (View.ld (iblk m c 0 t) r0_0) (View.ld (iblk m c 1 t) r0_1) (View.ld (iblk m c 2 t) r0_3) (ix2 r l)
      = InProjRef.kv0 (z m c) (ix3 ⟨(t.val * 512 + r.val) / 8192, by omega⟩ ⟨(t.val * 512 + r.val) % 8192, by omega⟩ l) := by
  rw [InProjRef.kv0_at, kv0_pay]
  exact prod_ld m c t r h _ _ fun k => (ld_kv0 _ k l).trans (low m c t k _ _ (by show 512 + l.val < 1280; omega) rfl)

theorem kv1_point (c : Dev nD) (t : Fin cfg0.N) (r : Fin 512) (l : Fin 256) (h : t.val * 512 + r.val < 16384) :
    k0_pay5 (F := Ideal) (View.ld (iblk m c 0 t) r0_0) (View.ld (iblk m c 1 t) r0_1) (View.ld (iblk m c 2 t) r0_4) (ix2 r l)
      = InProjRef.kv1 (z m c) (ix3 ⟨(t.val * 512 + r.val) / 8192, by omega⟩ ⟨(t.val * 512 + r.val) % 8192, by omega⟩ l) := by
  rw [InProjRef.kv1_at, kv1_pay]
  exact prod_ld m c t r h _ _ fun k => (ld_kv1 _ k l).trans (low m c t k _ _ (by show 768 + l.val < 1280; omega) (by show 768 + l.val = 512 + (256 + l.val); omega))

theorem kv2_point (c : Dev nD) (t : Fin cfg0.N) (r : Fin 512) (l : Fin 256) (h : t.val * 512 + r.val < 16384) :
    k0_pay6 (F := Ideal) (View.ld (iblk m c 0 t) r0_0) (View.ld (iblk m c 1 t) r0_1) (View.ld (iblk m c 2 t) r0_5) (ix2 r l)
      = InProjRef.kv2 (z m c) (ix3 ⟨(t.val * 512 + r.val) / 8192, by omega⟩ ⟨(t.val * 512 + r.val) % 8192, by omega⟩ l) := by
  rw [InProjRef.kv2_at, kv2_pay]
  exact prod_ld m c t r h _ _ fun k => (ld_kv2 _ k l).trans (low m c t k _ _ (by show 1024 + l.val < 1280; omega) (by show 1024 + l.val = 512 + (512 + l.val); omega))

/-- The recurrence's input. -/
theorem u_point (c : Dev nD) (t : Fin cfg0.N) (r l : Fin 512) (h : t.val * 512 + r.val < 16384) :
    k0_pay7 (F := Ideal) (iblk m c 0 t) (iblk m c 1 t) (View.ld (iblk m c 2 t) r0_6) (ix2 r l)
      = InProjRef.u (z m c) (ix2 ⟨t.val * 512 + r.val, h⟩ l) := by
  rw [InProjRef.u_at _ _ _ _ _ rfl rfl, u_pay]
  exact prod m c t r h _ _ fun k => (ld_u _ k l).trans (high m c t k _ _ (by show 1280 ≤ 1280 + l.val; omega) (by show 1280 + l.val < 3840; omega) (by show 1280 + l.val + 24 = 1304 + l.val; omega))

/-- The memory's queries. -/
theorem mq_point (c : Dev nD) (t : Fin cfg0.N) (r l : Fin 512) (h : t.val * 512 + r.val < 16384) :
    k0_pay9 (F := Ideal) (k0_pay2 (View.ld (iblk m c 0 t) r0_0) (View.ld (iblk m c 1 t) r0_1)) (k0_pay8 (View.ld (iblk m c 2 t) r0_7)) (constant S512x512 .f32 0x00000000#32) (ix2 r l)
      = InProjRef.mq (z m c) (ix2 ⟨t.val * 512 + r.val, h⟩ l) := by
  rw [InProjRef.mq_at _ _ _ _ _ rfl rfl, mq_pay]
  exact prod_ld m c t r h _ _ fun k => (ld_mq _ k l).trans (high m c t k _ _ (by show 1280 ≤ 1792 + l.val; omega) (by show 1792 + l.val < 3840; omega) (by show 1792 + l.val + 24 = 1816 + l.val; omega))

/-- The branches' gates. -/
theorem gb_point (c : Dev nD) (t : Fin cfg0.N) (r : Fin 512) (l : Fin 1536) (h : t.val * 512 + r.val < 16384) :
    k0_pay10 (F := Ideal) (k0_pay2 (View.ld (iblk m c 0 t) r0_0) (View.ld (iblk m c 1 t) r0_1)) (View.ld (iblk m c 2 t) r0_8) (ix2 r l)
      = InProjRef.gb (z m c) (ix2 ⟨t.val * 512 + r.val, h⟩ l) := by
  rw [InProjRef.gb_at _ _ _ _ _ rfl rfl, gb_pay]
  exact congrArg Ideal.logistic (prod_ld m c t r h _ _ fun k => (ld_gb _ k l).trans (high m c t k _ _ (by show 1280 ≤ 2304 + l.val; omega) (by show 2304 + l.val < 3840; omega) (by show 2304 + l.val + 24 = 2328 + l.val; omega)))

/-! ## The arrays after the run -/

theorem final3 (c : Dev nD) : (dats m 0 c).arrAt 3 (cfgs 0).N = InProjRef.rowsOf (InProjRef.kv0 (z m c)) := by
  refine (dats m 0 c).arrAt_eq_of_covers 3 _ (by decide +kernel) fun t _ y => ?_
  blk_simp
  rw [after0_3]; frame_out
  have ht : t.val < 32 := lt_of_lt_of_eq t.isLt N_0
  have hr : (y 0).val < 512 := (y 0).isLt
  refine (congrArg _ (eq_ix2 y)).trans ((kv0_point m c t (y 0) (y 1) (by omega)).trans ((InProjRef.rowsOf_at _ _ _ ⟨t.val * 512 + (y 0).val, by omega⟩ (y 1) rfl rfl).symm.trans (congrArg _ ?_)))
  blk_ext [idx t]

theorem final4 (c : Dev nD) : (dats m 0 c).arrAt 4 (cfgs 0).N = InProjRef.u (z m c) := by
  refine (dats m 0 c).arrAt_eq_of_covers 4 _ (by decide +kernel) fun t _ y => ?_
  blk_simp
  rw [after0_4]; frame_out
  have ht : t.val < 32 := lt_of_lt_of_eq t.isLt N_0
  have hr : (y 0).val < 512 := (y 0).isLt
  refine (congrArg _ (eq_ix2 y)).trans ((u_point m c t (y 0) (y 1) (by omega)).trans (congrArg _ ?_))
  blk_ext [idx t]

theorem final5 (c : Dev nD) : (dats m 0 c).arrAt 5 (cfgs 0).N = InProjRef.mq (z m c) := by
  refine (dats m 0 c).arrAt_eq_of_covers 5 _ (by decide +kernel) fun t _ y => ?_
  blk_simp
  rw [after0_5]; frame_out
  have ht : t.val < 32 := lt_of_lt_of_eq t.isLt N_0
  have hr : (y 0).val < 512 := (y 0).isLt
  refine (congrArg _ (eq_ix2 y)).trans ((mq_point m c t (y 0) (y 1) (by omega)).trans (congrArg _ ?_))
  blk_ext [idx t]

theorem final6 (c : Dev nD) : (dats m 0 c).arrAt 6 (cfgs 0).N = InProjRef.gb (z m c) := by
  refine (dats m 0 c).arrAt_eq_of_covers 6 _ (by decide +kernel) fun t _ y => ?_
  blk_simp
  rw [after0_6]; frame_out
  have ht : t.val < 32 := lt_of_lt_of_eq t.isLt N_0
  have hr : (y 0).val < 512 := (y 0).isLt
  refine (congrArg _ (eq_ix2 y)).trans ((gb_point m c t (y 0) (y 1) (by omega)).trans (congrArg _ ?_))
  blk_ext [idx t]

/-- Where a point's block lies in the arrays that keep the rows last. -/
theorem last_index (t : Nat) (r : Nat) (ht : t < 32) (hr : r < 512) : (t * 512 + r) / 8192 = t / 16 ∧ (t * 512 + r) % 8192 = t % 16 * 512 + r := by
  omega

theorem final8 (c : Dev nD) : (dats m 0 c).arrAt 8 (cfgs 0).N = InProjRef.rowsLast (InProjRef.kv0 (z m c)) := by
  refine (dats m 0 c).arrAt_eq_of_covers 8 _ (by decide +kernel) fun t _ y => ?_
  blk_simp
  rw [after0_8]; frame_out
  have ht : t.val < 32 := lt_of_lt_of_eq t.isLt N_0
  have hr : (y 2).val < 512 := (y 2).isLt
  have hy : y = ix3 0 (y 1) (y 2) := (eq_ix3 y).trans (congrArg (ix3 · (y 1) (y 2)) (Subsingleton.elim (α := Fin 1) _ _))
  refine (congrArg _ hy).trans ((last0 _ (y 1) (y 2)).trans ((kv0_point m c t (y 2) (y 1) (by omega)).trans ((InProjRef.rowsLast_at _ _ _ _).symm.trans (congrArg _ ?_))))
  have hi := last_index t.val (y 2).val ht hr
  blk_ext [idx t, hi.1, hi.2]

theorem final9 (c : Dev nD) : (dats m 0 c).arrAt 9 (cfgs 0).N = InProjRef.rowsLast (InProjRef.kv1 (z m c)) := by
  refine (dats m 0 c).arrAt_eq_of_covers 9 _ (by decide +kernel) fun t _ y => ?_
  blk_simp
  rw [after0_9]; frame_out
  have ht : t.val < 32 := lt_of_lt_of_eq t.isLt N_0
  have hr : (y 2).val < 512 := (y 2).isLt
  have hy : y = ix3 0 (y 1) (y 2) := (eq_ix3 y).trans (congrArg (ix3 · (y 1) (y 2)) (Subsingleton.elim (α := Fin 1) _ _))
  refine (congrArg _ hy).trans ((last1 _ (y 1) (y 2)).trans ((kv1_point m c t (y 2) (y 1) (by omega)).trans ((InProjRef.rowsLast_at _ _ _ _).symm.trans (congrArg _ ?_))))
  have hi := last_index t.val (y 2).val ht hr
  blk_ext [idx t, hi.1, hi.2]

theorem final10 (c : Dev nD) : (dats m 0 c).arrAt 10 (cfgs 0).N = InProjRef.rowsLast (InProjRef.kv2 (z m c)) := by
  refine (dats m 0 c).arrAt_eq_of_covers 10 _ (by decide +kernel) fun t _ y => ?_
  blk_simp
  rw [after0_10]; frame_out
  have ht : t.val < 32 := lt_of_lt_of_eq t.isLt N_0
  have hr : (y 2).val < 512 := (y 2).isLt
  have hy : y = ix3 0 (y 1) (y 2) := (eq_ix3 y).trans (congrArg (ix3 · (y 1) (y 2)) (Subsingleton.elim (α := Fin 1) _ _))
  refine (congrArg _ hy).trans ((last2 _ (y 1) (y 2)).trans ((kv2_point m c t (y 2) (y 1) (by omega)).trans ((InProjRef.rowsLast_at _ _ _ _).symm.trans (congrArg _ ?_))))
  have hi := last_index t.val (y 2).val ht hr
  blk_ext [idx t, hi.1, hi.2]

end Cert.InProj

end
-- ==== Proof.QueriesRef.lean ====
/- The reference of the sparse branches' queries and gates, entry by entry. -/
module

public import proofs.«01_k».proof.Proof.InProjRef

@[expose] public section

set_option maxRecDepth 16384

noncomputable section

namespace Cert.QueriesRef

open Cert.Reference5Ideal Cert.Reference5Ideal.Gen Idealize.ShloMosaic Idealize.ShloMosaic.TcCoe Idealize.SL.Sem

/-- The sparse branches' gates, on 128 columns. -/
def gn (z : FVec Ideal S2x8192x3864 .f32) : FVec Ideal S16384x128 .f32 :=
  shapeCast _ (Host.divf (broadcastInDim S2x8192x128 ![] bcast_S_S2x8192x128 (constant S_ .f32 0x3F800000#32))
    (addf (broadcastInDim S2x8192x128 ![] bcast_S_S2x8192x128 (constant S_ .f32 0x3F800000#32))
      (Host.exp (Host.negf (pad S2x8192x128 ![0, 0, 0] ![0, 0, 104] ![0, 0, 0] (extractStridedSlice S2x8192x24 ![0, 0, 1280] z slices_S2x8192x3864_S2x8192x24_0_0_1280)
        (sitofp .f32 (constantI S_ 32 0#32)) pads_S2x8192x24_S2x8192x128_000_000_01040 h_S_))))) shapeCasts_S2x8192x128_S16384x128

/-- The queries, heads first. -/
def q (z : FVec Ideal S2x8192x3864 .f32) : FVec Ideal S8x16384x64 .f32 :=
  mulf (transpose S8x16384x64 [1, 0, 2] (shapeCast _ (extractStridedSlice S2x8192x512 ![0, 0, 0] z slices_S2x8192x3864_S2x8192x512_0_0_0) shapeCasts_S2x8192x512_S16384x8x64) transposes_S16384x8x64_S8x16384x64_1_0_2)
    (broadcastInDim S8x16384x64 ![] bcast_S_S8x16384x64 (constant S_ .f32 0x3E000000#32))

/-- The first position of every row's group of 64. -/
def first : FVec Ideal S1x16384x1 .f32 :=
  sitofp .f32 (shapeCast _ (addi (broadcastInDim S2x128x64 ![0, 1, 2] bcast_S1x128x1_S2x128x64_0_1_2 (muli (broadcastInDim S1x128x1 ![] bcast_S_S1x128x1 (constantI S_ 32 64#32)) (broadcastInDim S1x128x1 ![1] bcast_S128_S1x128x1_1 (iotaInDim S128 32 0))))
    (broadcastInDim S2x128x64 ![0, 1, 2] bcast_S2x1x64_S2x128x64_0_1_2 (broadcastInDim S2x1x64 ![] bcast_S_S2x1x64 (constantI S_ 32 0#32)))) shapeCasts_S2x128x64_S1x16384x1)

/-- Every row's place in its group. -/
def row : FVec Ideal S1x16384x1 .f32 :=
  sitofp .f32 (shapeCast _ (addi (broadcastInDim S2x128x64 ![0, 1, 2] bcast_S1x1x64_S2x128x64_0_1_2 (broadcastInDim S1x1x64 ![2] bcast_S64_S1x1x64_2 (iotaInDim S64 32 0)))
    (broadcastInDim S2x128x64 ![0, 1, 2] bcast_S2x128x1_S2x128x64_0_1_2 (broadcastInDim S2x128x1 ![] bcast_S_S2x128x1 (constantI S_ 32 0#32)))) shapeCasts_S2x128x64_S1x16384x1)

/-- The heads' slopes, and their negatives. -/
def slope : FVec Ideal S8 .f32 := fun i => FloatOps.ofBits .f32 (lit0 (S8.rowMajor i))

def minus : FVec Ideal S8 .f32 := fun i => FloatOps.ofBits .f32 (lit1 (S8.rowMajor i))

/-- A slope's negative times the rows' numbers. -/
def scaled (s : FVec Ideal S8 .f32) (n : FVec Ideal S1x16384x1 .f32) : FVec Ideal S8x16384x64 .f32 :=
  broadcastInDim S8x16384x64 ![0, 1, 2] bcast_S8x16384x1_S8x16384x64_0_1_2 (mulf (broadcastInDim S8x16384x1 ![0, 1, 2] bcast_S8x1x1_S8x16384x1_0_1_2 (broadcastInDim S8x1x1 ![0] bcast_S8_S8x1x1_0 s))
    (broadcastInDim S8x16384x1 ![0, 1, 2] bcast_S1x16384x1_S8x16384x1_0_1_2 n))

/-- The columns of the position's bias. -/
def bias (s ns : FVec Ideal S8 .f32) (f n : FVec Ideal S1x16384x1 .f32) : FVec Ideal S8x16384x64 .f32 :=
  select (broadcastInDim S8x16384x64 ![2] bcast_S64_S8x16384x64_2 (cmpi .slt (iotaInDim S64 32 0) (broadcastInDim S64 ![] bcast_S_S64 (constantI S_ 32 2#32)))) (broadcastInDim S8x16384x64 ![0, 1, 2] bcast_S8x1x1_S8x16384x64_0_1_2 (broadcastInDim S8x1x1 ![0] bcast_S8_S8x1x1_0 s))
    (select (broadcastInDim S8x16384x64 ![2] bcast_S64_S8x16384x64_2 (cmpi .eq (iotaInDim S64 32 0) (broadcastInDim S64 ![] bcast_S_S64 (constantI S_ 32 2#32)))) (scaled ns f)
      (select (broadcastInDim S8x16384x64 ![2] bcast_S64_S8x16384x64_2 (cmpi .eq (iotaInDim S64 32 0) (broadcastInDim S64 ![] bcast_S_S64 (constantI S_ 32 3#32)))) (scaled ns n)
        (broadcastInDim S8x16384x64 ![] bcast_S_S8x16384x64 (id (constant S_ .f32 0x00000000#32)))))

/-- The queries with those columns after them. -/
def qp (z : FVec Ideal S2x8192x3864 .f32) : FVec Ideal S8x16384x128 .bf16 :=
  truncf .bf16 (concatenate S8x16384x128 2 [⟨S8x16384x64, q z⟩, ⟨S8x16384x64, bias slope minus first row⟩] concatenates_S8x16384x64_S8x16384x64_S8x16384x128_d2) bitsLt_bf16_f32

/-- A column of the bias, by its number. -/
def lane (s ns f n : EReal) (l : BitVec 32) : EReal :=
  Scalar.select (IntOp.cmpi .slt l 2#32) s (Scalar.select (IntOp.cmpi .eq l 2#32) (ns * f) (Scalar.select (IntOp.cmpi .eq l 3#32) (ns * n) 0))

/-- A whole number as a value. -/
theorem zero_at : (FloatOps.sitofp (F := Ideal) .f32 0#32 : EReal) = 0 := by
  show (((0#32 : BitVec 32).toInt : ℝ) : EReal) = 0
  simp

theorem gn_low (z : FVec Ideal S2x8192x3864 .f32) (p : Fin 2) (q : Fin 8192) (r : Fin 16384) (l : Fin 128) (h : l.val < 24)
    (hp : ⟨r.val / 8192, by omega⟩ = p) (hq : ⟨r.val % 8192, by omega⟩ = q) :
    gn z (ix2 r l) = Ideal.div 1 (1 + Ideal.exp (- z (ix3 p q ⟨1280 + l.val, by omega⟩))) := by
  subst hp hq
  pointwise [gn]
  split
  · rfl
  · omega

theorem gn_high (z : FVec Ideal S2x8192x3864 .f32) (r : Fin 16384) (l : Fin 128) (h : 24 ≤ l.val) :
    gn z (ix2 r l) = Ideal.div 1 (1 + Ideal.exp (- (0 : EReal))) := by
  pointwise [gn]
  refine congrArg (fun e => Ideal.div 1 (1 + Ideal.exp (-e))) ?_
  split
  · omega
  · exact zero_at

theorem q_at (z : FVec Ideal S2x8192x3864 .f32) (p : Fin 2) (k : Fin 8192) (h : Fin 8) (r : Fin 16384) (l : Fin 64)
    (hp : ⟨r.val / 8192, by omega⟩ = p) (hq : ⟨r.val % 8192, by omega⟩ = k) :
    q z (ix3 h r l) = z (ix3 p k ⟨64 * h.val + l.val, by omega⟩) * FloatOps.ofBits .f32 0x3E000000#32 := by
  subst hp hq
  pointwise [q]
  exact congrArg (fun e => z (ix3 _ _ e) * _) (Fin.ext (congrArg (· + l.val) (Nat.mul_comm _ _)))

theorem first_word : ∀ n : Fin 128, IntOp.addi (IntOp.muli (64#32) (BitVec.ofNat 32 n.val)) 0#32 = BitVec.ofNat 32 (n.val * 64) := by
  decide +kernel

theorem first_at (r : Fin 16384) : first (ix3 0 r 0) = FloatOps.sitofp .f32 (BitVec.ofNat 32 (r.val % 8192 / 64 * 64)) := by
  pointwise [first]
  refine congrArg _ ((first_word ⟨r.val / 64 % 128, by omega⟩).trans (congrArg (BitVec.ofNat 32) ?_))
  show r.val / 64 % 128 * 64 = r.val % 8192 / 64 * 64
  omega

theorem row_at (r : Fin 16384) : row (ix3 0 r 0) = FloatOps.sitofp .f32 (BitVec.ofNat 32 (r.val % 8192 % 64)) := by
  pointwise [row]
  refine congrArg _ ((BitVec.add_zero _).trans (congrArg (BitVec.ofNat 32) ?_))
  omega

theorem bias_at (s ns : FVec Ideal S8 .f32) (f n : FVec Ideal S1x16384x1 .f32) (h : Fin 8) (r : Fin 16384) (l : Fin 64) :
    bias s ns f n (ix3 h r l) = lane (s (ix1 h)) (ns (ix1 h)) (f (ix3 0 r 0)) (n (ix3 0 r 0)) (BitVec.ofNat 32 l.val) := by
  have e : (id (constant (F := Ideal) S_ .f32 0x00000000#32) ix0 : EReal) = 0 := Ideal.ofBits_zero_f32
  pointwise [bias, scaled, lane]
  rw [e]

theorem qp_low (z : FVec Ideal S2x8192x3864 .f32) (h : Fin 8) (r : Fin 16384) (l : Fin 128) (hl : l.val < 64) :
    qp z (ix3 h r l) = q z (ix3 h r ⟨l.val, hl⟩) := by
  pointwise [qp]
  rw [dif_pos hl]

theorem qp_high (z : FVec Ideal S2x8192x3864 .f32) (h : Fin 8) (r : Fin 16384) (l : Fin 128) (hl : 64 ≤ l.val) :
    qp z (ix3 h r l) = bias slope minus first row (ix3 h r ⟨l.val - 64, by omega⟩) := by
  pointwise [qp]
  rw [dif_neg (by omega)]

end Cert.QueriesRef

end
-- ==== Proof.Queries.lean ====
/- The input projection's sparse queries, with their columns of the position's bias, and the sparse gates. -/
module

public import proofs.«01_k».proof.Proof.InProj
public import proofs.«01_k».proof.Proof.QueriesRef

@[expose] public section

set_option maxRecDepth 16384

noncomputable section

namespace Cert.Queries

open Cert.Kernel5Ideal Cert.Kernel5Ideal.Gen Cert.InProj Idealize.ShloMosaic Idealize.ShloMosaic.TcCoe Idealize.SL.Sem
open Idealize.ShloMosaic.Pipeline (Dat)

variable (m : (ℓ : Loc nD τ sig) → Buf (Elt Ideal) ℓ)

/-! ## The gates -/

/-- The packed weight's last columns: the gates', then zeros. -/
theorem packed_gates (w : FVec Ideal S1024x3864 .f32) (k : Fin 1024) (n : Fin 3968) (o : Fin 3864) (h : 3840 ≤ n.val) (h' : n.val < 3864) (ho : n.val = o.val + 2560) :
    packed w (ix2 k n) = w (ix2 k o) := by
  pointwise [packed]
  rw [dif_neg (by omega), dif_neg (by omega)]
  split
  · exact congrArg (fun e => w (ix2 k e)) (Fin.ext (by show 1280 + (n.val - 3840) = o.val; omega))
  · omega

theorem packed_zero (w : FVec Ideal S1024x3864 .f32) (k : Fin 1024) (n : Fin 3968) (h : 3864 ≤ n.val) : packed w (ix2 k n) = (0 : EReal) := by
  pointwise [packed]
  rw [dif_neg (by omega), dif_neg (by omega)]
  split
  · omega
  · exact QueriesRef.zero_at

theorem gn_pay (x : FVec Ideal S512x1024 .f32) (g : FVec Ideal S1x1024 .f32) (w : FVec Ideal S1024x128 .bf16) (r : Fin 512) (l : Fin 128) :
    k0_pay11 (F := Ideal) (k0_pay2 x g) w (ix2 r l) = Ideal.logistic (∑ k : Fin 1024, Rows.rms (fun j => x (ix2 r j)) (fun j => g (ix2 0 j)) k * w (ix2 k l)) := by
  pointwise [k0_pay11, k0_pay2, Rows.rms]

theorem ld_gn (w : Vec Ideal S1024x3968 .bf16) (k : Fin 1024) (l : Fin 128) : View.ld w r0_9 (ix2 k l) = w (ix2 k ⟨3840 + l.val, by omega⟩) := by
  pointwise

theorem gn_point (c : Dev nD) (t : Fin cfg0.N) (r : Fin 512) (l : Fin 128) (h : t.val * 512 + r.val < 16384) :
    k0_pay11 (F := Ideal) (k0_pay2 (View.ld (iblk m c 0 t) r0_0) (View.ld (iblk m c 1 t) r0_1)) (View.ld (iblk m c 2 t) r0_9) (ix2 r l)
      = QueriesRef.gn (z m c) (ix2 ⟨t.val * 512 + r.val, h⟩ l) := by
  rw [gn_pay]
  by_cases hl : l.val < 24
  · rw [QueriesRef.gn_low _ _ _ _ _ hl rfl rfl]
    exact congrArg Ideal.logistic (prod_ld m c t r h _ _ fun k => (ld_gn _ k l).trans ((weight_at m c t k _).trans
      (packed_gates _ k _ _ (by show 3840 ≤ 3840 + l.val; omega) (by show 3840 + l.val < 3864; omega) (by show 3840 + l.val = 1280 + l.val + 2560; omega))))
  · rw [QueriesRef.gn_high _ _ _ (by omega)]
    refine congrArg Ideal.logistic (Finset.sum_eq_zero fun k _ => ?_)
    exact (congrArg (_ * ·) ((ld_gn _ k l).trans ((weight_at m c t k _).trans (packed_zero _ k _ (by show 3864 ≤ 3840 + l.val; omega))))).trans (mul_zero _)

theorem final7 (c : Dev nD) : (dats m 0 c).arrAt 7 (cfgs 0).N = QueriesRef.gn (z m c) := by
  refine (dats m 0 c).arrAt_eq_of_covers 7 _ (by decide +kernel) fun t _ y => ?_
  blk_simp
  rw [after0_7]; frame_out
  have ht : t.val < 32 := lt_of_lt_of_eq t.isLt N_0
  have hr : (y 0).val < 512 := (y 0).isLt
  refine (congrArg _ (eq_ix2 y)).trans ((gn_point m c t (y 0) (y 1) (by omega)).trans (congrArg _ ?_))
  blk_ext [idx t]

/-! ## The positions -/

/-- A row's position in its sequence. -/
theorem pos_at (t : Fin 32) (r : Fin 512) : k0_pay15 (BitVec.ofNat 32 t.val) 512#32 (ix2 r 0) = BitVec.ofNat 32 (t.val % 16 * 512 + r.val) := by
  pointwise [k0_pay15]
  refine Eq.trans (congrArg (IntOp.addi · _) ?_) (BitVec.ofNat_add (t.val % 16 * 512) r.val).symm
  revert t
  decide +kernel

theorem group (t : Fin 32) (r : Fin 512) : ∃ (a : Fin 128) (b : Fin 64), t.val % 16 * 512 + r.val = a.val * 64 + b.val :=
  ⟨⟨(t.val % 16 * 512 + r.val) / 64, by omega⟩, ⟨(t.val % 16 * 512 + r.val) % 64, by omega⟩, by show _ = (t.val % 16 * 512 + r.val) / 64 * 64 + (t.val % 16 * 512 + r.val) % 64; omega⟩

/-- The first position of its group. -/
theorem first_at (t : Fin 32) (r : Fin 512) :
    k0_pay16 (F := Ideal) (BitVec.ofNat 32 t.val) 512#32 (ix2 r 0) = FloatOps.sitofp .f32 (BitVec.ofNat 32 ((t.val % 16 * 512 + r.val) / 64 * 64)) := by
  pointwise [k0_pay16]
  rw [pos_at]
  refine congrArg _ ?_
  obtain ⟨a, b, e⟩ := group t r
  rw [e]
  clear e
  revert a b
  decide +kernel

/-- Its place in the group. -/
theorem row_at (t : Fin 32) (r : Fin 512) :
    k0_pay17 (F := Ideal) (k0_pay15 (BitVec.ofNat 32 t.val) 512#32) (Scalar.select (Scalar.cmpi .eq 64#32 0#32) 1#32 64#32) (ix2 r 0) = FloatOps.sitofp .f32 (BitVec.ofNat 32 ((t.val % 16 * 512 + r.val) % 64)) := by
  pointwise [k0_pay17]
  rw [pos_at]
  refine congrArg _ ?_
  obtain ⟨a, b, e⟩ := group t r
  rw [e]
  clear e
  revert a b
  decide +kernel

/-! ## The queries -/

/-- What the body stores of a head: its columns of the product, scaled, then the bias's columns. -/
def biased (s ns : BitVec 32) (o : Nat) (sl : S512x512.Slices ![0, o] S512x64) (q : FVec Ideal S512x512 .f32) (f n : FVec Ideal S512x1 .f32) (l : IVec S1x64 32) : FVec Ideal S1x512x128 .bf16 :=
  shapeCast S1x512x128 (truncf .bf16 (concatenate S512x128 1 [⟨S512x64, mulf (extractStridedSlice S512x64 ![0, o] q sl) (broadcast S512x64 (Scalar.ofBits .f32 0x3E000000#32 : Ideal .f32))⟩,
    ⟨S512x64, select (broadcastTo S512x64 (shapeCast S1x64 (cmpi .slt l (broadcast S1x64 2#32)) shapeCasts_S1x64_S1x64) broadcasts_S1x64_S512x64) (broadcast S512x64 (Scalar.ofBits .f32 s : Ideal .f32))
      (select (broadcastTo S512x64 (shapeCast S1x64 (cmpi .eq l (broadcast S1x64 2#32)) shapeCasts_S1x64_S1x64) broadcasts_S1x64_S512x64)
        (broadcastTo S512x64 (shapeCast S512x1 (mulf (broadcast S512x1 (Scalar.ofBits .f32 ns : Ideal .f32)) f) shapeCasts_S512x1_S512x1) broadcasts_S512x1_S512x64)
        (select (broadcastTo S512x64 (shapeCast S1x64 (cmpi .eq l (broadcast S1x64 3#32)) shapeCasts_S1x64_S1x64) broadcasts_S1x64_S512x64)
          (broadcastTo S512x64 (shapeCast S512x1 (mulf (broadcast S512x1 (Scalar.ofBits .f32 ns : Ideal .f32)) n) shapeCasts_S512x1_S512x1) broadcasts_S512x1_S512x64)
          (broadcast S512x64 (Scalar.ofBits .f32 0x00000000#32 : Ideal .f32))))⟩] concatenates_S512x64_S512x64_S512x128_d1) bitsLt_bf16_f32) shapeCasts_S512x128_S1x512x128

theorem biased_low (s ns : BitVec 32) (o : Nat) (sl : S512x512.Slices ![0, o] S512x64) (q : FVec Ideal S512x512 .f32) (f n : FVec Ideal S512x1 .f32) (w : IVec S1x64 32)
    (r : Fin 512) (l : Fin 128) (hl : l.val < 64) (h : o + l.val < 512) : biased s ns o sl q f n w (ix3 0 r l) = q (ix2 r ⟨o + l.val, h⟩) * Ideal.ofBits .f32 0x3E000000#32 := by
  pointwise [biased]
  rw [dif_pos hl]

theorem biased_high (s ns : BitVec 32) (o : Nat) (sl : S512x512.Slices ![0, o] S512x64) (q : FVec Ideal S512x512 .f32) (f n : FVec Ideal S512x1 .f32) (w : IVec S1x64 32)
    (r : Fin 512) (l : Fin 128) (hl : 64 ≤ l.val) : biased s ns o sl q f n w (ix3 0 r l)
      = QueriesRef.lane (Ideal.ofBits .f32 s) (Ideal.ofBits .f32 ns) (f (ix2 r 0)) (n (ix2 r 0)) (w (ix2 0 ⟨l.val - 64, by omega⟩)) := by
  pointwise [biased, QueriesRef.lane]
  rw [dif_neg (by omega)]

theorem q_pay (x : FVec Ideal S512x1024 .f32) (g : FVec Ideal S1x1024 .f32) (w : FVec Ideal S1024x512 .bf16) (r : Fin 512) (l : Fin 512) :
    k0_pay3 (F := Ideal) x g w (ix2 r l) = ∑ k : Fin 1024, Rows.rms (fun j => x (ix2 r j)) (fun j => g (ix2 0 j)) k * w (ix2 k l) := by
  pointwise [k0_pay3, k0_pay2, Rows.rms]

theorem ld_q (w : Vec Ideal S1024x3968 .bf16) (k : Fin 1024) (l : Fin 512) : View.ld w r0_2 (ix2 k l) = w (ix2 k ⟨l.val, by omega⟩) := by
  pointwise

/-- The queries a point computes. -/
theorem q_point (c : Dev nD) (t : Fin cfg0.N) (r l : Fin 512) (h : t.val * 512 + r.val < 16384) :
    k0_pay3 (F := Ideal) (View.ld (iblk m c 0 t) r0_0) (View.ld (iblk m c 1 t) r0_1) (View.ld (iblk m c 2 t) r0_2) (ix2 r l)
      = z m c (ix3 ⟨(t.val * 512 + r.val) / 8192, by omega⟩ ⟨(t.val * 512 + r.val) % 8192, by omega⟩ ⟨l.val, by omega⟩) := by
  rw [q_pay]
  exact prod_ld m c t r h _ _ fun k => (ld_q _ k l).trans (low m c t k _ _ (by show l.val < 1280; omega) rfl)

/-- A block of the result, from the products and the positions: every head's columns. -/
def block (s ns : Fin 8 → EReal) (q : FVec Ideal S512x512 .f32) (f n : FVec Ideal S512x1 .f32) : Vec Ideal S8x512x128 .bf16 := fun y =>
  if h : (y 2).val < 64 then q (ix2 (y 1) ⟨64 * (y 0).val + (y 2).val, by have h : (y 0).val < 8 := (y 0).isLt; omega⟩) * Ideal.ofBits .f32 0x3E000000#32
  else QueriesRef.lane (s (y 0)) (ns (y 0)) (f (ix2 (y 1) 0)) (n (ix2 (y 1) 0)) (BitVec.ofNat 32 ((y 2).val - 64))

theorem block_low (s ns : Fin 8 → EReal) (q : FVec Ideal S512x512 .f32) (f n : FVec Ideal S512x1 .f32) (h : Fin 8) (r : Fin 512) (l : Fin 128) (hl : l.val < 64) :
    block s ns q f n (ix3 h r l) = q (ix2 r ⟨64 * h.val + l.val, by omega⟩) * Ideal.ofBits .f32 0x3E000000#32 := dif_pos hl

theorem block_high (s ns : Fin 8 → EReal) (q : FVec Ideal S512x512 .f32) (f n : FVec Ideal S512x1 .f32) (h : Fin 8) (r : Fin 512) (l : Fin 128) (hl : 64 ≤ l.val) :
    block s ns q f n (ix3 h r l) = QueriesRef.lane (s h) (ns h) (f (ix2 r 0)) (n (ix2 r 0)) (BitVec.ofNat 32 (l.val - 64)) := dif_neg (Nat.not_lt.mpr hl)

/-- The heads' slopes and their negatives. -/
def slope (h : Fin 8) : EReal := Ideal.ofBits .f32 (Cert.Reference5Ideal.lit0 h)

def minus (h : Fin 8) : EReal := Ideal.ofBits .f32 (Cert.Reference5Ideal.lit1 h)

/-- What the body stores of a head is that part of the block. -/
theorem piece (h : Fin 8) (o : Nat) (ho : o = 64 * h.val) (sl : S512x512.Slices ![0, o] S512x64) (q : FVec Ideal S512x512 .f32) (f n : FVec Ideal S512x1 .f32)
    (out : ∀ a, (![h.val, 0, 0] : Fin 3 → Nat) a + S1x512x128.size a ≤ S8x512x128.size a) (y : S1x512x128.Idx) :
    biased (Cert.Reference5Ideal.lit0 h) (Cert.Reference5Ideal.lit1 h) o sl q f n (iota .tc S1x64 32 [1] iota_S1x64_d1_w32) y
      = block slope minus q f n ((Rect.unit (s := S8x512x128) ![h.val, 0, 0] S1x512x128.size out).emb y) := by
  subst ho
  have hl : (y 2).val < 128 := (y 2).isLt
  have hr : (y 1).val < 512 := (y 1).isLt
  have ey : y = ix3 0 (y 1) (y 2) := (eq_ix3 y).trans (by congr 1; exact Subsingleton.elim (α := Fin 1) _ _)
  have e1 : ((Rect.unit (s := S8x512x128) ![h.val, 0, 0] S1x512x128.size out).emb y) = ix3 h (⟨(y 1).val, hr⟩ : Fin 512) (⟨(y 2).val, hl⟩ : Fin 128) := by
    funext a
    apply Fin.ext
    match a with
    | 0 => exact (congrArg (h.val + ·) (Nat.one_mul _)).trans (by have h0 : (y 0).val < 1 := (y 0).isLt; show h.val + (y 0).val = h.val; omega)
    | 1 => exact (Nat.zero_add _).trans (Nat.one_mul _)
    | 2 => exact (Nat.zero_add _).trans (Nat.one_mul _)
  rw [e1]
  refine (congrArg _ ey).trans ?_
  by_cases hy : (y 2).val < 64
  · exact (biased_low _ _ _ sl q f n _ (y 1) (y 2) hy (by omega)).trans (block_low _ _ _ _ _ _ _ _ hy).symm
  · refine (biased_high _ _ _ sl q f n _ (y 1) (y 2) (by omega)).trans (Eq.trans ?_ (block_high _ _ _ _ _ _ _ _ (Nat.not_lt.mp hy)).symm)
    refine congrArg (QueriesRef.lane _ _ _ _) ?_
    pointwise

set_option maxHeartbeats 1000000 in
/-- So the body leaves the block. -/
theorem out_is (i : grid0.Coords) (x : Vec Ideal S512x1024 .f32) (g : Vec Ideal S1x1024 .f32) (w : Vec Ideal S1024x3968 .bf16) : out0_11 (F := Ideal) i x g w
    = block slope minus (k0_pay57 i x g w) (k0_pay62 i x g w) (k0_pay64 i x g w) := by
  funext y
  refine View.canon_apply_of_pieces (block slope minus _ _ _) _ ?_ y (cover0_11 _ _ _ _ _ _ _ _ y)
  intro p hp
  simp only [List.mem_cons, List.not_mem_nil, or_false] at hp
  rcases hp with rfl | rfl | rfl | rfl | rfl | rfl | rfl | rfl
  · exact piece 7 448 rfl slices_S512x512_o0_448_S512x64 _ _ _ inb_S8x512x128_S1x512x128_7_0_0
  · exact piece 6 384 rfl slices_S512x512_o0_384_S512x64 _ _ _ inb_S8x512x128_S1x512x128_6_0_0
  · exact piece 5 320 rfl slices_S512x512_o0_320_S512x64 _ _ _ inb_S8x512x128_S1x512x128_5_0_0
  · exact piece 4 256 rfl slices_S512x512_o0_256_S512x64 _ _ _ inb_S8x512x128_S1x512x128_4_0_0
  · exact piece 3 192 rfl slices_S512x512_o0_192_S512x64 _ _ _ inb_S8x512x128_S1x512x128_3_0_0
  · exact piece 2 128 rfl slices_S512x512_o0_128_S512x64 _ _ _ inb_S8x512x128_S1x512x128_2_0_0
  · exact piece 1 64 rfl slices_S512x512_o0_64_S512x64 _ _ _ inb_S8x512x128_S1x512x128_1_0_0
  · exact piece 0 0 rfl slices_S512x512_o0_0_S512x64 _ _ _ inb_S8x512x128_S1x512x128_0_0_0

/-- The grid's coordinate is the point's number. -/
theorem coord : ∀ t : Fin cfg0.N, (grid0.coords t 0).val = t.val :=
  (by decide +kernel : ∀ t : Fin grid0.N, _)

/-- The reference's slopes. -/
theorem place (h : Fin 8) : Cert.Reference5Ideal.S8.rowMajor (ix1 h) = h :=
  Fin.ext ((by decide +kernel : ∀ h : Fin 8, (Cert.Reference5Ideal.S8.rowMajor (ix1 h)).val = h.val) h)

theorem slope_at (h : Fin 8) : QueriesRef.slope (ix1 h) = slope h := by
  unfold QueriesRef.slope slope
  exact congrArg (fun e => Ideal.ofBits .f32 (Cert.Reference5Ideal.lit0 e)) (place h)

theorem minus_at (h : Fin 8) : QueriesRef.minus (ix1 h) = minus h := by
  unfold QueriesRef.minus minus
  exact congrArg (fun e => Ideal.ofBits .f32 (Cert.Reference5Ideal.lit1 e)) (place h)

/-- What a point stores at an index of its block is the reference's value at the index the block puts it. -/
theorem point (c : Dev nD) (t : Fin cfg0.N) (ht : t.val < 32) (h : Fin 8) (r : Fin 512) (l : Fin 128) (hr : t.val * 512 + r.val < 16384) :
    block slope minus (k0_pay57 (grid0.coords t) (iblk m c 0 t) (iblk m c 1 t) (iblk m c 2 t)) (k0_pay62 (grid0.coords t) (iblk m c 0 t) (iblk m c 1 t) (iblk m c 2 t))
      (k0_pay64 (grid0.coords t) (iblk m c 0 t) (iblk m c 1 t) (iblk m c 2 t)) (ix3 h r l) = QueriesRef.qp (z m c) (ix3 h ⟨t.val * 512 + r.val, hr⟩ l) := by
  have hn : t.val % 16 * 512 + r.val = (t.val * 512 + r.val) % 8192 := by omega
  by_cases hl : l.val < 64
  · refine (block_low _ _ _ _ _ _ _ _ hl).trans (Eq.trans ?_ (QueriesRef.qp_low _ _ _ _ hl).symm)
    refine Eq.trans ?_ (QueriesRef.q_at _ _ _ _ _ _ rfl rfl).symm
    exact congrArg (· * _) (q_point m c t r _ hr)
  · refine (block_high _ _ _ _ _ _ _ _ (by omega)).trans (Eq.trans ?_ (QueriesRef.qp_high _ _ _ _ (by omega)).symm)
    refine Eq.trans ?_ (QueriesRef.bias_at _ _ _ _ _ _ _).symm
    have e0 : k0_pay62 (F := Ideal) (grid0.coords t) (iblk m c 0 t) (iblk m c 1 t) (iblk m c 2 t) (ix2 r 0) = QueriesRef.first (ix3 0 ⟨t.val * 512 + r.val, hr⟩ 0) := by
      unfold k0_pay62
      rw [coord t, QueriesRef.first_at]
      exact (first_at ⟨t.val, ht⟩ r).trans (congrArg (fun n => FloatOps.sitofp .f32 (BitVec.ofNat 32 (n / 64 * 64))) hn)
    have e1 : k0_pay64 (F := Ideal) (grid0.coords t) (iblk m c 0 t) (iblk m c 1 t) (iblk m c 2 t) (ix2 r 0) = QueriesRef.row (ix3 0 ⟨t.val * 512 + r.val, hr⟩ 0) := by
      unfold k0_pay64 k0_pay61
      rw [coord t, QueriesRef.row_at]
      exact (row_at ⟨t.val, ht⟩ r).trans (congrArg (fun n => FloatOps.sitofp .f32 (BitVec.ofNat 32 (n % 64))) hn)
    rw [← e0, ← e1, slope_at, minus_at]

theorem final11 (c : Dev nD) : (dats m 0 c).arrAt 11 (cfgs 0).N = QueriesRef.qp (z m c) := by
  refine (dats m 0 c).arrAt_eq_of_covers 11 _ (by decide +kernel) fun t _ y => ?_
  blk_simp
  rw [after0_11, out_is]
  have ht : t.val < 32 := lt_of_lt_of_eq t.isLt N_0
  have hr : (y 1).val < 512 := (y 1).isLt
  refine (congrArg _ (eq_ix3 y)).trans ((point m c t ht (y 0) (y 1) (y 2) (by omega)).trans (congrArg _ ?_))
  blk_ext [idx t]

/-- Both programs, from memories that agree on the arguments, end with these arrays. -/
theorem algebraic : Cert.algebraic_Kernel5Ideal_Reference5Ideal := by
  intro m g m' g' _ agree
  refine ⟨fun c => InProjRef.rowsOf (InProjRef.kv0 (z m c)), fun c => InProjRef.u (z m c), fun c => InProjRef.mq (z m c), fun c => InProjRef.gb (z m c), fun c => QueriesRef.gn (z m c),
    fun c => InProjRef.rowsLast (InProjRef.kv0 (z m c)), fun c => InProjRef.rowsLast (InProjRef.kv1 (z m c)), fun c => InProjRef.rowsLast (InProjRef.kv2 (z m c)), fun c => QueriesRef.qp (z m c),
    (θ_run defs _ _).mono (fun r h c => ?_) (Cert.Kernel5Ideal.Value.run_blocks (F := Ideal) m g),
    (θ_run Cert.Reference5Ideal.defs _ _).mono (fun r h c => ?_) (Cert.Reference5Ideal.Value.run (F := Ideal) m' g')⟩
  · obtain ⟨h3, h4, h5, h6, h7, h8, h9, h10, h11, _, _, hargs⟩ := h c
    exact ⟨h3.trans (final3 m c), h4.trans (final4 m c), h5.trans (final5 m c), h6.trans (final6 m c), h7.trans (final7 m c), h8.trans (final8 m c), h9.trans (final9 m c), h10.trans (final10 m c), h11.trans (final11 m c), hargs⟩
  · obtain ⟨a0, a1, a2⟩ := agree c
    obtain ⟨h0, h1, h2, h3, h4, h5, h6, h7, h8, hargs⟩ := h c
    refine ⟨h0.trans ?_, h1.trans ?_, h2.trans ?_, h3.trans ?_, h4.trans ?_, h5.trans ?_, h6.trans ?_, h7.trans ?_, h8.trans ?_, hargs⟩ <;> (rw [a0, a1, a2]; rfl)

end Cert.Queries

end
-- ==== Proof.Attn.lean ====
/- One head's attention over a memory of 256 tokens: what the memory attention and its reference share. -/
module

public import Idealize.ShloMosaic.Lib.IdealHost

@[expose] public section

noncomputable section

namespace Cert.Attn

open Idealize.ShloMosaic

/-- A query's scores: its products with the keys, scaled. -/
def score (q : Fin 128 → EReal) (k : Fin 256 → Fin 128 → EReal) (t : Fin 256) : EReal :=
  (∑ d : Fin 128, q d * k t d) * Ideal.ofBits .f32 0x3DB504F3#32

/-- The largest score, starting from the constant the programs start from. -/
def top (s : Fin 256 → EReal) : EReal := Finset.fold max (Ideal.ofBits .f32 0xFF800000#32) s Finset.univ

/-- Taking the start once more changes nothing. -/
theorem max_top (s : Fin 256 → EReal) : max (Ideal.ofBits .f32 0xFF800000#32) (top s) = top s :=
  max_eq_right ((Finset.le_fold_max _).mpr (Or.inl le_rfl))

/-- The scores' exponentials, the largest score taken off, over their sum. -/
def soft (s : Fin 256 → EReal) (t : Fin 256) : EReal :=
  Ideal.div (Ideal.exp (s t - top s)) (∑ n : Fin 256, Ideal.exp (s n - top s))

/-- One entry of the query's output: the values there weighed by the softmax of its scores. -/
def attend (q : Fin 128 → EReal) (k : Fin 256 → Fin 128 → EReal) (v : Fin 256 → EReal) : EReal :=
  ∑ t : Fin 256, soft (score q k) t * v t

end Cert.Attn

end
-- ==== Proof.MemAttendRef.lean ====
/- The reference of the memory attention, entry by entry. -/
module

public import proofs.«01_k».proof.Proof.Gen.Reference6Ideal.Run
public import proofs.«01_k».proof.Proof.Attn
public import Idealize.ShloMosaic.Lib.Pointwise

@[expose] public section

set_option maxRecDepth 16384

noncomputable section

namespace Cert.MemAttendRef

open Cert.Reference6Ideal Cert.Reference6Ideal.Gen Idealize.ShloMosaic Idealize.ShloMosaic.TcCoe Idealize.SL.Sem

/-- The keys and the values, heads first. -/
def keys (kv : FVec Ideal S2x256x2x4x128 .f32) : FVec Ideal S2x4x256x128 .f32 :=
  transpose S2x4x256x128 [0, 2, 1, 3] (shapeCast S2x256x4x128 (extractStridedSlice S2x256x1x4x128 ![0, 0, 0, 0, 0] kv slices_S2x256x2x4x128_S2x256x1x4x128_0_0_0_0_0)
    shapeCasts_S2x256x1x4x128_S2x256x4x128) transposes_S2x256x4x128_S2x4x256x128_0_2_1_3

def values (kv : FVec Ideal S2x256x2x4x128 .f32) : FVec Ideal S2x4x256x128 .f32 :=
  transpose S2x4x256x128 [0, 2, 1, 3] (shapeCast S2x256x4x128 (extractStridedSlice S2x256x1x4x128 ![0, 0, 1, 0, 0] kv slices_S2x256x2x4x128_S2x256x1x4x128_0_0_1_0_0)
    shapeCasts_S2x256x1x4x128_S2x256x4x128) transposes_S2x256x4x128_S2x4x256x128_0_2_1_3

/-- The scaled scores. -/
def scores (q : FVec Ideal S2x8192x4x128 .f32) (kv : FVec Ideal S2x256x2x4x128 .f32) : FVec Ideal S2x4x8192x256 .f32 :=
  mulf (Host.dotGeneral (F := Ideal) (φ₁ := .f32) (φ₂ := .f32) dot_S2x4x8192x128_S2x4x128x256_S2x4x8192x256_3_2_2_3_01_01 none
      (transpose S2x4x8192x128 [0, 2, 1, 3] q transposes_S2x8192x4x128_S2x4x8192x128_0_2_1_3)
      (transpose S2x4x128x256 [0, 1, 3, 2] (keys kv) transposes_S2x4x256x128_S2x4x128x256_0_1_3_2))
    (broadcastInDim S2x4x8192x256 ![] bcast_S_S2x4x8192x256 (constant S_ .f32 0x3DB504F3#32))

/-- The exponentials of the scores, each row's largest taken off. -/
def exps (s : FVec Ideal S2x4x8192x256 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2
    (maximumf (broadcastInDim S2x4x8192 ![] bcast_S_S2x4x8192 (constant S_ .f32 0xFF800000#32))
      (Host.reduce (FloatOps.maximumf (F := Ideal) (φ := .f32)) s (constant S_ .f32 0xFF800000#32) reducesTo_S2x4x8192x256_S2x4x8192_d3 h_S_)))))

/-- The softmax of the scores. -/
def probs (s : FVec Ideal S2x4x8192x256 .f32) : FVec Ideal S2x4x8192x256 .f32 :=
  Host.divf (exps s) (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd (F := Ideal) (exps s) (constant S_ .f32 0x00000000#32) reducesTo_S2x4x8192x256_S2x4x8192_d3 h_S_)))

/-- The output: the values weighed, the heads side by side. -/
def output (q : FVec Ideal S2x8192x4x128 .f32) (kv : FVec Ideal S2x256x2x4x128 .f32) : FVec Ideal S2x8192x512 .f32 :=
  shapeCast _ (transpose S2x8192x4x128 [0, 2, 1, 3] (Host.dotGeneral (F := Ideal) (φ₁ := .f32) (φ₂ := .f32) dot_S2x4x8192x256_S2x4x256x128_S2x4x8192x128_3_2_2_3_01_01 none
    (probs (scores q kv)) (values kv)) transposes_S2x4x8192x128_S2x8192x4x128_0_2_1_3) shapeCasts_S2x8192x4x128_S2x8192x512

theorem run_is (m : (ℓ : Loc nD τ sig) → Buf (Elt Ideal) ℓ) (c : Dev nD) :
    Cert.Reference6Ideal.Value.res_main_v24 (F := Ideal) m c = output (m ((c.tc : Thread nD τ).loc main_arg0)) (m ((c.tc : Thread nD τ).loc main_arg1)) := rfl

theorem keys_at (kv : FVec Ideal S2x256x2x4x128 .f32) (p : Fin 2) (h : Fin 4) (t : Fin 256) (d : Fin 128) : keys kv (ix4 p h t d) = kv (ix5 p t 0 h d) := by
  pointwise [keys]

theorem values_at (kv : FVec Ideal S2x256x2x4x128 .f32) (p : Fin 2) (h : Fin 4) (t : Fin 256) (d : Fin 128) : values kv (ix4 p h t d) = kv (ix5 p t 1 h d) := by
  pointwise [values]

theorem scores_at (q : FVec Ideal S2x8192x4x128 .f32) (kv : FVec Ideal S2x256x2x4x128 .f32) (p : Fin 2) (h : Fin 4) (r : Fin 8192) (t : Fin 256) :
    scores q kv (ix4 p h r t) = Attn.score (fun d => q (ix4 p r h d)) (fun n d => kv (ix5 p n 0 h d)) t := by
  have e (k : FVec Ideal S2x4x256x128 .f32) : mulf (Host.dotGeneral (F := Ideal) (φ₁ := .f32) (φ₂ := .f32) dot_S2x4x8192x128_S2x4x128x256_S2x4x8192x256_3_2_2_3_01_01 none
      (transpose S2x4x8192x128 [0, 2, 1, 3] q transposes_S2x8192x4x128_S2x4x8192x128_0_2_1_3)
      (transpose S2x4x128x256 [0, 1, 3, 2] k transposes_S2x4x256x128_S2x4x128x256_0_1_3_2))
    (broadcastInDim S2x4x8192x256 ![] bcast_S_S2x4x8192x256 (constant S_ .f32 0x3DB504F3#32)) (ix4 p h r t)
      = Attn.score (fun d => q (ix4 p r h d)) (fun n d => k (ix4 p h n d)) t := by
    pointwise [Attn.score]
  exact (e _).trans (congrArg (fun k => Attn.score _ k t) (funext fun n => funext fun d => keys_at kv p h n d))

/-- The largest score of a row, as the reference takes it. -/
theorem top_at (s : FVec Ideal S2x4x8192x256 .f32) (p : Fin 2) (h : Fin 4) (r : Fin 8192) :
    Host.reduce (FloatOps.maximumf (F := Ideal) (φ := .f32)) s (constant S_ .f32 0xFF800000#32) reducesTo_S2x4x8192x256_S2x4x8192_d3 h_S_ (ix3 p h r)
      = Attn.top fun n => s (ix4 p h r n) := by
  have hr : S2x4x8192x256.Reduces [3] S2x4x8192 := by decide
  refine (Host.reduce_eq_fold_single _ _ _ _ hr _ _).trans ?_
  refine congrArg (fun f => Finset.fold max (Ideal.ofBits .f32 0xFF800000#32) f Finset.univ) (funext fun n => congrArg s ?_)
  funext a
  apply Fin.ext
  match a with
  | 0 => rfl
  | 1 => rfl
  | 2 => rfl
  | 3 => rfl

theorem exps_at (s : FVec Ideal S2x4x8192x256 .f32) (p : Fin 2) (h : Fin 4) (r : Fin 8192) (t : Fin 256) :
    exps s (ix4 p h r t) = Ideal.exp (s (ix4 p h r t) - Attn.top fun n => s (ix4 p h r n)) := by
  have e (y : FVec Ideal S2x4x8192 .f32) : Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2
    (maximumf (broadcastInDim S2x4x8192 ![] bcast_S_S2x4x8192 (constant S_ .f32 0xFF800000#32)) y)))) (ix4 p h r t)
      = Ideal.exp (s (ix4 p h r t) - max (Ideal.ofBits .f32 0xFF800000#32) (y (ix3 p h r))) := by
    pointwise
  exact (e _).trans (congrArg (fun y => Ideal.exp (s (ix4 p h r t) - y)) ((congrArg _ (top_at s p h r)).trans (Attn.max_top _)))

theorem probs_at (s : FVec Ideal S2x4x8192x256 .f32) (p : Fin 2) (h : Fin 4) (r : Fin 8192) (t : Fin 256) :
    probs s (ix4 p h r t) = Attn.soft (fun n => s (ix4 p h r n)) t := by
  have e (x : FVec Ideal S2x4x8192x256 .f32) : Host.divf x (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd (F := Ideal) x (constant S_ .f32 0x00000000#32) reducesTo_S2x4x8192x256_S2x4x8192_d3 h_S_))) (ix4 p h r t)
      = Ideal.div (x (ix4 p h r t)) (∑ n : Fin 256, x (ix4 p h r n)) := by
    pointwise
  exact (e _).trans (congrArg₂ Ideal.div (exps_at s p h r t) (Finset.sum_congr rfl fun n _ => exps_at s p h r n))

/-- The output at a row and at a column of a head. -/
theorem output_at (q : FVec Ideal S2x8192x4x128 .f32) (kv : FVec Ideal S2x256x2x4x128 .f32) (p : Fin 2) (r : Fin 8192) (l : Fin 512) (h : Fin 4) (d : Fin 128)
    (hh : ⟨l.val / 128, by omega⟩ = h) (hd : ⟨l.val % 128, by omega⟩ = d) :
    output q kv (ix3 p r l) = Attn.attend (fun e => q (ix4 p r h e)) (fun n e => kv (ix5 p n 0 h e)) (fun n => kv (ix5 p n 1 h d)) := by
  have e (w : FVec Ideal S2x4x8192x256 .f32) (v : FVec Ideal S2x4x256x128 .f32) : shapeCast S2x8192x512 (transpose S2x8192x4x128 [0, 2, 1, 3] (Host.dotGeneral (F := Ideal) (φ₁ := .f32) (φ₂ := .f32) dot_S2x4x8192x256_S2x4x256x128_S2x4x8192x128_3_2_2_3_01_01 none
      w v) transposes_S2x4x8192x128_S2x8192x4x128_0_2_1_3) shapeCasts_S2x8192x4x128_S2x8192x512 (ix3 p r l)
      = ∑ t : Fin 256, w (ix4 p h r t) * v (ix4 p h t d) := by
    subst hh hd
    pointwise
  exact (e _ _).trans (Finset.sum_congr rfl fun t _ => congrArg₂ (· * ·)
    ((probs_at _ p h r t).trans (congrArg (fun s => Attn.soft s t) (funext fun n => scores_at q kv p h r n))) (values_at kv p h t d))

end Cert.MemAttendRef

end
-- ==== Proof.MemAttend.lean ====
/- The memory attention: every grid point weighs the memory's values by the softmax of its queries' scores, head by head. -/
module

public import proofs.«01_k».proof.Defs
public import proofs.«01_k».proof.Proof.Gen.Kernel6Ideal.Value
public import proofs.«01_k».proof.Proof.MemAttendRef
public import Idealize.ShloMosaic.Lib.Pipeline.ValueKit
public import Idealize.ShloMosaic.Lib.Claim

@[expose] public section

set_option maxRecDepth 16384

noncomputable section

namespace Cert.MemAttend

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks lie: the queries' and the result's at the point's batch and rows, the memory's at its batch. -/
theorem idx : ∀ t : Fin cfg0.N, win0_0.index t = ![t.val / 16, t.val % 16, 0] ∧ win0_1.index t = ![t.val / 16, 0, 0] ∧ win0_2.index t = ![t.val / 16, t.val % 16, 0] :=
  (by decide +kernel : ∀ t : Fin grid0.N, _)

/-- What the body stores of a head, from the head's queries, keys and values. -/
theorem head_at (q : FVec Ideal S512x128 .f32) (k v : FVec Ideal S256x128 .bf16) (r : Fin 512) (l : Fin 128) :
    k0_pay8 (F := Ideal) k v q (ix3 0 r l) = Attn.attend (fun d => q (ix2 r d)) (fun t d => k (ix2 t d)) (fun t => v (ix2 t l)) := by
  pointwise [k0_pay8, Attn.attend, Attn.soft, Attn.score, Attn.top]

/-- The queries a head takes, from column `o` on. -/
theorem queries_at (x : FVec Ideal S1x512x512 .f32) (o : Nat) (sl : S512x512.Slices ![0, o] S512x128) (r : Fin 512) (d : Fin 128) (h : o + d.val < 512) :
    extractStridedSlice S512x128 ![0, o] (k0_pay3 (F := Ideal) x) sl (ix2 r d) = x (ix3 0 r ⟨o + d.val, h⟩) := by
  pointwise [k0_pay3]

/-- The keys it takes, and the values. -/
theorem keys_at (x : Vec Ideal S1x256x1024 .f32) (o : Nat) (inb : ∀ a, (![0, 0, o] : Fin 3 → Nat) a + S1x256x128.size a ≤ S1x256x1024.size a) (t : Fin 256) (d : Fin 128) (h : o + d.val < 1024) :
    k0_pay5 (F := Ideal) (View.ld x (Rect.unit (s := S1x256x1024) ![0, 0, o] S1x256x128.size inb)) (ix2 t d) = x (ix3 0 t ⟨o + d.val, h⟩) := by
  have e (y : FVec Ideal S1x256x128 .f32) : k0_pay5 (F := Ideal) y (ix2 t d) = y (ix3 0 t d) := by pointwise [k0_pay5]
  refine (e _).trans (congrArg x ?_)
  funext a
  apply Fin.ext
  match a with
  | 0 => rfl
  | 1 => exact (Nat.zero_add _).trans (Nat.one_mul _)
  | 2 => exact congrArg (o + ·) (Nat.one_mul _)

theorem values_at (x : Vec Ideal S1x256x1024 .f32) (o : Nat) (inb : ∀ a, (![0, 0, o] : Fin 3 → Nat) a + S1x256x128.size a ≤ S1x256x1024.size a) (t : Fin 256) (d : Fin 128) (h : o + d.val < 1024) :
    k0_pay6 (F := Ideal) (View.ld x (Rect.unit (s := S1x256x1024) ![0, 0, o] S1x256x128.size inb)) (ix2 t d) = x (ix3 0 t ⟨o + d.val, h⟩) := keys_at x o inb t d h

/-- A block of the result from the queries' block and the memory's: every column's head attends. -/
def block (x : Vec Ideal S1x512x512 .f32) (z : Vec Ideal S1x256x1024 .f32) : Vec Ideal S1x512x512 .f32 := fun y =>
  Attn.attend (fun e => x (ix3 0 (y 1) ⟨(y 2).val / 128 * 128 + e.val, by have h : (y 2).val < 512 := (y 2).isLt; omega⟩))
    (fun n e => z (ix3 0 n ⟨(y 2).val / 128 * 128 + e.val, by have h : (y 2).val < 512 := (y 2).isLt; omega⟩))
    (fun n => z (ix3 0 n ⟨512 + (y 2).val, by have h : (y 2).val < 512 := (y 2).isLt; omega⟩))

/-- What the body stores from column `128 h` on is that part of the block. -/
theorem piece (x : Vec Ideal S1x512x512 .f32) (z : Vec Ideal S1x256x1024 .f32) (h : Fin 4) (o : Nat) (ho : o = 128 * h.val) (o' : Nat) (ho' : o' = 512 + o) (sl : S512x512.Slices ![0, o] S512x128)
    (inb : ∀ a, (![0, 0, o] : Fin 3 → Nat) a + S1x256x128.size a ≤ S1x256x1024.size a) (inb' : ∀ a, (![0, 0, o'] : Fin 3 → Nat) a + S1x256x128.size a ≤ S1x256x1024.size a)
    (out : ∀ a, (![0, 0, o] : Fin 3 → Nat) a + S1x512x128.size a ≤ S1x512x512.size a) (y : S1x512x128.Idx) :
    k0_pay8 (F := Ideal) (k0_pay5 (View.ld z (Rect.unit (s := S1x256x1024) ![0, 0, o] S1x256x128.size inb))) (k0_pay6 (View.ld z (Rect.unit (s := S1x256x1024) ![0, 0, o'] S1x256x128.size inb')))
      (extractStridedSlice S512x128 ![0, o] (k0_pay3 (View.ld x r0_0)) sl) y
    = block x z ((Rect.unit (s := S1x512x512) ![0, 0, o] S1x512x128.size out).emb y) := by
  subst ho ho'
  have hl : (y 2).val < 128 := (y 2).isLt
  have hr : (y 1).val < 512 := (y 1).isLt
  have e : View.ld x r0_0 = x := View.ld_unit_zero (by decide) _ x
  rw [e]
  have ey : y = ix3 0 (y 1) (y 2) := (eq_ix3 y).trans (by congr 1; exact Subsingleton.elim (α := Fin 1) _ _)
  have e1 : ((Rect.unit (s := S1x512x512) ![0, 0, 128 * h.val] S1x512x128.size out).emb y) = ix3 0 (⟨(y 1).val, hr⟩ : Fin 512) (⟨128 * h.val + (y 2).val, by omega⟩ : Fin 512) := by
    funext a
    apply Fin.ext
    match a with
    | 0 => exact (congrArg (0 + ·) (Nat.one_mul _)).trans (by have h0 : (y 0).val < 1 := (y 0).isLt; show 0 + (y 0).val = 0; omega)
    | 1 => exact (Nat.zero_add _).trans (Nat.one_mul _)
    | 2 => exact congrArg (128 * h.val + ·) (Nat.one_mul _)
  rw [e1]
  refine ((congrArg _ ey).trans (head_at _ _ _ _ _)).trans ?_
  unfold block
  have hd : (128 * h.val + (y 2).val) / 128 * 128 = 128 * h.val := by omega
  refine congr (congrArg₂ Attn.attend (funext fun d => (queries_at x _ sl _ d (by omega)).trans (congrArg x ?_)) (funext fun n => funext fun d => (keys_at z _ inb n d (by omega)).trans (congrArg z ?_)))
    (funext fun n => (values_at z _ inb' n _ (by omega)).trans (congrArg z ?_))
  · exact congrArg (ix3 0 _) (Fin.ext (congrArg (· + d.val) hd.symm))
  · exact congrArg (ix3 0 n) (Fin.ext (congrArg (· + d.val) hd.symm))
  · exact congrArg (ix3 0 n) (Fin.ext (Nat.add_assoc _ _ _))

/-- So the body leaves the block. -/
theorem out_is (x : Vec Ideal S1x512x512 .f32) (z : Vec Ideal S1x256x1024 .f32) : out0_2 (F := Ideal) x z = block x z := by
  funext y
  refine View.canon_apply_of_pieces (block x z) _ ?_ y (cover0_2 _ _ _ _ y)
  intro p hp
  simp only [List.mem_cons, List.not_mem_nil, or_false] at hp
  rcases hp with rfl | rfl | rfl | rfl
  · exact piece x z 3 384 rfl 896 rfl _ _ _ inb_S1x512x512_S1x512x128_0_0_384
  · exact piece x z 2 256 rfl 768 rfl _ _ _ inb_S1x512x512_S1x512x128_0_0_256
  · exact piece x z 1 128 rfl 640 rfl slices_S512x512_o0_128_S512x128 _ _ inb_S1x512x512_S1x512x128_0_0_128
  · exact piece x z 0 0 rfl 512 rfl _ _ _ inb_S1x512x512_S1x512x128_0_0_0

/-- The queries' block at a point. -/
theorem q_at (c : Dev nD) (t : Fin cfg0.N) (r l : Fin 512) (p : Fin 2) (hp : t.val / 16 = p.val) (h : Fin 4) (d : Fin 128) (hh : l.val = 128 * h.val + d.val) :
    iblk m c 0 t (ix3 0 r l) = m ((c : Thread nD τ).loc main_arg0) (ix4 p ⟨t.val % 16 * 512 + r.val, by omega⟩ h d) := by
  blk_point [iblk, V, idx t]

/-- The memory's keys and values at a point: the keys' columns, then the values'. -/
theorem kv_at (c : Dev nD) (t : Fin cfg0.N) (n : Fin 256) (l : Fin 1024) (p : Fin 2) (hp : t.val / 16 = p.val) (s : Fin 2) (h : Fin 4) (d : Fin 128) (hh : l.val = 512 * s.val + 128 * h.val + d.val) :
    iblk m c 1 t (ix3 0 n l) = m ((c : Thread nD τ).loc main_arg1) (ix5 p n s h d) := by
  blk_point [iblk, V, idx t]

/-- What a point stores at an index of its block is the reference's value at the index the block puts it. -/
theorem point (c : Dev nD) (t : Fin cfg0.N) (r l : Fin 512) (p : Fin 2) (hp : t.val / 16 = p.val) (hr : t.val % 16 * 512 + r.val < 8192) :
    block (iblk m c 0 t) (iblk m c 1 t) (ix3 0 r l)
    = MemAttendRef.output (m ((c : Thread nD τ).loc main_arg0)) (m ((c : Thread nD τ).loc main_arg1)) (ix3 p ⟨t.val % 16 * 512 + r.val, hr⟩ l) := by
  refine Eq.trans ?_ (MemAttendRef.output_at _ _ p _ l _ _ rfl rfl).symm
  refine congr (congrArg₂ Attn.attend (funext fun d => q_at m c t r _ p hp _ d ?_) (funext fun n => funext fun d => kv_at m c t n _ p hp 0 _ d ?_))
    (funext fun n => kv_at m c t n _ p hp 1 _ _ ?_)
  · show l.val / 128 * 128 + d.val = 128 * (l.val / 128) + d.val; omega
  · show l.val / 128 * 128 + d.val = 512 * 0 + 128 * (l.val / 128) + d.val; omega
  · show 512 + l.val = 512 * 1 + 128 * (l.val / 128) + l.val % 128; omega

/-- The result array after the run. -/
theorem final (c : Dev nD) : (dats m 0 c).arrAt 2 (cfgs 0).N
    = MemAttendRef.output (m ((c : Thread nD τ).loc main_arg0)) (m ((c : Thread nD τ).loc main_arg1)) := by
  refine (dats m 0 c).arrAt_eq_of_covers 2 _ (by decide +kernel) fun t _ y => ?_
  blk_simp
  rw [after0_2, out_is]
  have ht : t.val < 32 := lt_of_lt_of_eq t.isLt N_0
  have hr : (y 1).val < 512 := (y 1).isLt
  have ey : y = ix3 0 (y 1) (y 2) := (eq_ix3 y).trans (by congr 1; exact Subsingleton.elim (α := Fin 1) _ _)
  refine (congrArg _ ey).trans ((point m c t (y 1) (y 2) ⟨t.val / 16, by omega⟩ rfl (by omega)).trans (congrArg _ ?_))
  blk_ext [idx t]

/-- Both programs, from memories that agree on the arguments, end with this array. -/
theorem algebraic : Cert.algebraic_Kernel6Ideal_Reference6Ideal := by
  intro m g m' g' _ agree
  refine ⟨fun c => MemAttendRef.output (m ((c : Thread nD τ).loc main_arg0)) (m ((c : Thread nD τ).loc main_arg1)),
    (θ_run defs _ _).mono (fun r h c => ⟨(h c).1.trans (final m c), (h c).2⟩) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  obtain ⟨h0, h1⟩ := agree c
  refine (MemAttendRef.run_is m' c).trans ?_
  rw [h0, h1]

end Cert.MemAttend

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.SsmFrame
public import proofs.«01_k».proof.Proof.SsmArrays
public import proofs.«01_k».proof.Proof.SsmRef
public import proofs.«01_k».proof.Proof.Ffn
public import proofs.«01_k».proof.Proof.Merge
public import proofs.«01_k».proof.Proof.MemKv
public import proofs.«01_k».proof.Proof.InProj
public import proofs.«01_k».proof.Proof.Queries
public import proofs.«01_k».proof.Proof.MemAttend
public import Idealize.ShloMosaic.Adequacy
public import Idealize.ShloMosaic.Init

@[expose] public section

noncomputable section

namespace Cert.Proof

open Idealize.ShloMosaic Idealize.SL.Sem

section SameText

variable {F : FTy → Type} [FloatOps F] [hK : Cert.Kernel.Facts] [hI : Cert.KernelIdeal.Facts]

set_option maxHeartbeats 4000000 in
/-- The kernel and its idealization have one text, so one table of bodies … -/
theorem same_bodies : Cert.Kernel.defs₀ (F := F) = Cert.KernelIdeal.defs₀ (F := F) :=
  congrArg Defs.onTc (funext fun l => funext fun a => by
    match l, a with
    | 0, (t, s) => rfl)

set_option maxHeartbeats 4000000 in
theorem same_defs : Cert.Kernel.defs (F := F) = Cert.KernelIdeal.defs (F := F) :=
  congrArg (Pipeline.defs (Cert.KernelIdeal.pcfgs (F := F))) same_bodies

set_option maxHeartbeats 1000000 in
/-- … and one entry. -/
theorem same_main : Cert.Kernel.main (F := F) = Cert.KernelIdeal.main (F := F) := rfl

end SameText

set_option maxHeartbeats 4000000 in
/-- The kernel as printed: its text is the idealization's, whose run is over any values. -/
theorem frame_kernel : Cert.quiescent_Kernel := fun m ρ _ => by
  have h := Cert.Ssm.run_kept (F := Bits) m ρ
  rw [← same_defs (F := Bits), ← same_main (F := Bits)] at h
  exact h

theorem frame_kernelIdeal : Cert.quiescent_KernelIdeal := fun m ρ _ => Cert.Ssm.run_kept (F := Ideal) m ρ

theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Memories that agree on the arguments give the two layers one set of data. -/
theorem same_data (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (D : Cert.SsmSpec.Data) (hD : D = Cert.Ssm.data m c)
    (h0 : (Cert.SsmRef.refData m' c).u = D.u) (h1 : (Cert.SsmRef.refData m' c).sr = D.sr) (h2 : (Cert.SsmRef.refData m' c).si = D.si)
    (h3 : (Cert.SsmRef.refData m' c).ar = D.ar) (h4 : (Cert.SsmRef.refData m' c).ai = D.ai) (h5 : (Cert.SsmRef.refData m' c).br = D.br)
    (h6 : (Cert.SsmRef.refData m' c).bi = D.bi) (h7 : (Cert.SsmRef.refData m' c).cr = D.cr) (h8 : (Cert.SsmRef.refData m' c).ci = D.ci)
    (h9 : (Cert.SsmRef.refData m' c).d = D.d) (h10 : (Cert.SsmRef.refData m' c).wg = D.wg) (h11 : (Cert.SsmRef.refData m' c).bg = D.bg) :
    Cert.SsmRef.refData m' c = Cert.Ssm.data m c := by
  rw [← hD]
  cases D
  simp only at h0 h1 h2 h3 h4 h5 h6 h7 h8 h9 h10 h11
  subst h0 h1 h2 h3 h4 h5 h6 h7 h8 h9 h10 h11
  rfl

/-- From memories that agree on the arguments both runs end with the layer's output and its last state. -/
theorem algebraic : Cert.algebraic_KernelIdeal_ReferenceIdeal := by
  intro m g m' g' _ agree
  have e : ∀ c, Cert.SsmRef.refData m' c = Cert.Ssm.data m c := fun c => by
    obtain ⟨h0, h1, h2, h3, h4, h5, h6, h7, h8, h9, h10, h11⟩ := agree c
    exact same_data m m' c _ rfl h0 h1 h2 h3 h4 h5 h6 h7 h8 h9 h10 h11
  refine ⟨fun c => Cert.SsmSpec.outOfData (Cert.Ssm.data m c), fun c => Cert.SsmSpec.lastRe (Cert.Ssm.data m c),
    fun c => Cert.SsmSpec.lastIm (Cert.Ssm.data m c), Cert.Ssm.run_values m g, ?_⟩
  refine (θ_run Cert.ReferenceIdeal.defs _ _).mono (fun r h c => ?_) (Cert.ReferenceIdeal.Value.run (F := Ideal) m' g')
  obtain ⟨a0, a1, a2, a3⟩ := h c
  exact ⟨a0.trans ((Cert.SsmRef.out_array m' c).trans (congrArg Cert.SsmSpec.outOfData (e c))),
    a1.trans ((Cert.SsmRef.re_array m' c).trans (congrArg Cert.SsmSpec.lastRe (e c))),
    a2.trans ((Cert.SsmRef.im_array m' c).trans (congrArg Cert.SsmSpec.lastIm (e c))), a3⟩

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono
    (fun r h => ⟨fun c => (h c).2.2.2.2.2.2.2.2.2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  frame_kernel, frame_kernelIdeal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  trivial, algebraic, trivial, Cert.Ffn.algebraic, trivial, Cert.Merge.algebraic, trivial, Cert.MemKv.algebraic,
  trivial, Cert.Queries.algebraic, trivial, Cert.MemAttend.algebraic⟩

end Cert.Proof

end
